-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Experts [hPre_tiles_name_two_experts : Cert.Pre_tiles_name_two_experts.Facts] (m : (ℓ : Loc Cert.Experts.nD Cert.Experts.τ Cert.Experts.sig) → Buf (Elt Bits) ℓ) : Prop :=
  ∀ c : Dev Cert.Experts.nD,
    (Cert.Pre_tiles_name_two_experts.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))) = (fun _ => 1#1)

def Pre_ExpertsIdeal [hPre_tiles_name_two_experts : Cert.Pre_tiles_name_two_experts.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tiles_name_two_experts.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_tiles_name_two_experts [hPre_tiles_name_two_experts : Cert.Pre_tiles_name_two_experts.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tiles_name_two_experts.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6)) (m ((c.tc : Thread Cert.ExpertsReferenceIdeal.nD Cert.ExpertsReferenceIdeal.τ).loc Cert.ExpertsReferenceIdeal.main_arg7))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_ProjectQkv (m : (ℓ : Loc Cert.ProjectQkv.nD Cert.ProjectQkv.τ Cert.ProjectQkv.sig) → Buf (Elt Bits) ℓ) : Prop :=
  True

def Pre_ProjectQkvIdeal (m : (ℓ : Loc Cert.ProjectQkvIdeal.nD Cert.ProjectQkvIdeal.τ Cert.ProjectQkvIdeal.sig) → Buf (Elt Ideal) ℓ) : Prop :=
  True

def Pre_ProjectQkvReferenceIdeal (m : (ℓ : Loc Cert.ProjectQkvReferenceIdeal.nD Cert.ProjectQkvReferenceIdeal.τ Cert.ProjectQkvReferenceIdeal.sig) → Buf (Elt Ideal) ℓ) : Prop :=
  True

def Pre_MixerOut (m : (ℓ : Loc Cert.MixerOut.nD Cert.MixerOut.τ Cert.MixerOut.sig) → Buf (Elt Bits) ℓ) : Prop :=
  True

def Pre_MixerOutIdeal (m : (ℓ : Loc Cert.MixerOutIdeal.nD Cert.MixerOutIdeal.τ Cert.MixerOutIdeal.sig) → Buf (Elt Ideal) ℓ) : Prop :=
  True

def Pre_MixerOutReferenceIdeal (m : (ℓ : Loc Cert.MixerOutReferenceIdeal.nD Cert.MixerOutReferenceIdeal.τ Cert.MixerOutReferenceIdeal.sig) → Buf (Elt Ideal) ℓ) : Prop :=
  True

def Pre_LayerOut (m : (ℓ : Loc Cert.LayerOut.nD Cert.LayerOut.τ Cert.LayerOut.sig) → Buf (Elt Bits) ℓ) : Prop :=
  True

def Pre_LayerOutIdeal (m : (ℓ : Loc Cert.LayerOutIdeal.nD Cert.LayerOutIdeal.τ Cert.LayerOutIdeal.sig) → Buf (Elt Ideal) ℓ) : Prop :=
  True

def Pre_LayerOutReferenceIdeal (m : (ℓ : Loc Cert.LayerOutReferenceIdeal.nD Cert.LayerOutReferenceIdeal.τ Cert.LayerOutReferenceIdeal.sig) → Buf (Elt Ideal) ℓ) : Prop :=
  True

def Pre_AttnRows (m : (ℓ : Loc Cert.AttnRows.nD Cert.AttnRows.τ Cert.AttnRows.sig) → Buf (Elt Bits) ℓ) : Prop :=
  True

def Pre_AttnRowsIdeal (m : (ℓ : Loc Cert.AttnRowsIdeal.nD Cert.AttnRowsIdeal.τ Cert.AttnRowsIdeal.sig) → Buf (Elt Ideal) ℓ) : Prop :=
  True

def Pre_AttnRowsReferenceIdeal (m : (ℓ : Loc Cert.AttnRowsReferenceIdeal.nD Cert.AttnRowsReferenceIdeal.τ Cert.AttnRowsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Experts [hExperts : Cert.Experts.Facts] [hPre_tiles_name_two_experts : Cert.Pre_tiles_name_two_experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7))
      ∧ r.2.sem = fun _ => 0)

def quiescent_ExpertsIdeal [hExpertsIdeal : Cert.ExpertsIdeal.Facts] [hPre_tiles_name_two_experts : Cert.Pre_tiles_name_two_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7))
      ∧ r.2.sem = fun _ => 0)

def quiescent_ExpertsReferenceIdeal_pre_tiles_name_two_experts [hExpertsReferenceIdeal : Cert.ExpertsReferenceIdeal.Facts] [hPre_tiles_name_two_experts : Cert.Pre_tiles_name_two_experts.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_tiles_name_two_experts m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6)
      ∧ r.2.mem ((c.tc : Thread Cert.ExpertsReferenceIdeal.nD Cert.ExpertsReferenceIdeal.τ).loc Cert.ExpertsReferenceIdeal.main_arg7) = m ((c.tc : Thread Cert.ExpertsReferenceIdeal.nD Cert.ExpertsReferenceIdeal.τ).loc Cert.ExpertsReferenceIdeal.main_arg7))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1))
      ∧ r.2.sem = fun _ => 0)

def quiescent_ProjectQkv [hProjectQkv : Cert.ProjectQkv.Facts] : Prop :=
  ∀ (m : (ℓ : Loc Cert.ProjectQkv.nD Cert.ProjectQkv.τ Cert.ProjectQkv.sig) → Buf (Elt Bits) ℓ) (g : Dev Cert.ProjectQkv.nD → PrngReg), Pre_ProjectQkv m →
    θ_run (Cert.ProjectQkv.defs (F := Bits)) (onTc (τ := Cert.ProjectQkv.τ) (Cert.ProjectQkv.main (F := Bits))) ⟨m, fun _ => 0, g⟩ (fun r => (∀ c : Dev Cert.ProjectQkv.nD,
      r.2.mem ((c.tc : Thread Cert.ProjectQkv.nD Cert.ProjectQkv.τ).loc Cert.ProjectQkv.main_arg0) = m ((c.tc : Thread Cert.ProjectQkv.nD Cert.ProjectQkv.τ).loc Cert.ProjectQkv.main_arg0)
      ∧ r.2.mem ((c.tc : Thread Cert.ProjectQkv.nD Cert.ProjectQkv.τ).loc Cert.ProjectQkv.main_arg1) = m ((c.tc : Thread Cert.ProjectQkv.nD Cert.ProjectQkv.τ).loc Cert.ProjectQkv.main_arg1))
      ∧ r.2.sem = fun _ => 0)

def quiescent_ProjectQkvIdeal [hProjectQkvIdeal : Cert.ProjectQkvIdeal.Facts] : Prop :=
  ∀ (m : (ℓ : Loc Cert.ProjectQkvIdeal.nD Cert.ProjectQkvIdeal.τ Cert.ProjectQkvIdeal.sig) → Buf (Elt Ideal) ℓ) (g : Dev Cert.ProjectQkvIdeal.nD → PrngReg), Pre_ProjectQkvIdeal m →
    θ_run (Cert.ProjectQkvIdeal.defs (F := Ideal)) (onTc (τ := Cert.ProjectQkvIdeal.τ) (Cert.ProjectQkvIdeal.main (F := Ideal))) ⟨m, fun _ => 0, g⟩ (fun r => (∀ c : Dev Cert.ProjectQkvIdeal.nD,
      r.2.mem ((c.tc : Thread Cert.ProjectQkvIdeal.nD Cert.ProjectQkvIdeal.τ).loc Cert.ProjectQkvIdeal.main_arg0) = m ((c.tc : Thread Cert.ProjectQkvIdeal.nD Cert.ProjectQkvIdeal.τ).loc Cert.ProjectQkvIdeal.main_arg0)
      ∧ r.2.mem ((c.tc : Thread Cert.ProjectQkvIdeal.nD Cert.ProjectQkvIdeal.τ).loc Cert.ProjectQkvIdeal.main_arg1) = m ((c.tc : Thread Cert.ProjectQkvIdeal.nD Cert.ProjectQkvIdeal.τ).loc Cert.ProjectQkvIdeal.main_arg1))
      ∧ r.2.sem = fun _ => 0)

def quiescent_ProjectQkvReferenceIdeal [hProjectQkvReferenceIdeal : Cert.ProjectQkvReferenceIdeal.Facts] : Prop :=
  ∀ (m : (ℓ : Loc Cert.ProjectQkvReferenceIdeal.nD Cert.ProjectQkvReferenceIdeal.τ Cert.ProjectQkvReferenceIdeal.sig) → Buf (Elt Ideal) ℓ) (g : Dev Cert.ProjectQkvReferenceIdeal.nD → PrngReg), Pre_ProjectQkvReferenceIdeal m →
    θ_run (Cert.ProjectQkvReferenceIdeal.defs (F := Ideal)) (onTc (τ := Cert.ProjectQkvReferenceIdeal.τ) (Cert.ProjectQkvReferenceIdeal.main (F := Ideal))) ⟨m, fun _ => 0, g⟩ (fun r => (∀ c : Dev Cert.ProjectQkvReferenceIdeal.nD,
      r.2.mem ((c.tc : Thread Cert.ProjectQkvReferenceIdeal.nD Cert.ProjectQkvReferenceIdeal.τ).loc Cert.ProjectQkvReferenceIdeal.main_arg0) = m ((c.tc : Thread Cert.ProjectQkvReferenceIdeal.nD Cert.ProjectQkvReferenceIdeal.τ).loc Cert.ProjectQkvReferenceIdeal.main_arg0)
      ∧ r.2.mem ((c.tc : Thread Cert.ProjectQkvReferenceIdeal.nD Cert.ProjectQkvReferenceIdeal.τ).loc Cert.ProjectQkvReferenceIdeal.main_arg1) = m ((c.tc : Thread Cert.ProjectQkvReferenceIdeal.nD Cert.ProjectQkvReferenceIdeal.τ).loc Cert.ProjectQkvReferenceIdeal.main_arg1))
      ∧ r.2.sem = fun _ => 0)

def quiescent_MixerOut [hMixerOut : Cert.MixerOut.Facts] : Prop :=
  ∀ (m : (ℓ : Loc Cert.MixerOut.nD Cert.MixerOut.τ Cert.MixerOut.sig) → Buf (Elt Bits) ℓ) (g : Dev Cert.MixerOut.nD → PrngReg), Pre_MixerOut m →
    θ_run (Cert.MixerOut.defs (F := Bits)) (onTc (τ := Cert.MixerOut.τ) (Cert.MixerOut.main (F := Bits))) ⟨m, fun _ => 0, g⟩ (fun r => (∀ c : Dev Cert.MixerOut.nD,
      r.2.mem ((c.tc : Thread Cert.MixerOut.nD Cert.MixerOut.τ).loc Cert.MixerOut.main_arg0) = m ((c.tc : Thread Cert.MixerOut.nD Cert.MixerOut.τ).loc Cert.MixerOut.main_arg0)
      ∧ r.2.mem ((c.tc : Thread Cert.MixerOut.nD Cert.MixerOut.τ).loc Cert.MixerOut.main_arg1) = m ((c.tc : Thread Cert.MixerOut.nD Cert.MixerOut.τ).loc Cert.MixerOut.main_arg1)
      ∧ r.2.mem ((c.tc : Thread Cert.MixerOut.nD Cert.MixerOut.τ).loc Cert.MixerOut.main_arg2) = m ((c.tc : Thread Cert.MixerOut.nD Cert.MixerOut.τ).loc Cert.MixerOut.main_arg2)
      ∧ r.2.mem ((c.tc : Thread Cert.MixerOut.nD Cert.MixerOut.τ).loc Cert.MixerOut.main_arg3) = m ((c.tc : Thread Cert.MixerOut.nD Cert.MixerOut.τ).loc Cert.MixerOut.main_arg3)
      ∧ r.2.mem ((c.tc : Thread Cert.MixerOut.nD Cert.MixerOut.τ).loc Cert.MixerOut.main_arg4) = m ((c.tc : Thread Cert.MixerOut.nD Cert.MixerOut.τ).loc Cert.MixerOut.main_arg4))
      ∧ r.2.sem = fun _ => 0)

def quiescent_MixerOutIdeal [hMixerOutIdeal : Cert.MixerOutIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg), Pre_MixerOutIdeal m →
    θ_run (Cert.MixerOutIdeal.defs (F := Ideal)) (onTc (τ := Cert.MixerOutIdeal.τ) (Cert.MixerOutIdeal.main (F := Ideal))) ⟨m, fun _ => 0, g⟩ (fun r => (∀ c : Dev Cert.MixerOutIdeal.nD,
      r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
      ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
      ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
      ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3)
      ∧ r.2.mem ((c.tc : Thread Cert.MixerOutIdeal.nD Cert.MixerOutIdeal.τ).loc Cert.MixerOutIdeal.main_arg4) = m ((c.tc : Thread Cert.MixerOutIdeal.nD Cert.MixerOutIdeal.τ).loc Cert.MixerOutIdeal.main_arg4))
      ∧ r.2.sem = fun _ => 0)

def quiescent_MixerOutReferenceIdeal [hMixerOutReferenceIdeal : Cert.MixerOutReferenceIdeal.Facts] : Prop :=
  ∀ (m : (ℓ : Loc Cert.MixerOutReferenceIdeal.nD Cert.MixerOutReferenceIdeal.τ Cert.MixerOutReferenceIdeal.sig) → Buf (Elt Ideal) ℓ) (g : Dev Cert.MixerOutReferenceIdeal.nD → PrngReg), Pre_MixerOutReferenceIdeal m →
    θ_run (Cert.MixerOutReferenceIdeal.defs (F := Ideal)) (onTc (τ := Cert.MixerOutReferenceIdeal.τ) (Cert.MixerOutReferenceIdeal.main (F := Ideal))) ⟨m, fun _ => 0, g⟩ (fun r => (∀ c : Dev Cert.MixerOutReferenceIdeal.nD,
      r.2.mem ((c.tc : Thread Cert.MixerOutReferenceIdeal.nD Cert.MixerOutReferenceIdeal.τ).loc Cert.MixerOutReferenceIdeal.main_arg0) = m ((c.tc : Thread Cert.MixerOutReferenceIdeal.nD Cert.MixerOutReferenceIdeal.τ).loc Cert.MixerOutReferenceIdeal.main_arg0)
      ∧ r.2.mem ((c.tc : Thread Cert.MixerOutReferenceIdeal.nD Cert.MixerOutReferenceIdeal.τ).loc Cert.MixerOutReferenceIdeal.main_arg1) = m ((c.tc : Thread Cert.MixerOutReferenceIdeal.nD Cert.MixerOutReferenceIdeal.τ).loc Cert.MixerOutReferenceIdeal.main_arg1)
      ∧ r.2.mem ((c.tc : Thread Cert.MixerOutReferenceIdeal.nD Cert.MixerOutReferenceIdeal.τ).loc Cert.MixerOutReferenceIdeal.main_arg2) = m ((c.tc : Thread Cert.MixerOutReferenceIdeal.nD Cert.MixerOutReferenceIdeal.τ).loc Cert.MixerOutReferenceIdeal.main_arg2)
      ∧ r.2.mem ((c.tc : Thread Cert.MixerOutReferenceIdeal.nD Cert.MixerOutReferenceIdeal.τ).loc Cert.MixerOutReferenceIdeal.main_arg3) = m ((c.tc : Thread Cert.MixerOutReferenceIdeal.nD Cert.MixerOutReferenceIdeal.τ).loc Cert.MixerOutReferenceIdeal.main_arg3)
      ∧ r.2.mem ((c.tc : Thread Cert.MixerOutReferenceIdeal.nD Cert.MixerOutReferenceIdeal.τ).loc Cert.MixerOutReferenceIdeal.main_arg4) = m ((c.tc : Thread Cert.MixerOutReferenceIdeal.nD Cert.MixerOutReferenceIdeal.τ).loc Cert.MixerOutReferenceIdeal.main_arg4))
      ∧ r.2.sem = fun _ => 0)

def quiescent_LayerOut [hLayerOut : Cert.LayerOut.Facts] : Prop :=
  ∀ (m : (ℓ : Loc Cert.LayerOut.nD Cert.LayerOut.τ Cert.LayerOut.sig) → Buf (Elt Bits) ℓ) (g : Dev Cert.LayerOut.nD → PrngReg), Pre_LayerOut m →
    θ_run (Cert.LayerOut.defs (F := Bits)) (onTc (τ := Cert.LayerOut.τ) (Cert.LayerOut.main (F := Bits))) ⟨m, fun _ => 0, g⟩ (fun r => (∀ c : Dev Cert.LayerOut.nD,
      r.2.mem ((c.tc : Thread Cert.LayerOut.nD Cert.LayerOut.τ).loc Cert.LayerOut.main_arg0) = m ((c.tc : Thread Cert.LayerOut.nD Cert.LayerOut.τ).loc Cert.LayerOut.main_arg0)
      ∧ r.2.mem ((c.tc : Thread Cert.LayerOut.nD Cert.LayerOut.τ).loc Cert.LayerOut.main_arg1) = m ((c.tc : Thread Cert.LayerOut.nD Cert.LayerOut.τ).loc Cert.LayerOut.main_arg1)
      ∧ r.2.mem ((c.tc : Thread Cert.LayerOut.nD Cert.LayerOut.τ).loc Cert.LayerOut.main_arg2) = m ((c.tc : Thread Cert.LayerOut.nD Cert.LayerOut.τ).loc Cert.LayerOut.main_arg2)
      ∧ r.2.mem ((c.tc : Thread Cert.LayerOut.nD Cert.LayerOut.τ).loc Cert.LayerOut.main_arg3) = m ((c.tc : Thread Cert.LayerOut.nD Cert.LayerOut.τ).loc Cert.LayerOut.main_arg3))
      ∧ r.2.sem = fun _ => 0)

def quiescent_LayerOutIdeal [hLayerOutIdeal : Cert.LayerOutIdeal.Facts] : Prop :=
  ∀ (m : (ℓ : Loc Cert.LayerOutIdeal.nD Cert.LayerOutIdeal.τ Cert.LayerOutIdeal.sig) → Buf (Elt Ideal) ℓ) (g : Dev Cert.LayerOutIdeal.nD → PrngReg), Pre_LayerOutIdeal m →
    θ_run (Cert.LayerOutIdeal.defs (F := Ideal)) (onTc (τ := Cert.LayerOutIdeal.τ) (Cert.LayerOutIdeal.main (F := Ideal))) ⟨m, fun _ => 0, g⟩ (fun r => (∀ c : Dev Cert.LayerOutIdeal.nD,
      r.2.mem ((c.tc : Thread Cert.LayerOutIdeal.nD Cert.LayerOutIdeal.τ).loc Cert.LayerOutIdeal.main_arg0) = m ((c.tc : Thread Cert.LayerOutIdeal.nD Cert.LayerOutIdeal.τ).loc Cert.LayerOutIdeal.main_arg0)
      ∧ r.2.mem ((c.tc : Thread Cert.LayerOutIdeal.nD Cert.LayerOutIdeal.τ).loc Cert.LayerOutIdeal.main_arg1) = m ((c.tc : Thread Cert.LayerOutIdeal.nD Cert.LayerOutIdeal.τ).loc Cert.LayerOutIdeal.main_arg1)
      ∧ r.2.mem ((c.tc : Thread Cert.LayerOutIdeal.nD Cert.LayerOutIdeal.τ).loc Cert.LayerOutIdeal.main_arg2) = m ((c.tc : Thread Cert.LayerOutIdeal.nD Cert.LayerOutIdeal.τ).loc Cert.LayerOutIdeal.main_arg2)
      ∧ r.2.mem ((c.tc : Thread Cert.LayerOutIdeal.nD Cert.LayerOutIdeal.τ).loc Cert.LayerOutIdeal.main_arg3) = m ((c.tc : Thread Cert.LayerOutIdeal.nD Cert.LayerOutIdeal.τ).loc Cert.LayerOutIdeal.main_arg3))
      ∧ r.2.sem = fun _ => 0)

def quiescent_LayerOutReferenceIdeal [hLayerOutReferenceIdeal : Cert.LayerOutReferenceIdeal.Facts] : Prop :=
  ∀ (m : (ℓ : Loc Cert.LayerOutReferenceIdeal.nD Cert.LayerOutReferenceIdeal.τ Cert.LayerOutReferenceIdeal.sig) → Buf (Elt Ideal) ℓ) (g : Dev Cert.LayerOutReferenceIdeal.nD → PrngReg), Pre_LayerOutReferenceIdeal m →
    θ_run (Cert.LayerOutReferenceIdeal.defs (F := Ideal)) (onTc (τ := Cert.LayerOutReferenceIdeal.τ) (Cert.LayerOutReferenceIdeal.main (F := Ideal))) ⟨m, fun _ => 0, g⟩ (fun r => (∀ c : Dev Cert.LayerOutReferenceIdeal.nD,
      r.2.mem ((c.tc : Thread Cert.LayerOutReferenceIdeal.nD Cert.LayerOutReferenceIdeal.τ).loc Cert.LayerOutReferenceIdeal.main_arg0) = m ((c.tc : Thread Cert.LayerOutReferenceIdeal.nD Cert.LayerOutReferenceIdeal.τ).loc Cert.LayerOutReferenceIdeal.main_arg0)
      ∧ r.2.mem ((c.tc : Thread Cert.LayerOutReferenceIdeal.nD Cert.LayerOutReferenceIdeal.τ).loc Cert.LayerOutReferenceIdeal.main_arg1) = m ((c.tc : Thread Cert.LayerOutReferenceIdeal.nD Cert.LayerOutReferenceIdeal.τ).loc Cert.LayerOutReferenceIdeal.main_arg1)
      ∧ r.2.mem ((c.tc : Thread Cert.LayerOutReferenceIdeal.nD Cert.LayerOutReferenceIdeal.τ).loc Cert.LayerOutReferenceIdeal.main_arg2) = m ((c.tc : Thread Cert.LayerOutReferenceIdeal.nD Cert.LayerOutReferenceIdeal.τ).loc Cert.LayerOutReferenceIdeal.main_arg2)
      ∧ r.2.mem ((c.tc : Thread Cert.LayerOutReferenceIdeal.nD Cert.LayerOutReferenceIdeal.τ).loc Cert.LayerOutReferenceIdeal.main_arg3) = m ((c.tc : Thread Cert.LayerOutReferenceIdeal.nD Cert.LayerOutReferenceIdeal.τ).loc Cert.LayerOutReferenceIdeal.main_arg3))
      ∧ r.2.sem = fun _ => 0)

def quiescent_AttnRows [hAttnRows : Cert.AttnRows.Facts] : Prop :=
  ∀ (m : (ℓ : Loc Cert.AttnRows.nD Cert.AttnRows.τ Cert.AttnRows.sig) → Buf (Elt Bits) ℓ) (g : Dev Cert.AttnRows.nD → PrngReg), Pre_AttnRows m →
    θ_run (Cert.AttnRows.defs (F := Bits)) (onTc (τ := Cert.AttnRows.τ) (Cert.AttnRows.main (F := Bits))) ⟨m, fun _ => 0, g⟩ (fun r => (∀ c : Dev Cert.AttnRows.nD,
      r.2.mem ((c.tc : Thread Cert.AttnRows.nD Cert.AttnRows.τ).loc Cert.AttnRows.main_arg0) = m ((c.tc : Thread Cert.AttnRows.nD Cert.AttnRows.τ).loc Cert.AttnRows.main_arg0)
      ∧ r.2.mem ((c.tc : Thread Cert.AttnRows.nD Cert.AttnRows.τ).loc Cert.AttnRows.main_arg1) = m ((c.tc : Thread Cert.AttnRows.nD Cert.AttnRows.τ).loc Cert.AttnRows.main_arg1))
      ∧ r.2.sem = fun _ => 0)

def quiescent_AttnRowsIdeal [hAttnRowsIdeal : Cert.AttnRowsIdeal.Facts] : Prop :=
  ∀ (m : (ℓ : Loc Cert.AttnRowsIdeal.nD Cert.AttnRowsIdeal.τ Cert.AttnRowsIdeal.sig) → Buf (Elt Ideal) ℓ) (g : Dev Cert.AttnRowsIdeal.nD → PrngReg), Pre_AttnRowsIdeal m →
    θ_run (Cert.AttnRowsIdeal.defs (F := Ideal)) (onTc (τ := Cert.AttnRowsIdeal.τ) (Cert.AttnRowsIdeal.main (F := Ideal))) ⟨m, fun _ => 0, g⟩ (fun r => (∀ c : Dev Cert.AttnRowsIdeal.nD,
      r.2.mem ((c.tc : Thread Cert.AttnRowsIdeal.nD Cert.AttnRowsIdeal.τ).loc Cert.AttnRowsIdeal.main_arg0) = m ((c.tc : Thread Cert.AttnRowsIdeal.nD Cert.AttnRowsIdeal.τ).loc Cert.AttnRowsIdeal.main_arg0)
      ∧ r.2.mem ((c.tc : Thread Cert.AttnRowsIdeal.nD Cert.AttnRowsIdeal.τ).loc Cert.AttnRowsIdeal.main_arg1) = m ((c.tc : Thread Cert.AttnRowsIdeal.nD Cert.AttnRowsIdeal.τ).loc Cert.AttnRowsIdeal.main_arg1))
      ∧ r.2.sem = fun _ => 0)

def quiescent_AttnRowsReferenceIdeal [hAttnRowsReferenceIdeal : Cert.AttnRowsReferenceIdeal.Facts] : Prop :=
  ∀ (m : (ℓ : Loc Cert.AttnRowsReferenceIdeal.nD Cert.AttnRowsReferenceIdeal.τ Cert.AttnRowsReferenceIdeal.sig) → Buf (Elt Ideal) ℓ) (g : Dev Cert.AttnRowsReferenceIdeal.nD → PrngReg), Pre_AttnRowsReferenceIdeal m →
    θ_run (Cert.AttnRowsReferenceIdeal.defs (F := Ideal)) (onTc (τ := Cert.AttnRowsReferenceIdeal.τ) (Cert.AttnRowsReferenceIdeal.main (F := Ideal))) ⟨m, fun _ => 0, g⟩ (fun r => (∀ c : Dev Cert.AttnRowsReferenceIdeal.nD,
      r.2.mem ((c.tc : Thread Cert.AttnRowsReferenceIdeal.nD Cert.AttnRowsReferenceIdeal.τ).loc Cert.AttnRowsReferenceIdeal.main_arg0) = m ((c.tc : Thread Cert.AttnRowsReferenceIdeal.nD Cert.AttnRowsReferenceIdeal.τ).loc Cert.AttnRowsReferenceIdeal.main_arg0)
      ∧ r.2.mem ((c.tc : Thread Cert.AttnRowsReferenceIdeal.nD Cert.AttnRowsReferenceIdeal.τ).loc Cert.AttnRowsReferenceIdeal.main_arg1) = m ((c.tc : Thread Cert.AttnRowsReferenceIdeal.nD Cert.AttnRowsReferenceIdeal.τ).loc Cert.AttnRowsReferenceIdeal.main_arg1))
      ∧ r.2.sem = fun _ => 0)

def preserves_Kernel_KernelIdeal : Prop :=
  IdealRules.named_const.Statement Cert.KernelIdeal.κ "inv_cap" .f32 0x3D888889#32 ((1 / 15 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_v76) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_tiles_name_two_experts : Cert.Pre_tiles_name_two_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)
      ∧ m' ((c.tc : Thread Cert.ExpertsReferenceIdeal.nD Cert.ExpertsReferenceIdeal.τ).loc Cert.ExpertsReferenceIdeal.main_arg7) = m ((c.tc : Thread Cert.ExpertsIdeal.nD Cert.ExpertsIdeal.τ).loc Cert.ExpertsIdeal.main_arg7)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v36) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6)
          ∧ r.2.mem ((c.tc : Thread Cert.ExpertsReferenceIdeal.nD Cert.ExpertsReferenceIdeal.τ).loc Cert.ExpertsReferenceIdeal.main_arg7) = m' ((c.tc : Thread Cert.ExpertsReferenceIdeal.nD Cert.ExpertsReferenceIdeal.τ).loc Cert.ExpertsReferenceIdeal.main_arg7))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v0)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v5) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1))

def preserves_ProjectQkv_ProjectQkvIdeal : Prop :=
  True

def algebraic_ProjectQkvIdeal_ProjectQkvReferenceIdeal [hProjectQkvIdeal : Cert.ProjectQkvIdeal.Facts] [hProjectQkvReferenceIdeal : Cert.ProjectQkvReferenceIdeal.Facts] : Prop :=
  ∀ (m : (ℓ : Loc Cert.ProjectQkvIdeal.nD Cert.ProjectQkvIdeal.τ Cert.ProjectQkvIdeal.sig) → Buf (Elt Ideal) ℓ) (g : Dev Cert.ProjectQkvIdeal.nD → PrngReg)
    (m' : (ℓ : Loc Cert.ProjectQkvReferenceIdeal.nD Cert.ProjectQkvReferenceIdeal.τ Cert.ProjectQkvReferenceIdeal.sig) → Buf (Elt Ideal) ℓ) (g' : Dev Cert.ProjectQkvReferenceIdeal.nD → PrngReg), Pre_ProjectQkvIdeal m →
    (∀ c : Dev Cert.ProjectQkvIdeal.nD,
      m' ((c.tc : Thread Cert.ProjectQkvReferenceIdeal.nD Cert.ProjectQkvReferenceIdeal.τ).loc Cert.ProjectQkvReferenceIdeal.main_arg0) = m ((c.tc : Thread Cert.ProjectQkvIdeal.nD Cert.ProjectQkvIdeal.τ).loc Cert.ProjectQkvIdeal.main_arg0)
      ∧ m' ((c.tc : Thread Cert.ProjectQkvReferenceIdeal.nD Cert.ProjectQkvReferenceIdeal.τ).loc Cert.ProjectQkvReferenceIdeal.main_arg1) = m ((c.tc : Thread Cert.ProjectQkvIdeal.nD Cert.ProjectQkvIdeal.τ).loc Cert.ProjectQkvIdeal.main_arg1)) →
    ∃ (v0 : (c : Dev Cert.ProjectQkvIdeal.nD) → Buf (Elt Ideal) ((c.tc : Thread Cert.ProjectQkvIdeal.nD Cert.ProjectQkvIdeal.τ).loc Cert.ProjectQkvIdeal.main_v0)),
      θ_run (Cert.ProjectQkvIdeal.defs (F := Ideal)) (onTc (τ := Cert.ProjectQkvIdeal.τ) (Cert.ProjectQkvIdeal.main (F := Ideal))) ⟨m, fun _ => 0, g⟩ (fun r => ∀ c : Dev Cert.ProjectQkvIdeal.nD,
          r.2.mem ((c.tc : Thread Cert.ProjectQkvIdeal.nD Cert.ProjectQkvIdeal.τ).loc Cert.ProjectQkvIdeal.main_v0) = v0 c
          ∧ r.2.mem ((c.tc : Thread Cert.ProjectQkvIdeal.nD Cert.ProjectQkvIdeal.τ).loc Cert.ProjectQkvIdeal.main_arg0) = m ((c.tc : Thread Cert.ProjectQkvIdeal.nD Cert.ProjectQkvIdeal.τ).loc Cert.ProjectQkvIdeal.main_arg0)
          ∧ r.2.mem ((c.tc : Thread Cert.ProjectQkvIdeal.nD Cert.ProjectQkvIdeal.τ).loc Cert.ProjectQkvIdeal.main_arg1) = m ((c.tc : Thread Cert.ProjectQkvIdeal.nD Cert.ProjectQkvIdeal.τ).loc Cert.ProjectQkvIdeal.main_arg1))
      ∧ θ_run (Cert.ProjectQkvReferenceIdeal.defs (F := Ideal)) (onTc (τ := Cert.ProjectQkvReferenceIdeal.τ) (Cert.ProjectQkvReferenceIdeal.main (F := Ideal))) ⟨m', fun _ => 0, g'⟩ (fun r => ∀ c : Dev Cert.ProjectQkvReferenceIdeal.nD,
          r.2.mem ((c.tc : Thread Cert.ProjectQkvReferenceIdeal.nD Cert.ProjectQkvReferenceIdeal.τ).loc Cert.ProjectQkvReferenceIdeal.main_v4) = v0 c
          ∧ r.2.mem ((c.tc : Thread Cert.ProjectQkvReferenceIdeal.nD Cert.ProjectQkvReferenceIdeal.τ).loc Cert.ProjectQkvReferenceIdeal.main_arg0) = m' ((c.tc : Thread Cert.ProjectQkvReferenceIdeal.nD Cert.ProjectQkvReferenceIdeal.τ).loc Cert.ProjectQkvReferenceIdeal.main_arg0)
          ∧ r.2.mem ((c.tc : Thread Cert.ProjectQkvReferenceIdeal.nD Cert.ProjectQkvReferenceIdeal.τ).loc Cert.ProjectQkvReferenceIdeal.main_arg1) = m' ((c.tc : Thread Cert.ProjectQkvReferenceIdeal.nD Cert.ProjectQkvReferenceIdeal.τ).loc Cert.ProjectQkvReferenceIdeal.main_arg1))

def preserves_MixerOut_MixerOutIdeal : Prop :=
  True

def algebraic_MixerOutIdeal_MixerOutReferenceIdeal [hMixerOutIdeal : Cert.MixerOutIdeal.Facts] [hMixerOutReferenceIdeal : Cert.MixerOutReferenceIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg)
    (m' : (ℓ : Loc Cert.MixerOutReferenceIdeal.nD Cert.MixerOutReferenceIdeal.τ Cert.MixerOutReferenceIdeal.sig) → Buf (Elt Ideal) ℓ) (g' : Dev Cert.MixerOutReferenceIdeal.nD → PrngReg), Pre_MixerOutIdeal m →
    (∀ c : Dev Cert.MixerOutIdeal.nD,
      m' ((c.tc : Thread Cert.MixerOutReferenceIdeal.nD Cert.MixerOutReferenceIdeal.τ).loc Cert.MixerOutReferenceIdeal.main_arg0) = m ((c.tc : Thread Cert.MixerOutIdeal.nD Cert.MixerOutIdeal.τ).loc Cert.MixerOutIdeal.main_arg0)
      ∧ m' ((c.tc : Thread Cert.MixerOutReferenceIdeal.nD Cert.MixerOutReferenceIdeal.τ).loc Cert.MixerOutReferenceIdeal.main_arg1) = m ((c.tc : Thread Cert.MixerOutIdeal.nD Cert.MixerOutIdeal.τ).loc Cert.MixerOutIdeal.main_arg1)
      ∧ m' ((c.tc : Thread Cert.MixerOutReferenceIdeal.nD Cert.MixerOutReferenceIdeal.τ).loc Cert.MixerOutReferenceIdeal.main_arg2) = m ((c.tc : Thread Cert.MixerOutIdeal.nD Cert.MixerOutIdeal.τ).loc Cert.MixerOutIdeal.main_arg2)
      ∧ m' ((c.tc : Thread Cert.MixerOutReferenceIdeal.nD Cert.MixerOutReferenceIdeal.τ).loc Cert.MixerOutReferenceIdeal.main_arg3) = m ((c.tc : Thread Cert.MixerOutIdeal.nD Cert.MixerOutIdeal.τ).loc Cert.MixerOutIdeal.main_arg3)
      ∧ m' ((c.tc : Thread Cert.MixerOutReferenceIdeal.nD Cert.MixerOutReferenceIdeal.τ).loc Cert.MixerOutReferenceIdeal.main_arg4) = m ((c.tc : Thread Cert.MixerOutIdeal.nD Cert.MixerOutIdeal.τ).loc Cert.MixerOutIdeal.main_arg4)) →
    ∃ (v0 : (c : Dev Cert.MixerOutIdeal.nD) → Buf (Elt Ideal) ((c.tc : Thread Cert.MixerOutIdeal.nD Cert.MixerOutIdeal.τ).loc Cert.MixerOutIdeal.main_v3_0)) (v1 : (c : Dev Cert.MixerOutIdeal.nD) → Buf (Elt Ideal) ((c.tc : Thread Cert.MixerOutIdeal.nD Cert.MixerOutIdeal.τ).loc Cert.MixerOutIdeal.main_v3_1)),
      θ_run (Cert.MixerOutIdeal.defs (F := Ideal)) (onTc (τ := Cert.MixerOutIdeal.τ) (Cert.MixerOutIdeal.main (F := Ideal))) ⟨m, fun _ => 0, g⟩ (fun r => ∀ c : Dev Cert.MixerOutIdeal.nD,
          r.2.mem ((c.tc : Thread Cert.MixerOutIdeal.nD Cert.MixerOutIdeal.τ).loc Cert.MixerOutIdeal.main_v3_0) = v0 c
          ∧ r.2.mem ((c.tc : Thread Cert.MixerOutIdeal.nD Cert.MixerOutIdeal.τ).loc Cert.MixerOutIdeal.main_v3_1) = v1 c
          ∧ r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
          ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
          ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
          ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3)
          ∧ r.2.mem ((c.tc : Thread Cert.MixerOutIdeal.nD Cert.MixerOutIdeal.τ).loc Cert.MixerOutIdeal.main_arg4) = m ((c.tc : Thread Cert.MixerOutIdeal.nD Cert.MixerOutIdeal.τ).loc Cert.MixerOutIdeal.main_arg4))
      ∧ θ_run (Cert.MixerOutReferenceIdeal.defs (F := Ideal)) (onTc (τ := Cert.MixerOutReferenceIdeal.τ) (Cert.MixerOutReferenceIdeal.main (F := Ideal))) ⟨m', fun _ => 0, g'⟩ (fun r => ∀ c : Dev Cert.MixerOutReferenceIdeal.nD,
          r.2.mem ((c.tc : Thread Cert.MixerOutReferenceIdeal.nD Cert.MixerOutReferenceIdeal.τ).loc Cert.MixerOutReferenceIdeal.main_v28) = v0 c
          ∧ r.2.mem ((c.tc : Thread Cert.MixerOutReferenceIdeal.nD Cert.MixerOutReferenceIdeal.τ).loc Cert.MixerOutReferenceIdeal.main_v29) = v1 c
          ∧ r.2.mem ((c.tc : Thread Cert.MixerOutReferenceIdeal.nD Cert.MixerOutReferenceIdeal.τ).loc Cert.MixerOutReferenceIdeal.main_arg0) = m' ((c.tc : Thread Cert.MixerOutReferenceIdeal.nD Cert.MixerOutReferenceIdeal.τ).loc Cert.MixerOutReferenceIdeal.main_arg0)
          ∧ r.2.mem ((c.tc : Thread Cert.MixerOutReferenceIdeal.nD Cert.MixerOutReferenceIdeal.τ).loc Cert.MixerOutReferenceIdeal.main_arg1) = m' ((c.tc : Thread Cert.MixerOutReferenceIdeal.nD Cert.MixerOutReferenceIdeal.τ).loc Cert.MixerOutReferenceIdeal.main_arg1)
          ∧ r.2.mem ((c.tc : Thread Cert.MixerOutReferenceIdeal.nD Cert.MixerOutReferenceIdeal.τ).loc Cert.MixerOutReferenceIdeal.main_arg2) = m' ((c.tc : Thread Cert.MixerOutReferenceIdeal.nD Cert.MixerOutReferenceIdeal.τ).loc Cert.MixerOutReferenceIdeal.main_arg2)
          ∧ r.2.mem ((c.tc : Thread Cert.MixerOutReferenceIdeal.nD Cert.MixerOutReferenceIdeal.τ).loc Cert.MixerOutReferenceIdeal.main_arg3) = m' ((c.tc : Thread Cert.MixerOutReferenceIdeal.nD Cert.MixerOutReferenceIdeal.τ).loc Cert.MixerOutReferenceIdeal.main_arg3)
          ∧ r.2.mem ((c.tc : Thread Cert.MixerOutReferenceIdeal.nD Cert.MixerOutReferenceIdeal.τ).loc Cert.MixerOutReferenceIdeal.main_arg4) = m' ((c.tc : Thread Cert.MixerOutReferenceIdeal.nD Cert.MixerOutReferenceIdeal.τ).loc Cert.MixerOutReferenceIdeal.main_arg4))

def preserves_LayerOut_LayerOutIdeal : Prop :=
  True

def algebraic_LayerOutIdeal_LayerOutReferenceIdeal [hLayerOutIdeal : Cert.LayerOutIdeal.Facts] [hLayerOutReferenceIdeal : Cert.LayerOutReferenceIdeal.Facts] : Prop :=
  ∀ (m : (ℓ : Loc Cert.LayerOutIdeal.nD Cert.LayerOutIdeal.τ Cert.LayerOutIdeal.sig) → Buf (Elt Ideal) ℓ) (g : Dev Cert.LayerOutIdeal.nD → PrngReg)
    (m' : (ℓ : Loc Cert.LayerOutReferenceIdeal.nD Cert.LayerOutReferenceIdeal.τ Cert.LayerOutReferenceIdeal.sig) → Buf (Elt Ideal) ℓ) (g' : Dev Cert.LayerOutReferenceIdeal.nD → PrngReg), Pre_LayerOutIdeal m →
    (∀ c : Dev Cert.LayerOutIdeal.nD,
      m' ((c.tc : Thread Cert.LayerOutReferenceIdeal.nD Cert.LayerOutReferenceIdeal.τ).loc Cert.LayerOutReferenceIdeal.main_arg0) = m ((c.tc : Thread Cert.LayerOutIdeal.nD Cert.LayerOutIdeal.τ).loc Cert.LayerOutIdeal.main_arg0)
      ∧ m' ((c.tc : Thread Cert.LayerOutReferenceIdeal.nD Cert.LayerOutReferenceIdeal.τ).loc Cert.LayerOutReferenceIdeal.main_arg1) = m ((c.tc : Thread Cert.LayerOutIdeal.nD Cert.LayerOutIdeal.τ).loc Cert.LayerOutIdeal.main_arg1)
      ∧ m' ((c.tc : Thread Cert.LayerOutReferenceIdeal.nD Cert.LayerOutReferenceIdeal.τ).loc Cert.LayerOutReferenceIdeal.main_arg2) = m ((c.tc : Thread Cert.LayerOutIdeal.nD Cert.LayerOutIdeal.τ).loc Cert.LayerOutIdeal.main_arg2)
      ∧ m' ((c.tc : Thread Cert.LayerOutReferenceIdeal.nD Cert.LayerOutReferenceIdeal.τ).loc Cert.LayerOutReferenceIdeal.main_arg3) = m ((c.tc : Thread Cert.LayerOutIdeal.nD Cert.LayerOutIdeal.τ).loc Cert.LayerOutIdeal.main_arg3)) →
    ∃ (v0 : (c : Dev Cert.LayerOutIdeal.nD) → Buf (Elt Ideal) ((c.tc : Thread Cert.LayerOutIdeal.nD Cert.LayerOutIdeal.τ).loc Cert.LayerOutIdeal.main_v2_0)) (v1 : (c : Dev Cert.LayerOutIdeal.nD) → Buf (Elt Ideal) ((c.tc : Thread Cert.LayerOutIdeal.nD Cert.LayerOutIdeal.τ).loc Cert.LayerOutIdeal.main_v2_1)),
      θ_run (Cert.LayerOutIdeal.defs (F := Ideal)) (onTc (τ := Cert.LayerOutIdeal.τ) (Cert.LayerOutIdeal.main (F := Ideal))) ⟨m, fun _ => 0, g⟩ (fun r => ∀ c : Dev Cert.LayerOutIdeal.nD,
          r.2.mem ((c.tc : Thread Cert.LayerOutIdeal.nD Cert.LayerOutIdeal.τ).loc Cert.LayerOutIdeal.main_v2_0) = v0 c
          ∧ r.2.mem ((c.tc : Thread Cert.LayerOutIdeal.nD Cert.LayerOutIdeal.τ).loc Cert.LayerOutIdeal.main_v2_1) = v1 c
          ∧ r.2.mem ((c.tc : Thread Cert.LayerOutIdeal.nD Cert.LayerOutIdeal.τ).loc Cert.LayerOutIdeal.main_arg0) = m ((c.tc : Thread Cert.LayerOutIdeal.nD Cert.LayerOutIdeal.τ).loc Cert.LayerOutIdeal.main_arg0)
          ∧ r.2.mem ((c.tc : Thread Cert.LayerOutIdeal.nD Cert.LayerOutIdeal.τ).loc Cert.LayerOutIdeal.main_arg1) = m ((c.tc : Thread Cert.LayerOutIdeal.nD Cert.LayerOutIdeal.τ).loc Cert.LayerOutIdeal.main_arg1)
          ∧ r.2.mem ((c.tc : Thread Cert.LayerOutIdeal.nD Cert.LayerOutIdeal.τ).loc Cert.LayerOutIdeal.main_arg2) = m ((c.tc : Thread Cert.LayerOutIdeal.nD Cert.LayerOutIdeal.τ).loc Cert.LayerOutIdeal.main_arg2)
          ∧ r.2.mem ((c.tc : Thread Cert.LayerOutIdeal.nD Cert.LayerOutIdeal.τ).loc Cert.LayerOutIdeal.main_arg3) = m ((c.tc : Thread Cert.LayerOutIdeal.nD Cert.LayerOutIdeal.τ).loc Cert.LayerOutIdeal.main_arg3))
      ∧ θ_run (Cert.LayerOutReferenceIdeal.defs (F := Ideal)) (onTc (τ := Cert.LayerOutReferenceIdeal.τ) (Cert.LayerOutReferenceIdeal.main (F := Ideal))) ⟨m', fun _ => 0, g'⟩ (fun r => ∀ c : Dev Cert.LayerOutReferenceIdeal.nD,
          r.2.mem ((c.tc : Thread Cert.LayerOutReferenceIdeal.nD Cert.LayerOutReferenceIdeal.τ).loc Cert.LayerOutReferenceIdeal.main_v26) = v0 c
          ∧ r.2.mem ((c.tc : Thread Cert.LayerOutReferenceIdeal.nD Cert.LayerOutReferenceIdeal.τ).loc Cert.LayerOutReferenceIdeal.main_v27) = v1 c
          ∧ r.2.mem ((c.tc : Thread Cert.LayerOutReferenceIdeal.nD Cert.LayerOutReferenceIdeal.τ).loc Cert.LayerOutReferenceIdeal.main_arg0) = m' ((c.tc : Thread Cert.LayerOutReferenceIdeal.nD Cert.LayerOutReferenceIdeal.τ).loc Cert.LayerOutReferenceIdeal.main_arg0)
          ∧ r.2.mem ((c.tc : Thread Cert.LayerOutReferenceIdeal.nD Cert.LayerOutReferenceIdeal.τ).loc Cert.LayerOutReferenceIdeal.main_arg1) = m' ((c.tc : Thread Cert.LayerOutReferenceIdeal.nD Cert.LayerOutReferenceIdeal.τ).loc Cert.LayerOutReferenceIdeal.main_arg1)
          ∧ r.2.mem ((c.tc : Thread Cert.LayerOutReferenceIdeal.nD Cert.LayerOutReferenceIdeal.τ).loc Cert.LayerOutReferenceIdeal.main_arg2) = m' ((c.tc : Thread Cert.LayerOutReferenceIdeal.nD Cert.LayerOutReferenceIdeal.τ).loc Cert.LayerOutReferenceIdeal.main_arg2)
          ∧ r.2.mem ((c.tc : Thread Cert.LayerOutReferenceIdeal.nD Cert.LayerOutReferenceIdeal.τ).loc Cert.LayerOutReferenceIdeal.main_arg3) = m' ((c.tc : Thread Cert.LayerOutReferenceIdeal.nD Cert.LayerOutReferenceIdeal.τ).loc Cert.LayerOutReferenceIdeal.main_arg3))

def preserves_AttnRows_AttnRowsIdeal : Prop :=
  True

def algebraic_AttnRowsIdeal_AttnRowsReferenceIdeal [hAttnRowsIdeal : Cert.AttnRowsIdeal.Facts] [hAttnRowsReferenceIdeal : Cert.AttnRowsReferenceIdeal.Facts] : Prop :=
  ∀ (m : (ℓ : Loc Cert.AttnRowsIdeal.nD Cert.AttnRowsIdeal.τ Cert.AttnRowsIdeal.sig) → Buf (Elt Ideal) ℓ) (g : Dev Cert.AttnRowsIdeal.nD → PrngReg)
    (m' : (ℓ : Loc Cert.AttnRowsReferenceIdeal.nD Cert.AttnRowsReferenceIdeal.τ Cert.AttnRowsReferenceIdeal.sig) → Buf (Elt Ideal) ℓ) (g' : Dev Cert.AttnRowsReferenceIdeal.nD → PrngReg), Pre_AttnRowsIdeal m →
    (∀ c : Dev Cert.AttnRowsIdeal.nD,
      m' ((c.tc : Thread Cert.AttnRowsReferenceIdeal.nD Cert.AttnRowsReferenceIdeal.τ).loc Cert.AttnRowsReferenceIdeal.main_arg0) = m ((c.tc : Thread Cert.AttnRowsIdeal.nD Cert.AttnRowsIdeal.τ).loc Cert.AttnRowsIdeal.main_arg0)
      ∧ m' ((c.tc : Thread Cert.AttnRowsReferenceIdeal.nD Cert.AttnRowsReferenceIdeal.τ).loc Cert.AttnRowsReferenceIdeal.main_arg1) = m ((c.tc : Thread Cert.AttnRowsIdeal.nD Cert.AttnRowsIdeal.τ).loc Cert.AttnRowsIdeal.main_arg1)) →
    ∃ (v0 : (c : Dev Cert.AttnRowsIdeal.nD) → Buf (Elt Ideal) ((c.tc : Thread Cert.AttnRowsIdeal.nD Cert.AttnRowsIdeal.τ).loc Cert.AttnRowsIdeal.main_v12)) (v1 : (c : Dev Cert.AttnRowsIdeal.nD) → Buf (Elt Ideal) ((c.tc : Thread Cert.AttnRowsIdeal.nD Cert.AttnRowsIdeal.τ).loc Cert.AttnRowsIdeal.main_v15)) (v2 : (c : Dev Cert.AttnRowsIdeal.nD) → Buf (Elt Ideal) ((c.tc : Thread Cert.AttnRowsIdeal.nD Cert.AttnRowsIdeal.τ).loc Cert.AttnRowsIdeal.main_v17)) (v3 : (c : Dev Cert.AttnRowsIdeal.nD) → Buf (Elt Ideal) ((c.tc : Thread Cert.AttnRowsIdeal.nD Cert.AttnRowsIdeal.τ).loc Cert.AttnRowsIdeal.main_v19)),
      θ_run (Cert.AttnRowsIdeal.defs (F := Ideal)) (onTc (τ := Cert.AttnRowsIdeal.τ) (Cert.AttnRowsIdeal.main (F := Ideal))) ⟨m, fun _ => 0, g⟩ (fun r => ∀ c : Dev Cert.AttnRowsIdeal.nD,
          r.2.mem ((c.tc : Thread Cert.AttnRowsIdeal.nD Cert.AttnRowsIdeal.τ).loc Cert.AttnRowsIdeal.main_v12) = v0 c
          ∧ r.2.mem ((c.tc : Thread Cert.AttnRowsIdeal.nD Cert.AttnRowsIdeal.τ).loc Cert.AttnRowsIdeal.main_v15) = v1 c
          ∧ r.2.mem ((c.tc : Thread Cert.AttnRowsIdeal.nD Cert.AttnRowsIdeal.τ).loc Cert.AttnRowsIdeal.main_v17) = v2 c
          ∧ r.2.mem ((c.tc : Thread Cert.AttnRowsIdeal.nD Cert.AttnRowsIdeal.τ).loc Cert.AttnRowsIdeal.main_v19) = v3 c
          ∧ r.2.mem ((c.tc : Thread Cert.AttnRowsIdeal.nD Cert.AttnRowsIdeal.τ).loc Cert.AttnRowsIdeal.main_arg0) = m ((c.tc : Thread Cert.AttnRowsIdeal.nD Cert.AttnRowsIdeal.τ).loc Cert.AttnRowsIdeal.main_arg0)
          ∧ r.2.mem ((c.tc : Thread Cert.AttnRowsIdeal.nD Cert.AttnRowsIdeal.τ).loc Cert.AttnRowsIdeal.main_arg1) = m ((c.tc : Thread Cert.AttnRowsIdeal.nD Cert.AttnRowsIdeal.τ).loc Cert.AttnRowsIdeal.main_arg1))
      ∧ θ_run (Cert.AttnRowsReferenceIdeal.defs (F := Ideal)) (onTc (τ := Cert.AttnRowsReferenceIdeal.τ) (Cert.AttnRowsReferenceIdeal.main (F := Ideal))) ⟨m', fun _ => 0, g'⟩ (fun r => ∀ c : Dev Cert.AttnRowsReferenceIdeal.nD,
          r.2.mem ((c.tc : Thread Cert.AttnRowsReferenceIdeal.nD Cert.AttnRowsReferenceIdeal.τ).loc Cert.AttnRowsReferenceIdeal.main_v21) = v0 c
          ∧ r.2.mem ((c.tc : Thread Cert.AttnRowsReferenceIdeal.nD Cert.AttnRowsReferenceIdeal.τ).loc Cert.AttnRowsReferenceIdeal.main_v22) = v1 c
          ∧ r.2.mem ((c.tc : Thread Cert.AttnRowsReferenceIdeal.nD Cert.AttnRowsReferenceIdeal.τ).loc Cert.AttnRowsReferenceIdeal.main_v18) = v2 c
          ∧ r.2.mem ((c.tc : Thread Cert.AttnRowsReferenceIdeal.nD Cert.AttnRowsReferenceIdeal.τ).loc Cert.AttnRowsReferenceIdeal.main_v20) = v3 c
          ∧ r.2.mem ((c.tc : Thread Cert.AttnRowsReferenceIdeal.nD Cert.AttnRowsReferenceIdeal.τ).loc Cert.AttnRowsReferenceIdeal.main_arg0) = m' ((c.tc : Thread Cert.AttnRowsReferenceIdeal.nD Cert.AttnRowsReferenceIdeal.τ).loc Cert.AttnRowsReferenceIdeal.main_arg0)
          ∧ r.2.mem ((c.tc : Thread Cert.AttnRowsReferenceIdeal.nD Cert.AttnRowsReferenceIdeal.τ).loc Cert.AttnRowsReferenceIdeal.main_arg1) = m' ((c.tc : Thread Cert.AttnRowsReferenceIdeal.nD Cert.AttnRowsReferenceIdeal.τ).loc Cert.AttnRowsReferenceIdeal.main_arg1))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hProject : Cert.Project.Facts) (hProjectIdeal : Cert.ProjectIdeal.Facts) (hProjectReferenceIdeal : Cert.ProjectReferenceIdeal.Facts) (hProjectQkv : Cert.ProjectQkv.Facts) (hProjectQkvIdeal : Cert.ProjectQkvIdeal.Facts) (hProjectQkvReferenceIdeal : Cert.ProjectQkvReferenceIdeal.Facts) (hMixerOut : Cert.MixerOut.Facts) (hMixerOutIdeal : Cert.MixerOutIdeal.Facts) (hMixerOutReferenceIdeal : Cert.MixerOutReferenceIdeal.Facts) (hLayerOut : Cert.LayerOut.Facts) (hLayerOutIdeal : Cert.LayerOutIdeal.Facts) (hLayerOutReferenceIdeal : Cert.LayerOutReferenceIdeal.Facts) (hAttnRows : Cert.AttnRows.Facts) (hAttnRowsIdeal : Cert.AttnRowsIdeal.Facts) (hAttnRowsReferenceIdeal : Cert.AttnRowsReferenceIdeal.Facts) (hPre_tiles_name_two_experts : Cert.Pre_tiles_name_two_experts.Facts),
    quiescent_Kernel (hKernel := hKernel)
    ∧ quiescent_KernelIdeal (hKernelIdeal := hKernelIdeal)
    ∧ quiescent_ReferenceIdeal (hReferenceIdeal := hReferenceIdeal)
    ∧ quiescent_Experts (hExperts := hExperts) (hPre_tiles_name_two_experts := hPre_tiles_name_two_experts)
    ∧ quiescent_ExpertsIdeal (hExpertsIdeal := hExpertsIdeal) (hPre_tiles_name_two_experts := hPre_tiles_name_two_experts)
    ∧ quiescent_ExpertsReferenceIdeal (hExpertsReferenceIdeal := hExpertsReferenceIdeal)
    ∧ quiescent_ExpertsReferenceIdeal_pre_tiles_name_two_experts (hExpertsReferenceIdeal := hExpertsReferenceIdeal) (hPre_tiles_name_two_experts := hPre_tiles_name_two_experts)
    ∧ quiescent_Project (hProject := hProject)
    ∧ quiescent_ProjectIdeal (hProjectIdeal := hProjectIdeal)
    ∧ quiescent_ProjectReferenceIdeal (hProjectReferenceIdeal := hProjectReferenceIdeal)
    ∧ quiescent_ProjectQkv (hProjectQkv := hProjectQkv)
    ∧ quiescent_ProjectQkvIdeal (hProjectQkvIdeal := hProjectQkvIdeal)
    ∧ quiescent_ProjectQkvReferenceIdeal (hProjectQkvReferenceIdeal := hProjectQkvReferenceIdeal)
    ∧ quiescent_MixerOut (hMixerOut := hMixerOut)
    ∧ quiescent_MixerOutIdeal (hMixerOutIdeal := hMixerOutIdeal)
    ∧ quiescent_MixerOutReferenceIdeal (hMixerOutReferenceIdeal := hMixerOutReferenceIdeal)
    ∧ quiescent_LayerOut (hLayerOut := hLayerOut)
    ∧ quiescent_LayerOutIdeal (hLayerOutIdeal := hLayerOutIdeal)
    ∧ quiescent_LayerOutReferenceIdeal (hLayerOutReferenceIdeal := hLayerOutReferenceIdeal)
    ∧ quiescent_AttnRows (hAttnRows := hAttnRows)
    ∧ quiescent_AttnRowsIdeal (hAttnRowsIdeal := hAttnRowsIdeal)
    ∧ quiescent_AttnRowsReferenceIdeal (hAttnRowsReferenceIdeal := hAttnRowsReferenceIdeal)
    ∧ preserves_Kernel_KernelIdeal
    ∧ algebraic_KernelIdeal_ReferenceIdeal (hKernelIdeal := hKernelIdeal) (hReferenceIdeal := hReferenceIdeal)
    ∧ preserves_Experts_ExpertsIdeal
    ∧ algebraic_ExpertsIdeal_ExpertsReferenceIdeal (hExpertsIdeal := hExpertsIdeal) (hExpertsReferenceIdeal := hExpertsReferenceIdeal) (hPre_tiles_name_two_experts := hPre_tiles_name_two_experts)
    ∧ preserves_Project_ProjectIdeal
    ∧ algebraic_ProjectIdeal_ProjectReferenceIdeal (hProjectIdeal := hProjectIdeal) (hProjectReferenceIdeal := hProjectReferenceIdeal)
    ∧ preserves_ProjectQkv_ProjectQkvIdeal
    ∧ algebraic_ProjectQkvIdeal_ProjectQkvReferenceIdeal (hProjectQkvIdeal := hProjectQkvIdeal) (hProjectQkvReferenceIdeal := hProjectQkvReferenceIdeal)
    ∧ preserves_MixerOut_MixerOutIdeal
    ∧ algebraic_MixerOutIdeal_MixerOutReferenceIdeal (hMixerOutIdeal := hMixerOutIdeal) (hMixerOutReferenceIdeal := hMixerOutReferenceIdeal)
    ∧ preserves_LayerOut_LayerOutIdeal
    ∧ algebraic_LayerOutIdeal_LayerOutReferenceIdeal (hLayerOutIdeal := hLayerOutIdeal) (hLayerOutReferenceIdeal := hLayerOutReferenceIdeal)
    ∧ preserves_AttnRows_AttnRowsIdeal
    ∧ algebraic_AttnRowsIdeal_AttnRowsReferenceIdeal (hAttnRowsIdeal := hAttnRowsIdeal) (hAttnRowsReferenceIdeal := hAttnRowsReferenceIdeal)
-- ==== Pre_tiles_name_two_experts.lean ====
abbrev S40960x2048 : Shape := ⟨2, ![40960, 2048]⟩
abbrev S40960x128 : Shape := ⟨2, ![40960, 128]⟩
abbrev S160 : Shape := ⟨1, ![160]⟩
abbrev S16x2048x512 : Shape := ⟨3, ![16, 2048, 512]⟩
abbrev S16x512x2048 : Shape := ⟨3, ![16, 512, 2048]⟩
abbrev S_ : Shape := ⟨0, ![]⟩

class Facts : Prop where
  bcast_S_S160 : S_.BroadcastsInDim S160 (![] : Fin 0 → Fin S160.rank)

variable [Facts]

def fn {F : FTy → Type} [FloatOps F] (main_arg0 : FVec F S40960x2048 .f32) (main_arg1 : FVec F S40960x128 .f32) (main_arg2 : IVec S160 32) (main_arg3 : IVec S160 32) (main_arg4 : IVec S160 32) (main_arg5 : FVec F S16x2048x512 .bf16) (main_arg6 : FVec F S16x2048x512 .bf16) (main_arg7 : FVec F S16x512x2048 .bf16) : IVec S160 1 :=
  let main_c : IVec S_ 32 := constantI S_ 32 0#32
  let main_v0 : IVec S160 32 := broadcastInDim S160 ![] bcast_S_S160 main_c
  let main_v1 : IVec S160 1 := cmpi .sge main_arg2 main_v0
  let main_c_0 : IVec S_ 32 := constantI S_ 32 16#32
  let main_v2 : IVec S160 32 := broadcastInDim S160 ![] bcast_S_S160 main_c_0
  let main_v3 : IVec S160 1 := cmpi .slt main_arg2 main_v2
  let main_v4 : IVec S160 1 := andi main_v1 main_v3
  let main_c_1 : IVec S_ 32 := constantI S_ 32 0#32
  let main_v5 : IVec S160 32 := broadcastInDim S160 ![] bcast_S_S160 main_c_1
  let main_v6 : IVec S160 1 := cmpi .sge main_arg3 main_v5
  let main_c_2 : IVec S_ 32 := constantI S_ 32 16#32
  let main_v7 : IVec S160 32 := broadcastInDim S160 ![] bcast_S_S160 main_c_2
  let main_v8 : IVec S160 1 := cmpi .slt main_arg3 main_v7
  let main_v9 : IVec S160 1 := andi main_v6 main_v8
  let main_v10 : IVec S160 1 := andi main_v4 main_v9
  let main_v11 : IVec S160 1 := cmpi .ne main_arg2 main_arg3
  let main_v12 : IVec S160 1 := andi main_v10 main_v11
  main_v12
-- ==== Kernel.lean ====
abbrev S33792x6144 : Shape := ⟨2, ![33792, 6144]⟩
abbrev S33792x128 : Shape := ⟨2, ![33792, 128]⟩
abbrev S16 : Shape := ⟨1, ![16]⟩
abbrev S2048 : Shape := ⟨1, ![2048]⟩
abbrev S32x8x128x256 : Shape := ⟨4, ![32, 8, 128, 256]⟩
abbrev S32x8x128 : Shape := ⟨3, ![32, 8, 128]⟩
abbrev S32x8 : Shape := ⟨2, ![32, 8]⟩
abbrev S_ : Shape := ⟨0, ![]⟩
abbrev S128 : Shape := ⟨1, ![128]⟩
abbrev S32x8x128x1 : Shape := ⟨4, ![32, 8, 128, 1]⟩
abbrev S32x8x128x128 : Shape := ⟨4, ![32, 8, 128, 128]⟩
abbrev S32x128 : Shape := ⟨2, ![32, 128]⟩
abbrev S32x1x128 : Shape := ⟨3, ![32, 1, 128]⟩
abbrev S1x128 : Shape := ⟨2, ![1, 128]⟩
abbrev S1x2048 : Shape := ⟨2, ![1, 2048]⟩
abbrev S1024x2048 : Shape := ⟨2, ![1024, 2048]⟩
abbrev S32x1024 : Shape := ⟨2, ![32, 1024]⟩
abbrev S32x2048 : Shape := ⟨2, ![32, 2048]⟩
abbrev S1x8x128x256 : Shape := ⟨4, ![1, 8, 128, 256]⟩
abbrev S1x8x128x128 : Shape := ⟨4, ![1, 8, 128, 128]⟩
abbrev S1x1x128 : Shape := ⟨3, ![1, 1, 128]⟩
abbrev S8x128x384 : Shape := ⟨3, ![8, 128, 384]⟩
abbrev S8x128x256 : Shape := ⟨3, ![8, 128, 256]⟩
abbrev S8x128x128 : Shape := ⟨3, ![8, 128, 128]⟩
abbrev S32x32 : Shape := ⟨2, ![32, 32]⟩
abbrev S96x128 : Shape := ⟨2, ![96, 128]⟩
abbrev S128x128 : Shape := ⟨2, ![128, 128]⟩
abbrev S32x256 : Shape := ⟨2, ![32, 256]⟩
abbrev S256x256 : Shape := ⟨2, ![256, 256]⟩
abbrev S256x128 : Shape := ⟨2, ![256, 128]⟩
abbrev S32x1 : Shape := ⟨2, ![32, 1]⟩
abbrev S1x32 : Shape := ⟨2, ![1, 32]⟩
abbrev S1x128x384 : Shape := ⟨3, ![1, 128, 384]⟩
abbrev S128x384 : Shape := ⟨2, ![128, 384]⟩
abbrev S32x512 : Shape := ⟨2, ![32, 512]⟩
abbrev S128x256 : Shape := ⟨2, ![128, 256]⟩
abbrev S128x512 : Shape := ⟨2, ![128, 512]⟩
abbrev S160x512 : Shape := ⟨2, ![160, 512]⟩
abbrev S32x160 : Shape := ⟨2, ![32, 160]⟩
abbrev S1x256 : Shape := ⟨2, ![1, 256]⟩
abbrev S32x384 : Shape := ⟨2, ![32, 384]⟩
abbrev S1x1 : Shape := ⟨2, ![1, 1]⟩
abbrev S32x1x8 : Shape := ⟨3, ![32, 1, 8]⟩

abbrev nBuf : Space → Nat
  | .hbm => 26
  | .vmem => 27
  | .smem => 0
  | _ => 0

abbrev bufTy : (tb : Table) → Fin (tcTables nBuf tb) → BufTy
  | .hbm, ⟨0, _⟩ => ⟨S33792x6144, .bf16⟩
  | .hbm, ⟨1, _⟩ => ⟨S33792x128, .f32⟩
  | .hbm, ⟨2, _⟩ => ⟨S16, .f32⟩
  | .hbm, ⟨3, _⟩ => ⟨S2048, .f32⟩
  | .hbm, ⟨4, _⟩ => ⟨S32x8x128x256, .f32⟩
  | .hbm, ⟨5, _⟩ => ⟨S32x8x128, .f32⟩
  | .hbm, ⟨6, _⟩ => ⟨S32x8, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S32x8x128x1, .f32⟩
  | .hbm, ⟨11, _⟩ => ⟨S32x8x128x128, .f32⟩
  | .hbm, ⟨12, _⟩ => ⟨S_, .i32⟩
  | .hbm, ⟨13, _⟩ => ⟨S_, .f32⟩
  | .hbm, ⟨14, _⟩ => ⟨S32x128, .f32⟩
  | .hbm, ⟨15, _⟩ => ⟨S32x1x128, .f32⟩
  | .hbm, ⟨16, _⟩ => ⟨S1x128, .f32⟩
  | .hbm, ⟨17, _⟩ => ⟨S1x2048, .f32⟩
  | .hbm, ⟨18, _⟩ => ⟨S1024x2048, .bf16⟩
  | .hbm, ⟨19, _⟩ => ⟨S32x8x128x256, .f32⟩
  | .hbm, ⟨20, _⟩ => ⟨S32x8x128x128, .f32⟩
  | .hbm, ⟨21, _⟩ => ⟨S32x1x128, .f32⟩
  | .hbm, ⟨22, _⟩ => ⟨S32x8x128x1, .f32⟩
  | .hbm, ⟨23, _⟩ => ⟨S32x8x128, .f32⟩
  | .hbm, ⟨24, _⟩ => ⟨S32x1x8, .f32⟩
  | .hbm, ⟨25, _⟩ => ⟨S32x8, .f32⟩
  | .local _ .vmem, ⟨0, _⟩ => ⟨S32x1024, .bf16⟩
  | .local _ .vmem, ⟨1, _⟩ => ⟨S32x1024, .bf16⟩
  | .local _ .vmem, ⟨2, _⟩ => ⟨S32x1024, .bf16⟩
  | .local _ .vmem, ⟨3, _⟩ => ⟨S32x1024, .bf16⟩
  | .local _ .vmem, ⟨4, _⟩ => ⟨S32x2048, .bf16⟩
  | .local _ .vmem, ⟨5, _⟩ => ⟨S32x2048, .bf16⟩
  | .local _ .vmem, ⟨6, _⟩ => ⟨S32x2048, .bf16⟩
  | .local _ .vmem, ⟨7, _⟩ => ⟨S32x2048, .bf16⟩
  | .local _ .vmem, ⟨8, _⟩ => ⟨S32x128, .f32⟩
  | .local _ .vmem, ⟨9, _⟩ => ⟨S32x128, .f32⟩
  | .local _ .vmem, ⟨10, _⟩ => ⟨S1x128, .f32⟩
  | .local _ .vmem, ⟨11, _⟩ => ⟨S1x2048, .f32⟩
  | .local _ .vmem, ⟨12, _⟩ => ⟨S1x8x128x256, .f32⟩
  | .local _ .vmem, ⟨13, _⟩ => ⟨S1x8x128x256, .f32⟩
  | .local _ .vmem, ⟨14, _⟩ => ⟨S1x8x128x128, .f32⟩
  | .local _ .vmem, ⟨15, _⟩ => ⟨S1x8x128x128, .f32⟩
  | .local _ .vmem, ⟨16, _⟩ => ⟨S1x1x128, .f32⟩
  | .local _ .vmem, ⟨17, _⟩ => ⟨S1x1x128, .f32⟩
  | .local _ .vmem, ⟨18, _⟩ => ⟨S32x2048, .bf16⟩
  | .local _ .vmem, ⟨19, _⟩ => ⟨S32x2048, .bf16⟩
  | .local _ .vmem, ⟨20, _⟩ => ⟨S1x8x128x256, .f32⟩
  | .local _ .vmem, ⟨21, _⟩ => ⟨S1x8x128x256, .f32⟩
  | .local _ .vmem, ⟨22, _⟩ => ⟨S1x8x128x128, .f32⟩
  | .local _ .vmem, ⟨23, _⟩ => ⟨S1x8x128x128, .f32⟩
  | .local _ .vmem, ⟨24, _⟩ => ⟨S1x1x128, .f32⟩
  | .local _ .vmem, ⟨25, _⟩ => ⟨S1x1x128, .f32⟩
  | .local _ .vmem, ⟨26, _⟩ => ⟨S8x128x384, .f32⟩
  | _, _ => ⟨S33792x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_478 : BitVec 32 := 0#32
  let v917 : BitVec 1 := Scalar.cmpi .eq arg1 c0_i32_478
  let v918 : BitVec 32 := Scalar.extui v917
  let c0_i32_479 : BitVec 32 := 0#32
  let v919 : BitVec 1 := Scalar.cmpi .ne v918 c0_i32_479
  v919

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c1_i32_0 : BitVec 32 := 1#32
  let c0_i32 : BitVec 32 := 0#32
  ![v2.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c1_i32_0 : BitVec 32 := 1#32
  let c0_i32 : BitVec 32 := 0#32
  ![v2.toNat, c1_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c2_i32 : BitVec 32 := 2#32
  let c0_i32 : BitVec 32 := 0#32
  ![v2.toNat, c2_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S32x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x8x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== KernelIdeal.lean ====
variable {F : FTy → Type} [FloatOps F] [Named F]
def κ : String → Option EReal := fun
  | "inv_cap" => some ((1 / 15 : ℝ) : EReal)
  | _ => none
-- ==== ReferenceIdeal.lean ====
abbrev S33792x6144 : Shape := ⟨2, ![33792, 6144]⟩
abbrev S33792x128 : Shape := ⟨2, ![33792, 128]⟩
abbrev S16 : Shape := ⟨1, ![16]⟩
abbrev S2048 : Shape := ⟨1, ![2048]⟩
abbrev S32x8x128x256 : Shape := ⟨4, ![32, 8, 128, 256]⟩
abbrev S32x8x128 : Shape := ⟨3, ![32, 8, 128]⟩
abbrev S32x8 : Shape := ⟨2, ![32, 8]⟩
abbrev S1024x6144 : Shape := ⟨2, ![1024, 6144]⟩
abbrev S32x32x6144 : Shape := ⟨3, ![32, 32, 6144]⟩
abbrev S32x32x1024 : Shape := ⟨3, ![32, 32, 1024]⟩
abbrev S32x32x2048 : Shape := ⟨3, ![32, 32, 2048]⟩
abbrev S1024x16 : Shape := ⟨2, ![1024, 16]⟩
abbrev S32x32x16 : Shape := ⟨3, ![32, 32, 16]⟩
abbrev S32x32x8x128 : Shape := ⟨4, ![32, 32, 8, 128]⟩
abbrev S_ : Shape := ⟨0, ![]⟩
abbrev S32x32x8x256 : Shape := ⟨4, ![32, 32, 8, 256]⟩
abbrev S1x1x16 : Shape := ⟨3, ![1, 1, 16]⟩
abbrev S32x32x8 : Shape := ⟨3, ![32, 32, 8]⟩
abbrev S32x8x32 : Shape := ⟨3, ![32, 8, 32]⟩
abbrev S32x32 : Shape := ⟨2, ![32, 32]⟩
abbrev S32x8x32x1 : Shape := ⟨4, ![32, 8, 32, 1]⟩
abbrev S32x8x1x32 : Shape := ⟨4, ![32, 8, 1, 32]⟩
abbrev S32x8x32x32 : Shape := ⟨4, ![32, 8, 32, 32]⟩
abbrev S32x8x1 : Shape := ⟨3, ![32, 8, 1]⟩
abbrev S32x32x8x1 : Shape := ⟨4, ![32, 32, 8, 1]⟩
abbrev S32x8x256x32 : Shape := ⟨4, ![32, 8, 256, 32]⟩
abbrev S32x8x1x1 : Shape := ⟨4, ![32, 8, 1, 1]⟩
abbrev S1x1x2048 : Shape := ⟨3, ![1, 1, 2048]⟩
abbrev S1024x2048 : Shape := ⟨2, ![1024, 2048]⟩

abbrev nBuf : Space → Nat
  | .hbm => 176
  | .vmem => 0
  | .smem => 0
  | _ => 0

abbrev hbmTy0_0 (i : Nat) : BufTy := match i % 128 with
  | 0 => ⟨S33792x6144, .bf16⟩
  | 1 => ⟨S33792x128, .f32⟩
  | 2 => ⟨S16, .f32⟩
  | 3 => ⟨S2048, .f32⟩
  | 4 => ⟨S32x8x128x256, .f32⟩
  | 5 => ⟨S32x8x128, .f32⟩
  | 6 => ⟨S32x8, .f32⟩
  | 7 => ⟨S1024x6144, .bf16⟩
  | 8 => ⟨S32x32x6144, .bf16⟩
  | 9 => ⟨S32x32x1024, .bf16⟩
  | 10 => ⟨S32x32x1024, .bf16⟩
  | 11 => ⟨S32x32x2048, .bf16⟩
  | 12 => ⟨S32x32x2048, .bf16⟩
  | 13 => ⟨S1024x16, .f32⟩
  | 14 => ⟨S32x32x16, .f32⟩
  | 15 => ⟨S32x32x8x128, .bf16⟩
  | 16 => ⟨S32x32x8x128, .f32⟩
  | 17 => ⟨S32x32x8x128, .bf16⟩
  | 18 => ⟨S32x32x8x128, .f32⟩
  | 19 => ⟨S_, .f32⟩
  | 20 => ⟨S32x32x8x128, .f32⟩
  | 21 => ⟨S32x32x8x128, .f32⟩
  | 22 => ⟨S32x32x8x256, .bf16⟩
  | 23 => ⟨S32x32x8x256, .f32⟩
  | 24 => ⟨S1x1x16, .f32⟩
  | 25 => ⟨S32x32x16, .f32⟩
  | 26 => ⟨S32x32x16, .f32⟩
  | 27 => ⟨S_, .f32⟩
  | 28 => ⟨S32x32x16, .f32⟩
  | 29 => ⟨S32x32x16, .f32⟩
  | 30 => ⟨S32x32x16, .f32⟩
  | 31 => ⟨S_, .f32⟩
  | 32 => ⟨S32x32x16, .f32⟩
  | 33 => ⟨S32x32x16, .f32⟩
  | 34 => ⟨S32x32x8, .f32⟩
  | 35 => ⟨S32x32x8, .f32⟩
  | 36 => ⟨S32x32x8, .f32⟩
  | 37 => ⟨S_, .f32⟩
  | 38 => ⟨S32x32x8, .f32⟩
  | 39 => ⟨S32x32x8, .f32⟩
  | 40 => ⟨S32x32x8, .f32⟩
  | 41 => ⟨S32x32x8, .f32⟩
  | 42 => ⟨S32x32x8, .i1⟩
  | 43 => ⟨S32x32x8, .f32⟩
  | 44 => ⟨S32x32x8, .f32⟩
  | 45 => ⟨S32x32x8, .f32⟩
  | 46 => ⟨S32x32x8, .f32⟩
  | 47 => ⟨S32x32x8, .f32⟩
  | 48 => ⟨S32x32x8, .f32⟩
  | 49 => ⟨S32x32x8, .f32⟩
  | 50 => ⟨S32x32x8, .f32⟩
  | 51 => ⟨S32x32x8, .f32⟩
  | 52 => ⟨S_, .f32⟩
  | 53 => ⟨S_, .f32⟩
  | 54 => ⟨S32x32x8, .f32⟩
  | 55 => ⟨S32x8x32, .f32⟩
  | 56 => ⟨S32x8x32, .f32⟩
  | 57 => ⟨S_, .i1⟩
  | 58 => ⟨S32x32, .i1⟩
  | 59 => ⟨S32x32, .i32⟩
  | 60 => ⟨S_, .i32⟩
  | 61 => ⟨S32x32, .i32⟩
  | 62 => ⟨S32x32, .i32⟩
  | 63 => ⟨S32x32, .i32⟩
  | 64 => ⟨S32x32, .i1⟩
  | 65 => ⟨S_, .i1⟩
  | 66 => ⟨S32x32, .i1⟩
  | 67 => ⟨S32x32, .i1⟩
  | 68 => ⟨S32x8x32x1, .f32⟩
  | 69 => ⟨S32x8x1x32, .f32⟩
  | 70 => ⟨S32x8x32x32, .f32⟩
  | 71 => ⟨S32x8x32x32, .f32⟩
  | 72 => ⟨S32x8x32x32, .f32⟩
  | 73 => ⟨S32x8x1x32, .f32⟩
  | 74 => ⟨S32x8x32x32, .f32⟩
  | 75 => ⟨S32x8x32x32, .f32⟩
  | 76 => ⟨S_, .f32⟩
  | 77 => ⟨S_, .f32⟩
  | 78 => ⟨S32x8x32x32, .i1⟩
  | 79 => ⟨S32x8x32x32, .f32⟩
  | 80 => ⟨S32x8x32x32, .f32⟩
  | 81 => ⟨S32x8x1, .f32⟩
  | 82 => ⟨S32x8x32, .f32⟩
  | 83 => ⟨S32x8x32, .f32⟩
  | 84 => ⟨S_, .f32⟩
  | 85 => ⟨S32x8x32, .f32⟩
  | 86 => ⟨S32x8x32, .f32⟩
  | 87 => ⟨S32x8x32x1, .f32⟩
  | 88 => ⟨S32x8x32x32, .f32⟩
  | 89 => ⟨S32x8x32x32, .f32⟩
  | 90 => ⟨S32x8x32x32, .f32⟩
  | 91 => ⟨S32x8x32, .f32⟩
  | 92 => ⟨S32x8x32, .f32⟩
  | 93 => ⟨S32x8x32x32, .f32⟩
  | 94 => ⟨S32x8x32x32, .f32⟩
  | 95 => ⟨S32x32x8, .f32⟩
  | 96 => ⟨S32x32x8x1, .f32⟩
  | 97 => ⟨S32x8x256x32, .f32⟩
  | 98 => ⟨S32x32x8x256, .f32⟩
  | 99 => ⟨S32x8x256x32, .f32⟩
  | 100 => ⟨S32x32x8x256, .f32⟩
  | 101 => ⟨S32x32x8x256, .f32⟩
  | 102 => ⟨S32x32x8x256, .f32⟩
  | 103 => ⟨S32x32x8x256, .f32⟩
  | 104 => ⟨S_, .f32⟩
  | 105 => ⟨S32x8x32, .f32⟩
  | 106 => ⟨S32x8x32, .f32⟩
  | 107 => ⟨S32x8x32, .f32⟩
  | 108 => ⟨S32x8x32, .f32⟩
  | 109 => ⟨S32x8x32, .f32⟩
  | 110 => ⟨S32x8x32, .f32⟩
  | 111 => ⟨S32x8x32, .f32⟩
  | 112 => ⟨S32x8x32, .f32⟩
  | 113 => ⟨S32x32x8, .f32⟩
  | 114 => ⟨S32x32x8x1, .f32⟩
  | 115 => ⟨S32x32x8x256, .f32⟩
  | 116 => ⟨S32x32x8x256, .f32⟩
  | 117 => ⟨S32x8x1, .f32⟩
  | 118 => ⟨S32x8, .f32⟩
  | 119 => ⟨S32x8x1, .f32⟩
  | 120 => ⟨S32x8x32, .f32⟩
  | 121 => ⟨S32x8x32, .f32⟩
  | 122 => ⟨S32x8x32, .f32⟩
  | 123 => ⟨S32x8x1, .f32⟩
  | 124 => ⟨S32x8x32, .f32⟩
  | 125 => ⟨S32x8x32, .f32⟩
  | 126 => ⟨S32x8x32, .f32⟩
  | 127 => ⟨S32x8x1, .f32⟩
  | _ => ⟨S33792x6144, .bf16⟩

abbrev hbmTy0_1 (i : Nat) : BufTy := match i % 128 with
  | 0 => ⟨S32x8, .f32⟩
  | 1 => ⟨S32x8, .f32⟩
  | 2 => ⟨S32x8, .f32⟩
  | 3 => ⟨S32x8, .f32⟩
  | 4 => ⟨S32x32x8, .f32⟩
  | 5 => ⟨S32x32x8x1, .f32⟩
  | 6 => ⟨S32x32x8x128, .f32⟩
  | 7 => ⟨S32x32x8x128, .f32⟩
  | 8 => ⟨S32x8x1x1, .f32⟩
  | 9 => ⟨S32x8x128x256, .f32⟩
  | 10 => ⟨S32x8x128x256, .f32⟩
  | 11 => ⟨S32x8x128x256, .f32⟩
  | 12 => ⟨S32x8x128x256, .f32⟩
  | 13 => ⟨S32x8x1, .f32⟩
  | 14 => ⟨S32x8x128, .f32⟩
  | 15 => ⟨S32x8x128, .f32⟩
  | 16 => ⟨S_, .f32⟩
  | 17 => ⟨S32x8x128, .f32⟩
  | 18 => ⟨S32x8x128, .f32⟩
  | 19 => ⟨S32x32x8x256, .f32⟩
  | 20 => ⟨S_, .f32⟩
  | 21 => ⟨S32x32x8, .f32⟩
  | 22 => ⟨S32x32x8x1, .f32⟩
  | 23 => ⟨S_, .f32⟩
  | 24 => ⟨S32x32x8x1, .f32⟩
  | 25 => ⟨S32x32x8x1, .f32⟩
  | 26 => ⟨S_, .f32⟩
  | 27 => ⟨S32x32x8x1, .f32⟩
  | 28 => ⟨S32x32x8x1, .f32⟩
  | 29 => ⟨S32x32x8x1, .f32⟩
  | 30 => ⟨S32x32x8x256, .f32⟩
  | 31 => ⟨S32x32x8x256, .f32⟩
  | 32 => ⟨S32x32x2048, .f32⟩
  | 33 => ⟨S1x1x2048, .f32⟩
  | 34 => ⟨S32x32x2048, .f32⟩
  | 35 => ⟨S32x32x2048, .f32⟩
  | 36 => ⟨S32x32x2048, .f32⟩
  | 37 => ⟨S32x32x2048, .f32⟩
  | 38 => ⟨S32x32x2048, .f32⟩
  | 39 => ⟨S_, .f32⟩
  | 40 => ⟨S32x32x2048, .f32⟩
  | 41 => ⟨S32x32x2048, .f32⟩
  | 42 => ⟨S_, .f32⟩
  | 43 => ⟨S32x32x2048, .f32⟩
  | 44 => ⟨S32x32x2048, .f32⟩
  | 45 => ⟨S32x32x2048, .f32⟩
  | 46 => ⟨S1024x2048, .f32⟩
  | 47 => ⟨S1024x2048, .bf16⟩
  | _ => ⟨S33792x6144, .bf16⟩

abbrev hbmTy (i : Nat) : BufTy := match i / 128 with
  | 0 => hbmTy0_0 i
  | 1 => hbmTy0_1 i
  | _ => ⟨S33792x6144, .bf16⟩

abbrev bufTy : (tb : Table) → Fin (tcTables nBuf tb) → BufTy
  | .hbm, ⟨i, _⟩ => hbmTy i
  | _, _ => ⟨S33792x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_call0_cst : Ref sig .tc := ⟨.hbm, 37, rfl⟩
abbrev main_call0_call0_v0 : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_v7 : Ref sig .tc := ⟨.hbm, 45, rfl⟩
abbrev main_call0_call0_v8 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_v1 : Ref sig .tc := ⟨.hbm, 50, rfl⟩
abbrev main_v26 : Ref sig .tc := ⟨.hbm, 51, rfl⟩
abbrev main_call1_call0_cst : Ref sig .tc := ⟨.hbm, 52, rfl⟩
abbrev main_call1_call0_v0 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c : Ref sig .tc := ⟨.hbm, 57, rfl⟩
abbrev main_v30 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_c_0 : Ref sig .tc := ⟨.hbm, 65, rfl⟩
abbrev main_call2_v5 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_2 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst_3 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_cst_4 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_5 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_6 : Ref sig .tc := ⟨.hbm, 148, rfl⟩
abbrev main_v105 : Ref sig .tc := ⟨.hbm, 149, rfl⟩
abbrev main_v106 : Ref sig .tc := ⟨.hbm, 150, rfl⟩
abbrev main_cst_7 : Ref sig .tc := ⟨.hbm, 151, rfl⟩
abbrev main_v107 : Ref sig .tc := ⟨.hbm, 152, rfl⟩
abbrev main_v108 : Ref sig .tc := ⟨.hbm, 153, rfl⟩
abbrev main_cst_8 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_cst_9 : Ref sig .tc := ⟨.hbm, 167, rfl⟩
abbrev main_v121 : Ref sig .tc := ⟨.hbm, 168, rfl⟩
abbrev main_v122 : Ref sig .tc := ⟨.hbm, 169, rfl⟩
abbrev main_cst_10 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩

abbrev nD : Nat := 1
abbrev τ : Topo := Topo.v7x

variable {F : FTy → Type} [FloatOps F]
-- ==== Experts.lean ====
abbrev S40960x2048 : Shape := ⟨2, ![40960, 2048]⟩
abbrev S40960x128 : Shape := ⟨2, ![40960, 128]⟩
abbrev S160 : Shape := ⟨1, ![160]⟩
abbrev S16x2048x512 : Shape := ⟨3, ![16, 2048, 512]⟩
abbrev S16x512x2048 : Shape := ⟨3, ![16, 512, 2048]⟩
abbrev S256x2048 : Shape := ⟨2, ![256, 2048]⟩
abbrev S256x128 : Shape := ⟨2, ![256, 128]⟩
abbrev S1x2048x512 : Shape := ⟨3, ![1, 2048, 512]⟩
abbrev S1 : Shape := ⟨1, ![1]⟩
abbrev S1x512x2048 : Shape := ⟨3, ![1, 512, 2048]⟩
abbrev S256x1 : Shape := ⟨2, ![256, 1]⟩
abbrev S2048x512 : Shape := ⟨2, ![2048, 512]⟩
abbrev S256x512 : Shape := ⟨2, ![256, 512]⟩
abbrev S512x2048 : Shape := ⟨2, ![512, 2048]⟩

abbrev nBuf : Space → Nat
  | .hbm => 6
  | .vmem => 18
  | .smem => 3
  | _ => 0

abbrev bufTy : (tb : Table) → Fin (tcTables nBuf tb) → BufTy
  | .hbm, ⟨0, _⟩ => ⟨S40960x2048, .f32⟩
  | .hbm, ⟨1, _⟩ => ⟨S40960x128, .f32⟩
  | .hbm, ⟨2, _⟩ => ⟨S16x2048x512, .bf16⟩
  | .hbm, ⟨3, _⟩ => ⟨S16x2048x512, .bf16⟩
  | .hbm, ⟨4, _⟩ => ⟨S16x512x2048, .bf16⟩
  | .hbm, ⟨5, _⟩ => ⟨S40960x2048, .f32⟩
  | .local _ .vmem, ⟨0, _⟩ => ⟨S256x2048, .f32⟩
  | .local _ .vmem, ⟨1, _⟩ => ⟨S256x2048, .f32⟩
  | .local _ .vmem, ⟨2, _⟩ => ⟨S256x128, .f32⟩
  | .local _ .vmem, ⟨3, _⟩ => ⟨S256x128, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x512x2048, .bf16⟩
  | .local _ .vmem, ⟨9, _⟩ => ⟨S1x512x2048, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S1x2048x512, .bf16⟩
  | .local _ .vmem, ⟨14, _⟩ => ⟨S1x512x2048, .bf16⟩
  | .local _ .vmem, ⟨15, _⟩ => ⟨S1x512x2048, .bf16⟩
  | .local _ .vmem, ⟨16, _⟩ => ⟨S256x2048, .f32⟩
  | .local _ .vmem, ⟨17, _⟩ => ⟨S256x2048, .f32⟩
  | .local _ .smem, ⟨0, _⟩ => ⟨S160, .i32⟩
  | .local _ .smem, ⟨1, _⟩ => ⟨S160, .i32⟩
  | .local _ .smem, ⟨2, _⟩ => ⟨S160, .i32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg2 : Ref sig .tc := ⟨.smem, 0, rfl⟩
abbrev main_arg3 : Ref sig .tc := ⟨.smem, 1, rfl⟩
abbrev main_arg4 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![160], ![false]⟩

abbrev pre0 : Pipeline.Prefetch sig := ⟨3, ![main_arg2.idx, main_arg3.idx, main_arg4.idx], fun | 0 => main_arg2.names | 1 => main_arg3.names | 2 => main_arg4.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .ne v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ExpertsReferenceIdeal.lean ====
abbrev S40960x2048 : Shape := ⟨2, ![40960, 2048]⟩
abbrev S40960x128 : Shape := ⟨2, ![40960, 128]⟩
abbrev S160 : Shape := ⟨1, ![160]⟩
abbrev S16x2048x512 : Shape := ⟨3, ![16, 2048, 512]⟩
abbrev S16x512x2048 : Shape := ⟨3, ![16, 512, 2048]⟩
abbrev S160x256 : Shape := ⟨2, ![160, 256]⟩
abbrev S40960 : Shape := ⟨1, ![40960]⟩
abbrev S40960x1 : Shape := ⟨2, ![40960, 1]⟩
abbrev S40960x2 : Shape := ⟨2, ![40960, 2]⟩
abbrev S40960x2x1 : Shape := ⟨3, ![40960, 2, 1]⟩
abbrev S1x1x16 : Shape := ⟨3, ![1, 1, 16]⟩
abbrev S40960x2x16 : Shape := ⟨3, ![40960, 2, 16]⟩
abbrev S_ : Shape := ⟨0, ![]⟩
abbrev S40960x16 : Shape := ⟨2, ![40960, 16]⟩
abbrev S16x512x40960 : Shape := ⟨3, ![16, 512, 40960]⟩
abbrev S16x40960x512 : Shape := ⟨3, ![16, 40960, 512]⟩
abbrev S16x40960 : Shape := ⟨2, ![16, 40960]⟩
abbrev S16x40960x1 : Shape := ⟨3, ![16, 40960, 1]⟩
abbrev S16x40960x2048 : Shape := ⟨3, ![16, 40960, 2048]⟩

abbrev nBuf : Space → Nat
  | .hbm => 65
  | .vmem => 0
  | .smem => 0
  | _ => 0

abbrev bufTy : (tb : Table) → Fin (tcTables nBuf tb) → BufTy
  | .hbm, ⟨0, _⟩ => ⟨S40960x2048, .f32⟩
  | .hbm, ⟨1, _⟩ => ⟨S40960x128, .f32⟩
  | .hbm, ⟨2, _⟩ => ⟨S160, .i32⟩
  | .hbm, ⟨3, _⟩ => ⟨S160, .i32⟩
  | .hbm, ⟨4, _⟩ => ⟨S160, .i32⟩
  | .hbm, ⟨5, _⟩ => ⟨S16x2048x512, .bf16⟩
  | .hbm, ⟨6, _⟩ => ⟨S16x2048x512, .bf16⟩
  | .hbm, ⟨7, _⟩ => ⟨S16x512x2048, .bf16⟩
  | .hbm, ⟨8, _⟩ => ⟨S160x256, .i32⟩
  | .hbm, ⟨9, _⟩ => ⟨S40960, .i32⟩
  | .hbm, ⟨10, _⟩ => ⟨S160x256, .i32⟩
  | .hbm, ⟨11, _⟩ => ⟨S40960, .i32⟩
  | .hbm, ⟨12, _⟩ => ⟨S40960x1, .i32⟩
  | .hbm, ⟨13, _⟩ => ⟨S40960x1, .i32⟩
  | .hbm, ⟨14, _⟩ => ⟨S40960x2, .i32⟩
  | .hbm, ⟨15, _⟩ => ⟨S40960x1, .f32⟩
  | .hbm, ⟨16, _⟩ => ⟨S40960, .f32⟩
  | .hbm, ⟨17, _⟩ => ⟨S40960x1, .f32⟩
  | .hbm, ⟨18, _⟩ => ⟨S40960, .f32⟩
  | .hbm, ⟨19, _⟩ => ⟨S40960x1, .f32⟩
  | .hbm, ⟨20, _⟩ => ⟨S40960x1, .f32⟩
  | .hbm, ⟨21, _⟩ => ⟨S40960x2, .f32⟩
  | .hbm, ⟨22, _⟩ => ⟨S40960x2x1, .i32⟩
  | .hbm, ⟨23, _⟩ => ⟨S1x1x16, .i32⟩
  | .hbm, ⟨24, _⟩ => ⟨S40960x2x16, .i32⟩
  | .hbm, ⟨25, _⟩ => ⟨S40960x2x16, .i32⟩
  | .hbm, ⟨26, _⟩ => ⟨S40960x2x16, .i1⟩
  | .hbm, ⟨27, _⟩ => ⟨S40960x2x16, .f32⟩
  | .hbm, ⟨28, _⟩ => ⟨S40960x2x1, .f32⟩
  | .hbm, ⟨29, _⟩ => ⟨S40960x2x16, .f32⟩
  | .hbm, ⟨30, _⟩ => ⟨S40960x2x16, .f32⟩
  | .hbm, ⟨31, _⟩ => ⟨S_, .f32⟩
  | .hbm, ⟨32, _⟩ => ⟨S40960x16, .f32⟩
  | .hbm, ⟨33, _⟩ => ⟨S16x512x40960, .f32⟩
  | .hbm, ⟨34, _⟩ => ⟨S16x40960x512, .f32⟩
  | .hbm, ⟨35, _⟩ => ⟨S16x40960x512, .f32⟩
  | .hbm, ⟨36, _⟩ => ⟨S16x40960x512, .f32⟩
  | .hbm, ⟨37, _⟩ => ⟨S_, .f32⟩
  | .hbm, ⟨38, _⟩ => ⟨S16x40960x512, .f32⟩
  | .hbm, ⟨39, _⟩ => ⟨S16x40960x512, .f32⟩
  | .hbm, ⟨40, _⟩ => ⟨S_, .f32⟩
  | .hbm, ⟨41, _⟩ => ⟨S16x40960x512, .f32⟩
  | .hbm, ⟨42, _⟩ => ⟨S16x40960x512, .f32⟩
  | .hbm, ⟨43, _⟩ => ⟨S16x40960x512, .f32⟩
  | .hbm, ⟨44, _⟩ => ⟨S16x512x40960, .f32⟩
  | .hbm, ⟨45, _⟩ => ⟨S16x40960x512, .f32⟩
  | .hbm, ⟨46, _⟩ => ⟨S16x40960x512, .f32⟩
  | .hbm, ⟨47, _⟩ => ⟨S16x40960, .f32⟩
  | .hbm, ⟨48, _⟩ => ⟨S16x40960x1, .f32⟩
  | .hbm, ⟨49, _⟩ => ⟨S16x40960x2048, .f32⟩
  | .hbm, ⟨50, _⟩ => ⟨S16x40960x2048, .f32⟩
  | .hbm, ⟨51, _⟩ => ⟨S16x40960x2048, .f32⟩
  | .hbm, ⟨52, _⟩ => ⟨S_, .f32⟩
  | .hbm, ⟨53, _⟩ => ⟨S40960x2048, .f32⟩
  | .hbm, ⟨54, _⟩ => ⟨S160x256, .i32⟩
  | .hbm, ⟨55, _⟩ => ⟨S40960, .i32⟩
  | .hbm, ⟨56, _⟩ => ⟨S40960x1, .i32⟩
  | .hbm, ⟨57, _⟩ => ⟨S_, .i32⟩
  | .hbm, ⟨58, _⟩ => ⟨S40960x1, .i32⟩
  | .hbm, ⟨59, _⟩ => ⟨S40960x1, .i1⟩
  | .hbm, ⟨60, _⟩ => ⟨S_, .f32⟩
  | .hbm, ⟨61, _⟩ => ⟨S_, .f32⟩
  | .hbm, ⟨62, _⟩ => ⟨S40960x2048, .i1⟩
  | .hbm, ⟨63, _⟩ => ⟨S40960x2048, .f32⟩
  | .hbm, ⟨64, _⟩ => ⟨S40960x2048, .f32⟩
  | _, _ => ⟨S40960x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c : Ref sig .tc := ⟨.hbm, 57, rfl⟩
abbrev main_v34 : Ref sig .tc := ⟨.hbm, 58, rfl⟩
abbrev main_v35 : Ref sig .tc := ⟨.hbm, 59, rfl⟩
abbrev main_cst_1 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v36 : Ref sig .tc := ⟨.hbm, 64, rfl⟩

abbrev nD : Nat := 1
abbrev τ : Topo := Topo.v7x

variable {F : FTy → Type} [FloatOps F]
-- ==== Project.lean ====
abbrev S33792x2048 : Shape := ⟨2, ![33792, 2048]⟩
abbrev S2x2048x6160 : Shape := ⟨3, ![2, 2048, 6160]⟩
abbrev S33792x6144 : Shape := ⟨2, ![33792, 6144]⟩
abbrev S1536x2048 : Shape := ⟨2, ![1536, 2048]⟩
abbrev S1x2048x1024 : Shape := ⟨3, ![1, 2048, 1024]⟩
abbrev S1536x1024 : Shape := ⟨2, ![1536, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S33792x2048, .bf16⟩
  | .hbm, ⟨1, _⟩ => ⟨S2x2048x6160, .f32⟩
  | .hbm, ⟨2, _⟩ => ⟨S33792x6144, .bf16⟩
  | .local _ .vmem, ⟨0, _⟩ => ⟨S1536x2048, .bf16⟩
  | .local _ .vmem, ⟨1, _⟩ => ⟨S1536x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1536x1024, .bf16⟩
  | .local _ .vmem, ⟨5, _⟩ => ⟨S1536x1024, .bf16⟩
  | .local _ .vmem, ⟨6, _⟩ => ⟨S2048x1024, .bf16⟩
  | _, _ => ⟨S33792x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1536x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectReferenceIdeal.lean ====
abbrev S33792x2048 : Shape := ⟨2, ![33792, 2048]⟩
abbrev S2x2048x6160 : Shape := ⟨3, ![2, 2048, 6160]⟩
abbrev S1x2048x6160 : Shape := ⟨3, ![1, 2048, 6160]⟩
abbrev S2048x6160 : Shape := ⟨2, ![2048, 6160]⟩
abbrev S33792x6160 : Shape := ⟨2, ![33792, 6160]⟩
abbrev S33792x6144 : Shape := ⟨2, ![33792, 6144]⟩

abbrev nBuf : Space → Nat
  | .hbm => 8
  | .vmem => 0
  | .smem => 0
  | _ => 0

abbrev bufTy : (tb : Table) → Fin (tcTables nBuf tb) → BufTy
  | .hbm, ⟨0, _⟩ => ⟨S33792x2048, .bf16⟩
  | .hbm, ⟨1, _⟩ => ⟨S2x2048x6160, .f32⟩
  | .hbm, ⟨2, _⟩ => ⟨S33792x2048, .f32⟩
  | .hbm, ⟨3, _⟩ => ⟨S1x2048x6160, .f32⟩
  | .hbm, ⟨4, _⟩ => ⟨S2048x6160, .f32⟩
  | .hbm, ⟨5, _⟩ => ⟨S33792x6160, .f32⟩
  | .hbm, ⟨6, _⟩ => ⟨S33792x6144, .f32⟩
  | .hbm, ⟨7, _⟩ => ⟨S33792x6144, .bf16⟩
  | _, _ => ⟨S33792x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== ProjectQkv.lean ====
abbrev S33792x2048 : Shape := ⟨2, ![33792, 2048]⟩
abbrev S2x2048x6144 : Shape := ⟨3, ![2, 2048, 6144]⟩
abbrev S33792x6144 : Shape := ⟨2, ![33792, 6144]⟩
abbrev S1536x2048 : Shape := ⟨2, ![1536, 2048]⟩
abbrev S1x2048x1024 : Shape := ⟨3, ![1, 2048, 1024]⟩
abbrev S1536x1024 : Shape := ⟨2, ![1536, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S33792x2048, .bf16⟩
  | .hbm, ⟨1, _⟩ => ⟨S2x2048x6144, .f32⟩
  | .hbm, ⟨2, _⟩ => ⟨S33792x6144, .bf16⟩
  | .local _ .vmem, ⟨0, _⟩ => ⟨S1536x2048, .bf16⟩
  | .local _ .vmem, ⟨1, _⟩ => ⟨S1536x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1536x1024, .bf16⟩
  | .local _ .vmem, ⟨5, _⟩ => ⟨S1536x1024, .bf16⟩
  | .local _ .vmem, ⟨6, _⟩ => ⟨S2048x1024, .bf16⟩
  | _, _ => ⟨S33792x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1536x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectQkvReferenceIdeal.lean ====
abbrev S33792x2048 : Shape := ⟨2, ![33792, 2048]⟩
abbrev S2x2048x6144 : Shape := ⟨3, ![2, 2048, 6144]⟩
abbrev S1x2048x6144 : Shape := ⟨3, ![1, 2048, 6144]⟩
abbrev S2048x6144 : Shape := ⟨2, ![2048, 6144]⟩
abbrev S33792x6144 : Shape := ⟨2, ![33792, 6144]⟩

abbrev nBuf : Space → Nat
  | .hbm => 7
  | .vmem => 0
  | .smem => 0
  | _ => 0

abbrev bufTy : (tb : Table) → Fin (tcTables nBuf tb) → BufTy
  | .hbm, ⟨0, _⟩ => ⟨S33792x2048, .bf16⟩
  | .hbm, ⟨1, _⟩ => ⟨S2x2048x6144, .f32⟩
  | .hbm, ⟨2, _⟩ => ⟨S33792x2048, .f32⟩
  | .hbm, ⟨3, _⟩ => ⟨S1x2048x6144, .f32⟩
  | .hbm, ⟨4, _⟩ => ⟨S2048x6144, .f32⟩
  | .hbm, ⟨5, _⟩ => ⟨S33792x6144, .f32⟩
  | .hbm, ⟨6, _⟩ => ⟨S33792x6144, .bf16⟩
  | _, _ => ⟨S33792x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MixerOut.lean ====
abbrev S33792x2048 : Shape := ⟨2, ![33792, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S33792x2048, .bf16⟩
  | .hbm, ⟨1, _⟩ => ⟨S2048x2048, .f32⟩
  | .hbm, ⟨2, _⟩ => ⟨S33792x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S33792x2048, .f32⟩
  | .hbm, ⟨9, _⟩ => ⟨S33792x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S33792x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![132], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixerOutReferenceIdeal.lean ====
abbrev S33792x2048 : Shape := ⟨2, ![33792, 2048]⟩
abbrev S2048x2048 : Shape := ⟨2, ![2048, 2048]⟩
abbrev S2048 : Shape := ⟨1, ![2048]⟩
abbrev S_ : Shape := ⟨0, ![]⟩
abbrev S33792 : Shape := ⟨1, ![33792]⟩
abbrev S33792x1 : Shape := ⟨2, ![33792, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S33792x2048, .bf16⟩
  | .hbm, ⟨1, _⟩ => ⟨S2048x2048, .f32⟩
  | .hbm, ⟨2, _⟩ => ⟨S33792x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S33792x2048, .f32⟩
  | .hbm, ⟨7, _⟩ => ⟨S33792x2048, .f32⟩
  | .hbm, ⟨8, _⟩ => ⟨S33792x2048, .f32⟩
  | .hbm, ⟨9, _⟩ => ⟨S33792x2048, .f32⟩
  | .hbm, ⟨10, _⟩ => ⟨S33792x2048, .f32⟩
  | .hbm, ⟨11, _⟩ => ⟨S_, .f32⟩
  | .hbm, ⟨12, _⟩ => ⟨S33792, .f32⟩
  | .hbm, ⟨13, _⟩ => ⟨S33792x1, .f32⟩
  | .hbm, ⟨14, _⟩ => ⟨S_, .f32⟩
  | .hbm, ⟨15, _⟩ => ⟨S33792x1, .f32⟩
  | .hbm, ⟨16, _⟩ => ⟨S33792x1, .f32⟩
  | .hbm, ⟨17, _⟩ => ⟨S33792x2048, .f32⟩
  | .hbm, ⟨18, _⟩ => ⟨S33792x2048, .f32⟩
  | .hbm, ⟨19, _⟩ => ⟨S33792x2048, .f32⟩
  | .hbm, ⟨20, _⟩ => ⟨S_, .f32⟩
  | .hbm, ⟨21, _⟩ => ⟨S33792, .f32⟩
  | .hbm, ⟨22, _⟩ => ⟨S33792x1, .f32⟩
  | .hbm, ⟨23, _⟩ => ⟨S_, .f32⟩
  | .hbm, ⟨24, _⟩ => ⟨S33792x1, .f32⟩
  | .hbm, ⟨25, _⟩ => ⟨S33792x1, .f32⟩
  | .hbm, ⟨26, _⟩ => ⟨S33792x2048, .f32⟩
  | .hbm, ⟨27, _⟩ => ⟨S33792x2048, .f32⟩
  | .hbm, ⟨28, _⟩ => ⟨S_, .f32⟩
  | .hbm, ⟨29, _⟩ => ⟨S33792x1, .f32⟩
  | .hbm, ⟨30, _⟩ => ⟨S33792x1, .f32⟩
  | .hbm, ⟨31, _⟩ => ⟨S33792x1, .f32⟩
  | .hbm, ⟨32, _⟩ => ⟨S33792x2048, .f32⟩
  | .hbm, ⟨33, _⟩ => ⟨S33792x2048, .f32⟩
  | .hbm, ⟨34, _⟩ => ⟨S1x2048, .f32⟩
  | .hbm, ⟨35, _⟩ => ⟨S33792x2048, .f32⟩
  | .hbm, ⟨36, _⟩ => ⟨S33792x2048, .f32⟩
  | .hbm, ⟨37, _⟩ => ⟨S1x2048, .f32⟩
  | .hbm, ⟨38, _⟩ => ⟨S33792x2048, .f32⟩
  | .hbm, ⟨39, _⟩ => ⟨S33792x2048, .f32⟩
  | .hbm, ⟨40, _⟩ => ⟨S33792x2048, .bf16⟩
  | _, _ => ⟨S33792x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== LayerOut.lean ====
abbrev S33792x2048 : Shape := ⟨2, ![33792, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S33792x2048, .f32⟩
  | .hbm, ⟨1, _⟩ => ⟨S33792x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S33792x2048, .f32⟩
  | .hbm, ⟨7, _⟩ => ⟨S33792x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S33792x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LayerOutReferenceIdeal.lean ====
abbrev S33792x2048 : Shape := ⟨2, ![33792, 2048]⟩
abbrev S2048 : Shape := ⟨1, ![2048]⟩
abbrev S_ : Shape := ⟨0, ![]⟩
abbrev S33792 : Shape := ⟨1, ![33792]⟩
abbrev S33792x1 : Shape := ⟨2, ![33792, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S33792x2048, .f32⟩
  | .hbm, ⟨1, _⟩ => ⟨S33792x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S33792x2048, .f32⟩
  | .hbm, ⟨6, _⟩ => ⟨S33792x2048, .f32⟩
  | .hbm, ⟨7, _⟩ => ⟨S33792x2048, .f32⟩
  | .hbm, ⟨8, _⟩ => ⟨S_, .f32⟩
  | .hbm, ⟨9, _⟩ => ⟨S33792, .f32⟩
  | .hbm, ⟨10, _⟩ => ⟨S33792x1, .f32⟩
  | .hbm, ⟨11, _⟩ => ⟨S_, .f32⟩
  | .hbm, ⟨12, _⟩ => ⟨S33792x1, .f32⟩
  | .hbm, ⟨13, _⟩ => ⟨S33792x1, .f32⟩
  | .hbm, ⟨14, _⟩ => ⟨S33792x2048, .f32⟩
  | .hbm, ⟨15, _⟩ => ⟨S33792x2048, .f32⟩
  | .hbm, ⟨16, _⟩ => ⟨S33792x2048, .f32⟩
  | .hbm, ⟨17, _⟩ => ⟨S_, .f32⟩
  | .hbm, ⟨18, _⟩ => ⟨S33792, .f32⟩
  | .hbm, ⟨19, _⟩ => ⟨S33792x1, .f32⟩
  | .hbm, ⟨20, _⟩ => ⟨S_, .f32⟩
  | .hbm, ⟨21, _⟩ => ⟨S33792x1, .f32⟩
  | .hbm, ⟨22, _⟩ => ⟨S33792x1, .f32⟩
  | .hbm, ⟨23, _⟩ => ⟨S33792x2048, .f32⟩
  | .hbm, ⟨24, _⟩ => ⟨S33792x2048, .f32⟩
  | .hbm, ⟨25, _⟩ => ⟨S_, .f32⟩
  | .hbm, ⟨26, _⟩ => ⟨S33792x1, .f32⟩
  | .hbm, ⟨27, _⟩ => ⟨S33792x1, .f32⟩
  | .hbm, ⟨28, _⟩ => ⟨S33792x1, .f32⟩
  | .hbm, ⟨29, _⟩ => ⟨S33792x2048, .f32⟩
  | .hbm, ⟨30, _⟩ => ⟨S33792x2048, .f32⟩
  | .hbm, ⟨31, _⟩ => ⟨S1x2048, .f32⟩
  | .hbm, ⟨32, _⟩ => ⟨S33792x2048, .f32⟩
  | .hbm, ⟨33, _⟩ => ⟨S33792x2048, .f32⟩
  | .hbm, ⟨34, _⟩ => ⟨S1x2048, .f32⟩
  | .hbm, ⟨35, _⟩ => ⟨S33792x2048, .f32⟩
  | .hbm, ⟨36, _⟩ => ⟨S33792x2048, .f32⟩
  | .hbm, ⟨37, _⟩ => ⟨S33792x2048, .bf16⟩
  | _, _ => ⟨S33792x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== AttnRows.lean ====
abbrev S33792x2048 : Shape := ⟨2, ![33792, 2048]⟩
abbrev S2048x6144 : Shape := ⟨2, ![2048, 6144]⟩
abbrev S33792x6144 : Shape := ⟨2, ![33792, 6144]⟩
abbrev S512x2048 : Shape := ⟨2, ![512, 2048]⟩
abbrev S2048x1024 : Shape := ⟨2, ![2048, 1024]⟩
abbrev S512x1024 : Shape := ⟨2, ![512, 1024]⟩
abbrev S1024x6144 : Shape := ⟨2, ![1024, 6144]⟩
abbrev S1024x2048 : Shape := ⟨2, ![1024, 2048]⟩
abbrev S32x32x2048 : Shape := ⟨3, ![32, 32, 2048]⟩
abbrev S32768x6144 : Shape := ⟨2, ![32768, 6144]⟩
abbrev S8x4096x3x16x128 : Shape := ⟨5, ![8, 4096, 3, 16, 128]⟩
abbrev S8x512x3x16x128 : Shape := ⟨5, ![8, 512, 3, 16, 128]⟩
abbrev S8x512x1x16x128 : Shape := ⟨5, ![8, 512, 1, 16, 128]⟩
abbrev S8x512x16x128 : Shape := ⟨4, ![8, 512, 16, 128]⟩
abbrev S32x32x16x128 : Shape := ⟨4, ![32, 32, 16, 128]⟩

abbrev nBuf : Space → Nat
  | .hbm => 22
  | .vmem => 6
  | .smem => 0
  | _ => 0

abbrev bufTy : (tb : Table) → Fin (tcTables nBuf tb) → BufTy
  | .hbm, ⟨0, _⟩ => ⟨S33792x2048, .bf16⟩
  | .hbm, ⟨1, _⟩ => ⟨S2048x6144, .f32⟩
  | .hbm, ⟨2, _⟩ => ⟨S2048x6144, .bf16⟩
  | .hbm, ⟨3, _⟩ => ⟨S33792x6144, .bf16⟩
  | .hbm, ⟨4, _⟩ => ⟨S1024x6144, .bf16⟩
  | .hbm, ⟨5, _⟩ => ⟨S1024x2048, .bf16⟩
  | .hbm, ⟨6, _⟩ => ⟨S32x32x2048, .bf16⟩
  | .hbm, ⟨7, _⟩ => ⟨S1024x2048, .bf16⟩
  | .hbm, ⟨8, _⟩ => ⟨S32x32x2048, .bf16⟩
  | .hbm, ⟨9, _⟩ => ⟨S32768x6144, .bf16⟩
  | .hbm, ⟨10, _⟩ => ⟨S8x4096x3x16x128, .bf16⟩
  | .hbm, ⟨11, _⟩ => ⟨S8x512x3x16x128, .bf16⟩
  | .hbm, ⟨12, _⟩ => ⟨S8x512x1x16x128, .bf16⟩
  | .hbm, ⟨13, _⟩ => ⟨S8x512x16x128, .bf16⟩
  | .hbm, ⟨14, _⟩ => ⟨S8x512x16x128, .f32⟩
  | .hbm, ⟨15, _⟩ => ⟨S8x512x1x16x128, .bf16⟩
  | .hbm, ⟨16, _⟩ => ⟨S8x512x16x128, .bf16⟩
  | .hbm, ⟨17, _⟩ => ⟨S8x512x16x128, .f32⟩
  | .hbm, ⟨18, _⟩ => ⟨S32x32x16x128, .bf16⟩
  | .hbm, ⟨19, _⟩ => ⟨S32x32x16x128, .f32⟩
  | .hbm, ⟨20, _⟩ => ⟨S32x32x16x128, .bf16⟩
  | .hbm, ⟨21, _⟩ => ⟨S32x32x16x128, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S33792x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 66], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttnRowsReferenceIdeal.lean ====
abbrev S33792x2048 : Shape := ⟨2, ![33792, 2048]⟩
abbrev S2048x6144 : Shape := ⟨2, ![2048, 6144]⟩
abbrev S32768x2048 : Shape := ⟨2, ![32768, 2048]⟩
abbrev S8x4096x2048 : Shape := ⟨3, ![8, 4096, 2048]⟩
abbrev S8x4096x6144 : Shape := ⟨3, ![8, 4096, 6144]⟩
abbrev S8x4096x3x16x128 : Shape := ⟨5, ![8, 4096, 3, 16, 128]⟩
abbrev S8x4096x1x16x128 : Shape := ⟨5, ![8, 4096, 1, 16, 128]⟩
abbrev S8x4096x16x128 : Shape := ⟨4, ![8, 4096, 16, 128]⟩
abbrev S1024x2048 : Shape := ⟨2, ![1024, 2048]⟩
abbrev S32x32x2048 : Shape := ⟨3, ![32, 32, 2048]⟩
abbrev S32x32x6144 : Shape := ⟨3, ![32, 32, 6144]⟩
abbrev S32x32x3x16x128 : Shape := ⟨5, ![32, 32, 3, 16, 128]⟩
abbrev S32x32x1x16x128 : Shape := ⟨5, ![32, 32, 1, 16, 128]⟩
abbrev S32x32x16x128 : Shape := ⟨4, ![32, 32, 16, 128]⟩
abbrev S8x512x16x128 : Shape := ⟨4, ![8, 512, 16, 128]⟩

abbrev nBuf : Space → Nat
  | .hbm => 25
  | .vmem => 0
  | .smem => 0
  | _ => 0

abbrev bufTy : (tb : Table) → Fin (tcTables nBuf tb) → BufTy
  | .hbm, ⟨0, _⟩ => ⟨S33792x2048, .bf16⟩
  | .hbm, ⟨1, _⟩ => ⟨S2048x6144, .f32⟩
  | .hbm, ⟨2, _⟩ => ⟨S33792x2048, .f32⟩
  | .hbm, ⟨3, _⟩ => ⟨S32768x2048, .f32⟩
  | .hbm, ⟨4, _⟩ => ⟨S8x4096x2048, .f32⟩
  | .hbm, ⟨5, _⟩ => ⟨S8x4096x6144, .f32⟩
  | .hbm, ⟨6, _⟩ => ⟨S8x4096x3x16x128, .f32⟩
  | .hbm, ⟨7, _⟩ => ⟨S8x4096x1x16x128, .f32⟩
  | .hbm, ⟨8, _⟩ => ⟨S8x4096x16x128, .f32⟩
  | .hbm, ⟨9, _⟩ => ⟨S8x4096x1x16x128, .f32⟩
  | .hbm, ⟨10, _⟩ => ⟨S8x4096x16x128, .f32⟩
  | .hbm, ⟨11, _⟩ => ⟨S8x4096x1x16x128, .f32⟩
  | .hbm, ⟨12, _⟩ => ⟨S8x4096x16x128, .f32⟩
  | .hbm, ⟨13, _⟩ => ⟨S1024x2048, .f32⟩
  | .hbm, ⟨14, _⟩ => ⟨S32x32x2048, .f32⟩
  | .hbm, ⟨15, _⟩ => ⟨S32x32x6144, .f32⟩
  | .hbm, ⟨16, _⟩ => ⟨S32x32x3x16x128, .f32⟩
  | .hbm, ⟨17, _⟩ => ⟨S32x32x1x16x128, .f32⟩
  | .hbm, ⟨18, _⟩ => ⟨S32x32x16x128, .f32⟩
  | .hbm, ⟨19, _⟩ => ⟨S32x32x1x16x128, .f32⟩
  | .hbm, ⟨20, _⟩ => ⟨S32x32x16x128, .f32⟩
  | .hbm, ⟨21, _⟩ => ⟨S32x32x1x16x128, .f32⟩
  | .hbm, ⟨22, _⟩ => ⟨S32x32x16x128, .f32⟩
  | .hbm, ⟨23, _⟩ => ⟨S8x512x16x128, .f32⟩
  | .hbm, ⟨24, _⟩ => ⟨S8x512x16x128, .f32⟩
  | _, _ => ⟨S33792x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩

abbrev nD : Nat := 1
abbrev τ : Topo := Topo.v7x

variable {F : FTy → Type} [FloatOps F]
-- ==== Proof.Mlstm.Load.lean ====
module

public import proofs.«01_k».proof.Proof.Gen.KernelIdeal.Frame
public import Idealize.ShloMosaic.Lib.Pointwise
public import Idealize.ShloMosaic.Lib.Pipeline.ReadBack

@[expose] public section

/-! # What the loads of one grid point read

The body of the mLSTM kernel loads head `h`'s columns of the projection blocks, the whole gate blocks, and
one head of the state scratch. Each load is read here as a plain function of the block it loads from. -/

set_option maxRecDepth 16384
set_option synthInstance.maxSize 4096

noncomputable section

namespace Cert.KernelIdeal.Mlstm

open Idealize.ShloMosaic Idealize.ShloMosaic.TcCoe Idealize.ShloMosaic.Tactic
open Idealize.ShloMosaic.Pointwise
open Cert.KernelIdeal Cert.KernelIdeal.Gen

variable {F : FTy → Type} [FloatOps F] [Named F]

/-- The 128 columns of a `32 × 1024` block from column `o` on. -/
def cols128 (o : ℕ) (ho : o + 128 ≤ 1024) (x : Vec F S32x1024 .bf16) : Vec F S32x128 .bf16 :=
  fun i => x (ix2 (i 0) ⟨o + (i 1).val, Nat.lt_of_lt_of_le (Nat.add_lt_add_left (i 1).isLt o) ho⟩)

/-- A load of 128 columns through a block's whole rectangle reads those columns. -/
theorem load_cols128 {m : Memref sig .tc .vmem S32x1024 .bf16} (hm : m.IsWhole) (o : ℕ)
    (i₀ : ∀ a, (![0, 0] : Fin 2 → ℕ) a + S32x1024.size a ≤ S32x1024.size a)
    (i₁ : ∀ a, (![0, o] : Fin 2 → ℕ) a + S32x128.size a ≤ S32x1024.size a) (h) (x : Vec F S32x1024 .bf16) :
    View.readAt (Elt F) m.view ((Rect.unit (s := S32x1024) ![0, 0] ![32, 1024] i₀).withinL
      (Rect.unit (s := S32x1024) ![0, o] ![32, 128] i₁).toLoadRect h) (hm.unread x) = cols128 o (i₁ 1) x := by
  funext i
  rw [View.readAt_apply, hm.read_unread]
  refine congrArg x ?_
  refine (Rect.idx_withinL _ (Rect.unit (s := S32x1024) ![0, o] ![32, 128] i₁).toLoadRect h i).trans (funext fun a => Fin.ext ?_)
  rw [Rect.emb_apply]
  fin_cases a
  · show 0 + 1 * (0 + 1 * (i 0).val) = (i 0).val
    omega
  · show 0 + 1 * (o + 1 * (i 1).val) = o + (i 1).val
    omega

/-- The 256 columns of a `32 × 2048` block from column `o` on. -/
def cols256 (o : ℕ) (ho : o + 256 ≤ 2048) (x : Vec F S32x2048 .bf16) : Vec F S32x256 .bf16 :=
  fun i => x (ix2 (i 0) ⟨o + (i 1).val, Nat.lt_of_lt_of_le (Nat.add_lt_add_left (i 1).isLt o) ho⟩)

/-- A load of 256 columns through a block's whole rectangle reads those columns. -/
theorem load_cols256 {m : Memref sig .tc .vmem S32x2048 .bf16} (hm : m.IsWhole) (o : ℕ)
    (i₀ : ∀ a, (![0, 0] : Fin 2 → ℕ) a + S32x2048.size a ≤ S32x2048.size a)
    (i₁ : ∀ a, (![0, o] : Fin 2 → ℕ) a + S32x256.size a ≤ S32x2048.size a) (h) (x : Vec F S32x2048 .bf16) :
    View.readAt (Elt F) m.view ((Rect.unit (s := S32x2048) ![0, 0] ![32, 2048] i₀).withinL
      (Rect.unit (s := S32x2048) ![0, o] ![32, 256] i₁).toLoadRect h) (hm.unread x) = cols256 o (i₁ 1) x := by
  funext i
  rw [View.readAt_apply, hm.read_unread]
  refine congrArg x ?_
  refine (Rect.idx_withinL _ (Rect.unit (s := S32x2048) ![0, o] ![32, 256] i₁).toLoadRect h i).trans (funext fun a => Fin.ext ?_)
  rw [Rect.emb_apply]
  fin_cases a
  · show 0 + 1 * (0 + 1 * (i 0).val) = (i 0).val
    omega
  · show 0 + 1 * (o + 1 * (i 1).val) = o + (i 1).val
    omega

/-- The 256 lanes of the gain row from lane `o` on. -/
def gain256 (o : ℕ) (ho : o + 256 ≤ 2048) (x : Vec F S1x2048 .f32) : Vec F S1x256 .f32 :=
  fun i => x (ix2 (i 0) ⟨o + (i 1).val, Nat.lt_of_lt_of_le (Nat.add_lt_add_left (i 1).isLt o) ho⟩)

/-- A load of 256 lanes of the gain row reads those lanes. -/
theorem load_gain256 {m : Memref sig .tc .vmem S1x2048 .f32} (hm : m.IsWhole) (o : ℕ)
    (i₁ : ∀ a, (![0, o] : Fin 2 → ℕ) a + S1x256.size a ≤ S1x2048.size a) (x : Vec F S1x2048 .f32) :
    View.readAt (Elt F) m.view (Rect.unit (s := S1x2048) ![0, o] ![1, 256] i₁).toLoadRect (hm.unread x) = gain256 o (i₁ 1) x := by
  funext i
  rw [View.readAt_apply, hm.read_unread]
  refine congrArg x (funext fun a => Fin.ext ?_)
  rw [LoadRect.idx_apply]
  fin_cases a
  · show 0 + 1 * (i 0).val = (i 0).val
    omega
  · show o + 1 * (i 1).val = o + (i 1).val
    omega

/-- A load of a whole block reads the block. -/
theorem load_S32x128 {m : Memref sig .tc .vmem S32x128 .f32} (hm : m.IsWhole) (i₀ : ∀ a, (![0, 0] : Fin 2 → ℕ) a + S32x128.size a ≤ S32x128.size a) (x : Vec F S32x128 .f32) :
    View.readAt (Elt F) m.view (Rect.unit (s := S32x128) ![0, 0] ![32, 128] i₀).toLoadRect (hm.unread x) = x := by
  rw [View.readAt_eq_ld, hm.read_unread]
  exact View.ld_unit_zero (S := S32x128) (funext fun a => by fin_cases a <;> rfl) _ x

/-- A load of a whole block reads the block. -/
theorem load_S1x128 {m : Memref sig .tc .vmem S1x128 .f32} (hm : m.IsWhole) (i₀ : ∀ a, (![0, 0] : Fin 2 → ℕ) a + S1x128.size a ≤ S1x128.size a) (x : Vec F S1x128 .f32) :
    View.readAt (Elt F) m.view (Rect.unit (s := S1x128) ![0, 0] ![1, 128] i₀).toLoadRect (hm.unread x) = x := by
  rw [View.readAt_eq_ld, hm.read_unread]
  exact View.ld_unit_zero (S := S1x128) (funext fun a => by fin_cases a <;> rfl) _ x

/-- A load of a whole block reads the block. -/
theorem load_S1x1x128 {m : Memref sig .tc .vmem S1x1x128 .f32} (hm : m.IsWhole) (i₀ : ∀ a, (![0, 0, 0] : Fin 3 → ℕ) a + S1x1x128.size a ≤ S1x1x128.size a) (x : Vec F S1x1x128 .f32) :
    View.readAt (Elt F) m.view (Rect.unit (s := S1x1x128) ![0, 0, 0] ![1, 1, 128] i₀).toLoadRect (hm.unread x) = x := by
  rw [View.readAt_eq_ld, hm.read_unread]
  exact View.ld_unit_zero (S := S1x1x128) (funext fun a => by fin_cases a <;> rfl) _ x

/-- A load of a whole block reads the block. -/
theorem load_S1x8x128x256 {m : Memref sig .tc .vmem S1x8x128x256 .f32} (hm : m.IsWhole) (i₀ : ∀ a, (![0, 0, 0, 0] : Fin 4 → ℕ) a + S1x8x128x256.size a ≤ S1x8x128x256.size a) (x : Vec F S1x8x128x256 .f32) :
    View.readAt (Elt F) m.view (Rect.unit (s := S1x8x128x256) ![0, 0, 0, 0] ![1, 8, 128, 256] i₀).toLoadRect (hm.unread x) = x := by
  rw [View.readAt_eq_ld, hm.read_unread]
  exact View.ld_unit_zero (S := S1x8x128x256) (funext fun a => by fin_cases a <;> rfl) _ x

/-- A load of a whole block reads the block. -/
theorem load_S1x8x128x128 {m : Memref sig .tc .vmem S1x8x128x128 .f32} (hm : m.IsWhole) (i₀ : ∀ a, (![0, 0, 0, 0] : Fin 4 → ℕ) a + S1x8x128x128.size a ≤ S1x8x128x128.size a) (x : Vec F S1x8x128x128 .f32) :
    View.readAt (Elt F) m.view (Rect.unit (s := S1x8x128x128) ![0, 0, 0, 0] ![1, 8, 128, 128] i₀).toLoadRect (hm.unread x) = x := by
  rw [View.readAt_eq_ld, hm.read_unread]
  exact View.ld_unit_zero (S := S1x8x128x128) (funext fun a => by fin_cases a <;> rfl) _ x

end Cert.KernelIdeal.Mlstm

end
-- ==== Proof.Mlstm.Stage.lean ====
module

public import proofs.«01_k».proof.Proof.Mlstm.Load

@[expose] public section

/-! # One head of the mLSTM body, as functions of the blocks

The kernel's body treats the eight heads one after another with the same operations at another lane. The
functions below name those operations once, for a head `h`: the decay matrix times the scores, the query side
of the carried state, the normalised hidden state, the gated output, and the new state. -/

set_option maxRecDepth 16384
set_option synthInstance.maxSize 4096

noncomputable section

namespace Cert.KernelIdeal.Mlstm

open Idealize.ShloMosaic Idealize.ShloMosaic.TcCoe Idealize.ShloMosaic.Tactic
open Idealize.ShloMosaic.Pointwise Idealize.SL.Sem
open Cert.KernelIdeal Cert.KernelIdeal.Gen

variable {F : FTy → Type} [FloatOps F] [Named F]

theorem slices_lane (h : Fin 8) : S32x128.Slices ![0, h.val] S32x1 := by revert h; decide
theorem slices_row (h : Fin 8) : S128x128.Slices ![h.val, 0] S1x32 := by revert h; decide
theorem slices_one (h : Fin 8) : S1x128.Slices ![0, h.val] S1x1 := by revert h; decide
theorem le128 (h : Fin 8) : 128 * h.val + 128 ≤ 1024 := by omega
theorem le256 (h : Fin 8) : 256 * h.val + 256 ≤ 2048 := by omega

/-- The gates of all heads after the soft cap. -/
def preS (x4 : Vec F S32x128 .f32) (x5 : Vec F S1x128 .f32) : FVec F S32x128 .f32 := k0_pay9 x4 x5
/-- The running sum of the log forget gates. -/
def btS (x4 : Vec F S32x128 .f32) (x5 : Vec F S1x128 .f32) : FVec F S32x128 .f32 :=
  k0_pay17 k0_pay8 (k0_pay14 x4 x5) (k0_pay15 x4 x5) (k0_pay16 x4 x5) (constant S32x128 .f32 0x00000000#32)
/-- The input gate less the running sum. -/
def aS (x4 : Vec F S32x128 .f32) (x5 : Vec F S1x128 .f32) : FVec F S32x128 .f32 :=
  k0_pay18 k0_pay8 (k0_pay9 x4 x5) (k0_pay14 x4 x5) (k0_pay15 x4 x5) (k0_pay16 x4 x5) (constant S32x128 .f32 0x00000000#32)
/-- The running maximum, one value per row and head. -/
def mtS (x4 : Vec F S32x128 .f32) (x5 : Vec F S1x128 .f32) (x9 : Vec F S1x1x128 .f32) : FVec F S32x128 .f32 :=
  k0_pay20 k0_pay8 (k0_pay9 x4 x5) (k0_pay14 x4 x5) (k0_pay15 x4 x5) (k0_pay16 x4 x5) (constant S32x128 .f32 0x00000000#32) (k0_pay6 x9)
/-- The running sum less the running maximum. -/
def uS (x4 : Vec F S32x128 .f32) (x5 : Vec F S1x128 .f32) (x9 : Vec F S1x1x128 .f32) : FVec F S32x128 .f32 :=
  subf (btS x4 x5) (mtS x4 x5 x9)
/-- The weight of each row in the new state. -/
def wS (x4 : Vec F S32x128 .f32) (x5 : Vec F S1x128 .f32) (x9 : Vec F S1x1x128 .f32) : FVec F S32x128 .f32 :=
  k0_pay25 (btS x4 x5) (aS x4 x5) (mtS x4 x5 x9)
/-- The decay of the carried state over the whole block. -/
def decS (x4 : Vec F S32x128 .f32) (x5 : Vec F S1x128 .f32) (x9 : Vec F S1x1x128 .f32) : FVec F S1x128 .f32 :=
  k0_pay26 (btS x4 x5) (k0_pay19 (k0_pay6 x9)) (mtS x4 x5 x9)
/-- The two row factors of every head, side by side: the carried state's and the floor of the denominator. -/
def ieS (x4 : Vec F S32x128 .f32) (x5 : Vec F S1x128 .f32) (x9 : Vec F S1x1x128 .f32) : FVec F S32x256 .bf16 :=
  k0_pay29 (btS x4 x5) (mtS x4 x5 x9) (k0_pay22 (k0_pay6 x9))

/-- One head's lane of the two row factors, spread over its 128 lanes. -/
def iebS (h : Fin 8) (ie : FVec F S32x256 .bf16) : FVec F S32x256 .f32 :=
  matmul dot_S32x256_S256x256_S32x256_1_0_0_1_n_n none ie
    (truncf .bf16 (select
      (andi k0_pay30 (cmpi .eq
        (andi (iota .tc S256x256 32 [0] iota_S256x256_d0_w32) (broadcast S256x256 127#32))
        (broadcast S256x256 (BitVec.ofNat 32 h.val))))
      (broadcast S256x256 (Scalar.ofBits (F := F) .f32 0x3F800000#32))
      (broadcast S256x256 (Scalar.ofBits (F := F) .f32 0x00000000#32))) bitsLt_bf16_f32)
    (constant S32x256 .f32 0x00000000#32)

/-- The scores of one head under the decay matrix. -/
def scS (h : Fin 8) (u : FVec F S32x128 .f32) (at_ : FVec F S128x128 .f32) (qk : FVec F S32x32 .f32) : FVec F S32x32 .f32 :=
  mulf qk (mulf (select k0_pay7 (exp (addf
      (broadcastTo S32x32 (extractStridedSlice S32x1 ![0, h.val] u (slices_lane h)) broadcasts_S32x1_S32x32)
      (broadcastTo S32x32 (extractStridedSlice S1x32 ![h.val, 0] at_ (slices_row h)) broadcasts_S1x32_S32x32)))
      (broadcast S32x32 (Scalar.ofBits .f32 0x00000000#32)))
    (broadcast S32x32 (Scalar.ofBits .f32 0x3DB504F3#32)))

/-- Head `h` of the carried state: the matrix, then the normaliser's columns. -/
def stS (h : Fin 8) (x7 : Vec F S1x8x128x256 .f32) (x8 : Vec F S1x8x128x128 .f32) : Vec F S1x128x384 .f32 :=
  fun i => if hc : (i 2).val < 256 then x7 (ix4 0 h (i 1) ⟨(i 2).val, hc⟩)
    else x8 (ix4 0 h (i 1) ⟨(i 2).val - 256, by have := (i 2).isLt; change (i 2).val < 384 at this; omega⟩)

/-- One head's output before normalisation: numerator columns, then the two denominator parts. -/
def outS (h : Fin 8) (x0 x1 : Vec F S32x1024 .bf16) (x2 : Vec F S32x2048 .bf16) (x4 : Vec F S32x128 .f32) (x5 : Vec F S1x128 .f32)
    (x7 : Vec F S1x8x128x256 .f32) (x8 : Vec F S1x8x128x128 .f32) (x9 : Vec F S1x1x128 .f32) : FVec F S32x512 .f32 :=
  k0_pay55 k0_pay31 k0_pay32 k0_pay33 (iebS h (ieS x4 x5 x9))
    (scS h (uS x4 x5 x9) (k0_pay28 (aS x4 x5)) (k0_pay37 (cols128 (128 * h.val) (le128 h) x0) (cols128 (128 * h.val) (le128 h) x1)))
    (k0_pay54 (cols128 (128 * h.val) (le128 h) x0)) (stS h x7 x8) (cols256 (256 * h.val) (le256 h) x2)

/-- One head's normalised hidden state. -/
def hhS (h : Fin 8) (x0 x1 : Vec F S32x1024 .bf16) (x2 : Vec F S32x2048 .bf16) (x4 : Vec F S32x128 .f32) (x5 : Vec F S1x128 .f32)
    (x7 : Vec F S1x8x128x256 .f32) (x8 : Vec F S1x8x128x128 .f32) (x9 : Vec F S1x1x128 .f32) : FVec F S32x256 .f32 :=
  k0_pay75 (iebS h (ieS x4 x5 x9)) (outS h x0 x1 x2 x4 x5 x7 x8 x9)

/-- The sum of squares of one head's hidden state. -/
def msS (h : Fin 8) (x0 x1 : Vec F S32x1024 .bf16) (x2 : Vec F S32x2048 .bf16) (x4 : Vec F S32x128 .f32) (x5 : Vec F S1x128 .f32)
    (x7 : Vec F S1x8x128x256 .f32) (x8 : Vec F S1x8x128x128 .f32) (x9 : Vec F S1x1x128 .f32) : FVec F S32x128 .f32 :=
  k0_pay76 k0_pay34 (iebS h (ieS x4 x5 x9)) (outS h x0 x1 x2 x4 x5 x7 x8 x9)

/-- One head's gated output. -/
def yS (h : Fin 8) (x0 x1 : Vec F S32x1024 .bf16) (x2 x3 : Vec F S32x2048 .bf16) (x4 : Vec F S32x128 .f32) (x5 : Vec F S1x128 .f32)
    (x6 : Vec F S1x2048 .f32) (x7 : Vec F S1x8x128x256 .f32) (x8 : Vec F S1x8x128x128 .f32) (x9 : Vec F S1x1x128 .f32) : Vec F S32x256 .bf16 :=
  k0_pay96 (k0_pay93 (cols256 (256 * h.val) (le256 h) x3))
    (k0_pay94 (hhS h x0 x1 x2 x4 x5 x7 x8 x9) (msS h x0 x1 x2 x4 x5 x7 x8 x9))
    (k0_pay95 (gain256 (256 * h.val) (le256 h) x6))

/-- What one head's rows add to the carried state. -/
def updS (h : Fin 8) (w : FVec F S32x128 .f32) (k : Vec F S32x128 .bf16) (v : Vec F S32x256 .bf16) : FVec F S128x384 .f32 :=
  matmul dot_S32x128_S32x384_S128x384_0_0_1_1_n_n none
    (truncf .bf16 (mulf (extf .f32 k bitsLt_bf16_f32) (broadcastTo S32x128
      (mulf (extractStridedSlice S32x1 ![0, h.val] w (slices_lane h)) (broadcast S32x1 (Scalar.ofBits .f32 0x3DB504F3#32)))
      broadcasts_S32x1_S32x128)) bitsLt_bf16_f32)
    (concatenate S32x384 1 [⟨S32x256, v⟩, ⟨S32x128, (k0_pay31 : FVec F S32x128 .bf16)⟩] concatenates_S32x256_S32x128_S32x384_d1)
    (constant S128x384 .f32 0x00000000#32)

/-- One head's new state from the decay, the update and the carried state. -/
def nxS (h : Fin 8) (d : FVec F S1x128 .f32) (p : FVec F S128x384 .f32) (s : Vec F S1x128x384 .f32) : FVec F S1x128x384 .f32 :=
  shapeCast S1x128x384 (addf (mulf
      (broadcastTo S128x384 (extractStridedSlice S1x1 ![0, h.val] d (slices_one h)) broadcasts_S1x1_S128x384)
      (shapeCast S128x384 s shapeCasts_S1x128x384_S128x384)) p) shapeCasts_S128x384_S1x128x384

/-- One head's new state. -/
def nstS (h : Fin 8) (x1 : Vec F S32x1024 .bf16) (x2 : Vec F S32x2048 .bf16) (x4 : Vec F S32x128 .f32) (x5 : Vec F S1x128 .f32)
    (x7 : Vec F S1x8x128x256 .f32) (x8 : Vec F S1x8x128x128 .f32) (x9 : Vec F S1x1x128 .f32) : Vec F S1x128x384 .f32 :=
  nxS h (decS x4 x5 x9)
    (updS h (wS x4 x5 x9) (cols128 (128 * h.val) (le128 h) x1) (cols256 (256 * h.val) (le256 h) x2))
    (stS h x7 x8)

end Cert.KernelIdeal.Mlstm

end
-- ==== Proof.Mlstm.State.lean ====
module

public import proofs.«01_k».proof.Proof.Mlstm.Stage

@[expose] public section

/-! # The carried state in scratch

The body first copies the state matrix into the leading columns of the scratch and the normaliser into the
rest, then reads one head at a time. Updates of earlier heads do not touch a later head's rows. -/

set_option maxRecDepth 16384
set_option synthInstance.maxSize 4096

noncomputable section

namespace Cert.KernelIdeal.Mlstm

open Idealize.ShloMosaic Idealize.ShloMosaic.TcCoe Idealize.ShloMosaic.Tactic
open Idealize.ShloMosaic.Pointwise Idealize.SL.Sem
open Cert.KernelIdeal Cert.KernelIdeal.Gen

variable {F : FTy → Type} [FloatOps F] [Named F]

/-- The whole carried state: the matrix, then the normaliser's columns. -/
def stG (x7 : Vec F S1x8x128x256 .f32) (x8 : Vec F S1x8x128x128 .f32) : Vec F S8x128x384 .f32 :=
  fun i => if hc : (i 2).val < 256 then x7 (ix4 0 (i 0) (i 1) ⟨(i 2).val, hc⟩)
    else x8 (ix4 0 (i 0) (i 1) ⟨(i 2).val - 256, by have := (i 2).isLt; change (i 2).val < 384 at this; omega⟩)

theorem pay4_apply (x7 : Vec F S1x8x128x256 .f32) (a : Fin 8) (b : Fin 128) (e : Fin 256) :
    k0_pay4 x7 (ix3 a b e) = x7 (ix4 0 a b e) := by
  pointwise [k0_pay4]

theorem pay5_apply (x8 : Vec F S1x8x128x128 .f32) (a : Fin 8) (b : Fin 128) (e : Fin 128) :
    k0_pay5 x8 (ix3 a b e) = x8 (ix4 0 a b e) := by
  pointwise [k0_pay5]

theorem ix4_congr {n0 n1 n2 n3 : ℕ} {a a' : Fin n0} {b b' : Fin n1} {c c' : Fin n2} {e e' : Fin n3}
    (ha : a = a') (hb : b = b') (hc : c = c') (he : e = e') : ix4 a b c e = ix4 a' b' c' e' := by
  rw [ha, hb, hc, he]

/-- The scratch after the copies holds the whole carried state. -/
theorem canon_state (i₁ : ∀ a, (![0, 0, 256] : Fin 3 → ℕ) a + S8x128x128.size a ≤ S8x128x384.size a)
    (i₀ : ∀ a, (![0, 0, 0] : Fin 3 → ℕ) a + S8x128x256.size a ≤ S8x128x384.size a)
    (x7 : Vec F S1x8x128x256 .f32) (x8 : Vec F S1x8x128x128 .f32) (y : S8x128x384.Idx) :
    View.canon (Val := Elt F) (s := S8x128x384) (e := .f32) [⟨Rect.unit (s := S8x128x384) ![0, 0, 256] ![8, 128, 128] i₁, k0_pay5 x8⟩,
      ⟨Rect.unit (s := S8x128x384) ![0, 0, 0] ![8, 128, 256] i₀, k0_pay4 x7⟩] y = stG x7 x8 y := by
  refine View.canon_apply_of_pieces (stG x7 x8) _ ?_ y ?_
  · intro p hp x
    rcases List.mem_cons.mp hp with rfl | hp
    · obtain ⟨a, b, e, rfl⟩ : ∃ (a : Fin 8) (b : Fin 128) (e : Fin 128), x = ix3 a b e :=
        ⟨x 0, x 1, x 2, by funext a; fin_cases a <;> rfl⟩
      refine (pay5_apply x8 a b e).trans ?_
      unfold stG
      have h0 : (Rect.unit (s := S8x128x384) ![0, 0, 256] ![8, 128, 128] i₁).emb (ix3 a b e) 0 = a :=
        Fin.ext (by show 0 + 1 * a.val = a.val; omega)
      have h1 : (Rect.unit (s := S8x128x384) ![0, 0, 256] ![8, 128, 128] i₁).emb (ix3 a b e) 1 = b :=
        Fin.ext (by show 0 + 1 * b.val = b.val; omega)
      have h2 : ((Rect.unit (s := S8x128x384) ![0, 0, 256] ![8, 128, 128] i₁).emb (ix3 a b e) 2).val = 256 + 1 * e.val := rfl
      rw [dif_neg (by rw [h2]; omega)]
      refine congrArg x8 (ix4_congr rfl h0.symm h1.symm (Fin.ext ?_))
      show e.val = (256 + 1 * e.val) - 256
      omega
    · rcases List.mem_singleton.mp hp with rfl
      obtain ⟨a, b, e, rfl⟩ : ∃ (a : Fin 8) (b : Fin 128) (e : Fin 256), x = ix3 a b e :=
        ⟨x 0, x 1, x 2, by funext a; fin_cases a <;> rfl⟩
      refine (pay4_apply x7 a b e).trans ?_
      unfold stG
      have h0 : (Rect.unit (s := S8x128x384) ![0, 0, 0] ![8, 128, 256] i₀).emb (ix3 a b e) 0 = a :=
        Fin.ext (by show 0 + 1 * a.val = a.val; omega)
      have h1 : (Rect.unit (s := S8x128x384) ![0, 0, 0] ![8, 128, 256] i₀).emb (ix3 a b e) 1 = b :=
        Fin.ext (by show 0 + 1 * b.val = b.val; omega)
      have h2 : ((Rect.unit (s := S8x128x384) ![0, 0, 0] ![8, 128, 256] i₀).emb (ix3 a b e) 2).val = 0 + 1 * e.val := rfl
      rw [dif_pos (by rw [h2]; omega)]
      refine congrArg x7 (ix4_congr rfl h0.symm h1.symm (Fin.ext ?_))
      show e.val = 0 + 1 * e.val
      omega
  · by_cases hc : (y 2).val < 256
    · refine ⟨_, List.mem_cons_of_mem _ (List.mem_singleton.mpr rfl), (Rect.mem_set_unit (inb := i₀)).mpr fun a => ?_⟩
      fin_cases a
      · exact ⟨Nat.zero_le _, by simpa using (y 0).isLt⟩
      · exact ⟨Nat.zero_le _, by simpa using (y 1).isLt⟩
      · exact ⟨Nat.zero_le _, by simpa using hc⟩
    · refine ⟨_, List.mem_cons_self, (Rect.mem_set_unit (inb := i₁)).mpr fun a => ?_⟩
      fin_cases a
      · exact ⟨Nat.zero_le _, by simpa using (y 0).isLt⟩
      · exact ⟨Nat.zero_le _, by simpa using (y 1).isLt⟩
      · exact ⟨by simpa using hc, by simpa using (y 2).isLt⟩

theorem readCov_state (h : Fin 8) {v : View sig .tc .vmem S8x128x384 .f32} (i₁) (i₀)
    (ih : ∀ a, (![h.val, 0, 0] : Fin 3 → ℕ) a + S1x128x384.size a ≤ S8x128x384.size a)
    (x7 : Vec F S1x8x128x256 .f32) (x8 : Vec F S1x8x128x128 .f32) :
    v.readCov (Val := Elt F) [⟨Rect.unit (s := S8x128x384) ![0, 0, 256] ![8, 128, 128] i₁, k0_pay5 x8⟩,
      ⟨Rect.unit (s := S8x128x384) ![0, 0, 0] ![8, 128, 256] i₀, k0_pay4 x7⟩]
      (Rect.unit (s := S8x128x384) ![h.val, 0, 0] S1x128x384.size ih).toLoadRect = stS h x7 x8 := by
  rw [View.readCov_eq_canon']
  funext j
  refine (canon_state i₁ i₀ x7 x8 _).trans ?_
  have h0 : (Rect.unit (s := S8x128x384) ![h.val, 0, 0] S1x128x384.size ih).toLoadRect.idx j 0 = h :=
    Fin.ext (by have := (j 0).isLt; change (j 0).val < 1 at this; show h.val + 1 * (j 0).val = h.val; omega)
  have h1 : (Rect.unit (s := S8x128x384) ![h.val, 0, 0] S1x128x384.size ih).toLoadRect.idx j 1 = j 1 :=
    Fin.ext (by show 0 + 1 * (j 1).val = (j 1).val; omega)
  have h2 : ((Rect.unit (s := S8x128x384) ![h.val, 0, 0] S1x128x384.size ih).toLoadRect.idx j 2).val = (j 2).val := by
    show 0 + 1 * (j 2).val = (j 2).val; omega
  unfold stG stS
  by_cases hc : (j 2).val < 256
  · rw [dif_pos (h2.trans_lt hc), dif_pos hc]
    exact congrArg x7 (ix4_congr rfl h0 h1 (Fin.ext h2))
  · rw [dif_neg (by rw [h2]; exact hc), dif_neg hc]
    exact congrArg x8 (ix4_congr rfl h0 h1 (Fin.ext (congrArg (· - 256) h2)))

theorem readCov_m {v : View sig .tc .vmem S1x1x128 .f32} (i₁) (i₀) (x9 : FVec F S1x1x128 .f32) :
    v.readCov (Val := Elt F) [⟨Rect.unit (s := S1x1x128) ![0, 0, 0] S1x1x128.size i₁, x9⟩]
      (Rect.unit (s := S1x1x128) ![0, 0, 0] S1x1x128.size i₀).toLoadRect = x9 := by
  exact View.readCov_unit_zero (S := S1x1x128) _ (by funext a; fin_cases a <;> rfl) _ _

end Cert.KernelIdeal.Mlstm

end
-- ==== Proof.Mlstm.Tile.lean ====
module

public import proofs.«01_k».proof.Proof.Mlstm.State

@[expose] public section

/-! # Eight heads side by side

Eight stores of one head each, read back as one block. -/

set_option maxRecDepth 16384
set_option synthInstance.maxSize 4096

noncomputable section

namespace Cert.KernelIdeal.Mlstm

open Idealize.ShloMosaic Idealize.ShloMosaic.TcCoe Idealize.ShloMosaic.Tactic
open Idealize.ShloMosaic.Pointwise Idealize.SL.Sem
open Cert.KernelIdeal Cert.KernelIdeal.Gen

variable {F : FTy → Type} [FloatOps F] [Named F]

theorem lt384 (e : Fin 256) : e.val < 384 := by omega
theorem lt384' (e : Fin 128) : 256 + e.val < 384 := by omega

/-- The eight heads' blocks of 256 lanes, side by side. -/
def yG (w : Fin 8 → Vec F S32x256 .bf16) : Vec F S32x2048 .bf16 :=
  fun i => w ⟨(i 1).val / 256, by have := (i 1).isLt; change (i 1).val < 2048 at this; omega⟩
    (ix2 (i 0) ⟨(i 1).val % 256, Nat.mod_lt _ (by decide)⟩)

theorem piece_y (w : Fin 8 → Vec F S32x256 .bf16) (h : Fin 8) (ib : ∀ a, (![0, 256 * h.val] : Fin 2 → ℕ) a + S32x256.size a ≤ S32x2048.size a)
    (x : S32x256.Idx) : w h x = yG w ((Rect.unit (s := S32x2048) ![0, 256 * h.val] S32x256.size ib).emb x) := by
  obtain ⟨a, e, rfl⟩ : ∃ (a : Fin 32) (e : Fin 256), x = ix2 a e := ⟨x 0, x 1, by funext a; fin_cases a <;> rfl⟩
  unfold yG
  have h0 : (Rect.unit (s := S32x2048) ![0, 256 * h.val] S32x256.size ib).emb (ix2 a e) 0 = a :=
    Fin.ext (by show 0 + 1 * a.val = a.val; omega)
  have h1 : ((Rect.unit (s := S32x2048) ![0, 256 * h.val] S32x256.size ib).emb (ix2 a e) 1).val = 256 * h.val + 1 * e.val := rfl
  have e1 : (⟨((Rect.unit (s := S32x2048) ![0, 256 * h.val] S32x256.size ib).emb (ix2 a e) 1).val / 256, by rw [h1]; omega⟩ : Fin 8) = h :=
    Fin.ext (by show _ / 256 = _; rw [h1]; omega)
  have e2 : (⟨((Rect.unit (s := S32x2048) ![0, 256 * h.val] S32x256.size ib).emb (ix2 a e) 1).val % 256, Nat.mod_lt _ (by decide)⟩ : Fin 256) = e :=
    Fin.ext (by show _ % 256 = _; rw [h1]; omega)
  rw [h0, e1, e2]

/-- Eight stores of 256 lanes fill the block. -/
theorem canon_y (w : Fin 8 → Vec F S32x256 .bf16)
    (i0 : ∀ a, (![0, 256 * (0 : Fin 8).val] : Fin 2 → ℕ) a + S32x256.size a ≤ S32x2048.size a)
    (i1 : ∀ a, (![0, 256 * (1 : Fin 8).val] : Fin 2 → ℕ) a + S32x256.size a ≤ S32x2048.size a)
    (i2 : ∀ a, (![0, 256 * (2 : Fin 8).val] : Fin 2 → ℕ) a + S32x256.size a ≤ S32x2048.size a)
    (i3 : ∀ a, (![0, 256 * (3 : Fin 8).val] : Fin 2 → ℕ) a + S32x256.size a ≤ S32x2048.size a)
    (i4 : ∀ a, (![0, 256 * (4 : Fin 8).val] : Fin 2 → ℕ) a + S32x256.size a ≤ S32x2048.size a)
    (i5 : ∀ a, (![0, 256 * (5 : Fin 8).val] : Fin 2 → ℕ) a + S32x256.size a ≤ S32x2048.size a)
    (i6 : ∀ a, (![0, 256 * (6 : Fin 8).val] : Fin 2 → ℕ) a + S32x256.size a ≤ S32x2048.size a)
    (i7 : ∀ a, (![0, 256 * (7 : Fin 8).val] : Fin 2 → ℕ) a + S32x256.size a ≤ S32x2048.size a) :
    View.canon (Val := Elt F) (s := S32x2048) (e := .bf16) [⟨Rect.unit (s := S32x2048) ![0, 256 * (7 : Fin 8).val] S32x256.size i7, w 7⟩,
      ⟨Rect.unit (s := S32x2048) ![0, 256 * (6 : Fin 8).val] S32x256.size i6, w 6⟩,
      ⟨Rect.unit (s := S32x2048) ![0, 256 * (5 : Fin 8).val] S32x256.size i5, w 5⟩,
      ⟨Rect.unit (s := S32x2048) ![0, 256 * (4 : Fin 8).val] S32x256.size i4, w 4⟩,
      ⟨Rect.unit (s := S32x2048) ![0, 256 * (3 : Fin 8).val] S32x256.size i3, w 3⟩,
      ⟨Rect.unit (s := S32x2048) ![0, 256 * (2 : Fin 8).val] S32x256.size i2, w 2⟩,
      ⟨Rect.unit (s := S32x2048) ![0, 256 * (1 : Fin 8).val] S32x256.size i1, w 1⟩,
      ⟨Rect.unit (s := S32x2048) ![0, 256 * (0 : Fin 8).val] S32x256.size i0, w 0⟩] = yG w := by
  funext y
  refine View.canon_apply_of_pieces (yG w) _ ?_ y ?_
  · intro p hp
    simp only [List.mem_cons, List.not_mem_nil, or_false] at hp
    rcases hp with rfl | rfl | rfl | rfl | rfl | rfl | rfl | rfl
    · exact piece_y w 7 i7
    · exact piece_y w 6 i6
    · exact piece_y w 5 i5
    · exact piece_y w 4 i4
    · exact piece_y w 3 i3
    · exact piece_y w 2 i2
    · exact piece_y w 1 i1
    · exact piece_y w 0 i0
  · have hy := (y 1).isLt
    change (y 1).val < 2048 at hy
    have hm : ∀ (h : Fin 8) (ib : ∀ a, (![0, 256 * h.val] : Fin 2 → ℕ) a + S32x256.size a ≤ S32x2048.size a), (y 1).val / 256 = h.val →
        y ∈ (Rect.unit (s := S32x2048) ![0, 256 * h.val] S32x256.size ib).set := fun h ib e => by
      refine (Rect.mem_set_unit (inb := ib)).mpr fun a => ?_
      fin_cases a
      · exact ⟨Nat.zero_le _, by simpa using (y 0).isLt⟩
      · refine ⟨?_, ?_⟩
        · show 256 * h.val ≤ (y 1).val
          omega
        · show (y 1).val < 256 * h.val + 256
          omega
    have hlt : (y 1).val / 256 < 8 := by omega
    simp only [List.exists_mem_cons_iff]
    interval_cases hq : (y 1).val / 256
    · exact (Or.inr (Or.inr (Or.inr (Or.inr (Or.inr (Or.inr (Or.inr (Or.inl (hm 0 i0 rfl)))))))))
    · exact (Or.inr (Or.inr (Or.inr (Or.inr (Or.inr (Or.inr (Or.inl (hm 1 i1 rfl))))))))
    · exact (Or.inr (Or.inr (Or.inr (Or.inr (Or.inr (Or.inl (hm 2 i2 rfl)))))))
    · exact (Or.inr (Or.inr (Or.inr (Or.inr (Or.inl (hm 3 i3 rfl))))))
    · exact (Or.inr (Or.inr (Or.inr (Or.inl (hm 4 i4 rfl)))))
    · exact (Or.inr (Or.inr (Or.inl (hm 5 i5 rfl))))
    · exact (Or.inr (Or.inl (hm 6 i6 rfl)))
    · exact (Or.inl (hm 7 i7 rfl))

/-- The scratch's stores of the eight new heads, newest first. -/
def stPieces (w : Fin 8 → Vec F S1x128x384 .f32) : List (View.Piece (Elt F) S8x128x384 .f32) := [⟨Rect.unit (s := S8x128x384) ![(7 : Fin 8).val, 0, 0] S1x128x384.size (by decide), w 7⟩,
    ⟨Rect.unit (s := S8x128x384) ![(6 : Fin 8).val, 0, 0] S1x128x384.size (by decide), w 6⟩,
    ⟨Rect.unit (s := S8x128x384) ![(5 : Fin 8).val, 0, 0] S1x128x384.size (by decide), w 5⟩,
    ⟨Rect.unit (s := S8x128x384) ![(4 : Fin 8).val, 0, 0] S1x128x384.size (by decide), w 4⟩,
    ⟨Rect.unit (s := S8x128x384) ![(3 : Fin 8).val, 0, 0] S1x128x384.size (by decide), w 3⟩,
    ⟨Rect.unit (s := S8x128x384) ![(2 : Fin 8).val, 0, 0] S1x128x384.size (by decide), w 2⟩,
    ⟨Rect.unit (s := S8x128x384) ![(1 : Fin 8).val, 0, 0] S1x128x384.size (by decide), w 1⟩,
    ⟨Rect.unit (s := S8x128x384) ![(0 : Fin 8).val, 0, 0] S1x128x384.size (by decide), w 0⟩]

/-- The eight new heads as one array. -/
def nG (w : Fin 8 → Vec F S1x128x384 .f32) : Vec F S8x128x384 .f32 := fun i => w (i 0) (ix3 0 (i 1) (i 2))

theorem piece_n (w : Fin 8 → Vec F S1x128x384 .f32) (h : Fin 8) (ib : ∀ a, (![h.val, 0, 0] : Fin 3 → ℕ) a + S1x128x384.size a ≤ S8x128x384.size a)
    (x : S1x128x384.Idx) : w h x = nG w ((Rect.unit (s := S8x128x384) ![h.val, 0, 0] S1x128x384.size ib).emb x) := by
  obtain ⟨z, a, e, rfl⟩ : ∃ (z : Fin 1) (a : Fin 128) (e : Fin 384), x = ix3 z a e :=
    ⟨x 0, x 1, x 2, by funext a; fin_cases a <;> rfl⟩
  unfold nG
  have h0 : (Rect.unit (s := S8x128x384) ![h.val, 0, 0] S1x128x384.size ib).emb (ix3 z a e) 0 = h :=
    Fin.ext (by show h.val + 1 * z.val = h.val; omega)
  have h1 : (Rect.unit (s := S8x128x384) ![h.val, 0, 0] S1x128x384.size ib).emb (ix3 z a e) 1 = a :=
    Fin.ext (by show 0 + 1 * a.val = a.val; omega)
  have h2 : (Rect.unit (s := S8x128x384) ![h.val, 0, 0] S1x128x384.size ib).emb (ix3 z a e) 2 = e :=
    Fin.ext (by show 0 + 1 * e.val = e.val; omega)
  rw [h0, h1, h2, Subsingleton.elim z 0]

theorem canon_n (w : Fin 8 → Vec F S1x128x384 .f32) (L : List (View.Piece (Elt F) S8x128x384 .f32)) (y : S8x128x384.Idx) :
    View.canon (stPieces w ++ L) y = nG w y := by
  refine View.canon_append_of_pieces (nG w) L (stPieces w) ?_ y ?_
  · intro p hp
    simp only [stPieces, List.mem_cons, List.not_mem_nil, or_false] at hp
    rcases hp with rfl | rfl | rfl | rfl | rfl | rfl | rfl | rfl
    · exact piece_n w 7 (by decide)
    · exact piece_n w 6 (by decide)
    · exact piece_n w 5 (by decide)
    · exact piece_n w 4 (by decide)
    · exact piece_n w 3 (by decide)
    · exact piece_n w 2 (by decide)
    · exact piece_n w 1 (by decide)
    · exact piece_n w 0 (by decide)
  · have hm : ∀ (h : Fin 8) (ib : ∀ a, (![h.val, 0, 0] : Fin 3 → ℕ) a + S1x128x384.size a ≤ S8x128x384.size a), (y 0).val = h.val →
        y ∈ (Rect.unit (s := S8x128x384) ![h.val, 0, 0] S1x128x384.size ib).set := fun h ib e => by
      refine (Rect.mem_set_unit (inb := ib)).mpr fun a => ?_
      fin_cases a
      · refine ⟨?_, ?_⟩
        · show h.val ≤ (y 0).val
          omega
        · show (y 0).val < h.val + 1
          omega
      · exact ⟨Nat.zero_le _, by simpa using (y 1).isLt⟩
      · exact ⟨Nat.zero_le _, by simpa using (y 2).isLt⟩
    have hlt : (y 0).val < 8 := (y 0).isLt
    simp only [stPieces, List.exists_mem_cons_iff]
    interval_cases hq : (y 0).val
    · exact (Or.inr (Or.inr (Or.inr (Or.inr (Or.inr (Or.inr (Or.inr (Or.inl (hm 0 (by decide) rfl)))))))))
    · exact (Or.inr (Or.inr (Or.inr (Or.inr (Or.inr (Or.inr (Or.inl (hm 1 (by decide) rfl))))))))
    · exact (Or.inr (Or.inr (Or.inr (Or.inr (Or.inr (Or.inl (hm 2 (by decide) rfl)))))))
    · exact (Or.inr (Or.inr (Or.inr (Or.inr (Or.inl (hm 3 (by decide) rfl))))))
    · exact (Or.inr (Or.inr (Or.inr (Or.inl (hm 4 (by decide) rfl)))))
    · exact (Or.inr (Or.inr (Or.inl (hm 5 (by decide) rfl))))
    · exact (Or.inr (Or.inl (hm 6 (by decide) rfl)))
    · exact (Or.inl (hm 7 (by decide) rfl))

theorem readCov_v920 {v : View sig .tc .vmem S8x128x384 .f32} (w : Fin 8 → Vec F S1x128x384 .f32) (L : List (View.Piece (Elt F) S8x128x384 .f32))
    (ib : ∀ a, (![0, 0, 0] : Fin 3 → ℕ) a + S8x128x256.size a ≤ S8x128x384.size a) :
    v.readCov (stPieces w ++ L) (Rect.unit (s := S8x128x384) ![0, 0, 0] ![8, 128, 256] ib).toLoadRect
      = (fun j => w (j 0) (ix3 0 (j 1) ⟨(j 2).val, lt384 (j 2)⟩) : Vec F S8x128x256 .f32) := by
  rw [View.readCov_eq_canon']
  funext j
  refine (canon_n w L _).trans ?_
  obtain ⟨z, a, e, rfl⟩ : ∃ (z : Fin 8) (a : Fin 128) (e : Fin 256), j = ix3 z a e :=
    ⟨j 0, j 1, j 2, by funext a; fin_cases a <;> rfl⟩
  unfold nG
  have h0 : (Rect.unit (s := S8x128x384) ![0, 0, 0] ![8, 128, 256] ib).toLoadRect.idx (ix3 z a e) 0 = z :=
    Fin.ext (by show 0 + 1 * z.val = z.val; omega)
  have h1 : (Rect.unit (s := S8x128x384) ![0, 0, 0] ![8, 128, 256] ib).toLoadRect.idx (ix3 z a e) 1 = a :=
    Fin.ext (by show 0 + 1 * a.val = a.val; omega)
  have h2 : (Rect.unit (s := S8x128x384) ![0, 0, 0] ![8, 128, 256] ib).toLoadRect.idx (ix3 z a e) 2 = ⟨e.val, lt384 e⟩ :=
    Fin.ext (by show 0 + 1 * e.val = e.val; omega)
  rw [h0, h1, h2]
  rfl

theorem readCov_v924 {v : View sig .tc .vmem S8x128x384 .f32} (w : Fin 8 → Vec F S1x128x384 .f32) (L : List (View.Piece (Elt F) S8x128x384 .f32))
    (ib : ∀ a, (![0, 0, 256] : Fin 3 → ℕ) a + S8x128x128.size a ≤ S8x128x384.size a) :
    v.readCov (stPieces w ++ L) (Rect.unit (s := S8x128x384) ![0, 0, 256] ![8, 128, 128] ib).toLoadRect
      = (fun j => w (j 0) (ix3 0 (j 1) ⟨256 + (j 2).val, lt384' (j 2)⟩) : Vec F S8x128x128 .f32) := by
  rw [View.readCov_eq_canon']
  funext j
  refine (canon_n w L _).trans ?_
  obtain ⟨z, a, e, rfl⟩ : ∃ (z : Fin 8) (a : Fin 128) (e : Fin 128), j = ix3 z a e :=
    ⟨j 0, j 1, j 2, by funext a; fin_cases a <;> rfl⟩
  unfold nG
  have h0 : (Rect.unit (s := S8x128x384) ![0, 0, 256] ![8, 128, 128] ib).toLoadRect.idx (ix3 z a e) 0 = z :=
    Fin.ext (by show 0 + 1 * z.val = z.val; omega)
  have h1 : (Rect.unit (s := S8x128x384) ![0, 0, 256] ![8, 128, 128] ib).toLoadRect.idx (ix3 z a e) 1 = a :=
    Fin.ext (by show 0 + 1 * a.val = a.val; omega)
  have h2 : (Rect.unit (s := S8x128x384) ![0, 0, 256] ![8, 128, 128] ib).toLoadRect.idx (ix3 z a e) 2 = ⟨256 + e.val, lt384' e⟩ :=
    Fin.ext (by show 256 + 1 * e.val = 256 + e.val; omega)
  rw [h0, h1, h2]
  rfl

theorem pay2_eq (w : Vec F S8x128x256 .f32) : k0_pay2 w = fun i => w (ix3 (i 1) (i 2) (i 3)) := by
  funext i
  obtain ⟨z, a, b, e, rfl⟩ : ∃ (z : Fin 1) (a : Fin 8) (b : Fin 128) (e : Fin 256), i = ix4 z a b e :=
    ⟨i 0, i 1, i 2, i 3, by funext a; fin_cases a <;> rfl⟩
  rw [Subsingleton.elim z 0]
  pointwise [k0_pay2]

theorem pay3_eq (w : Vec F S8x128x128 .f32) : k0_pay3 w = fun i => w (ix3 (i 1) (i 2) (i 3)) := by
  funext i
  obtain ⟨z, a, b, e, rfl⟩ : ∃ (z : Fin 1) (a : Fin 8) (b : Fin 128) (e : Fin 128), i = ix4 z a b e :=
    ⟨i 0, i 1, i 2, i 3, by funext a; fin_cases a <;> rfl⟩
  rw [Subsingleton.elim z 0]
  pointwise [k0_pay3]

theorem pay27_eq (w : FVec F S32x128 .f32) : k0_pay27 w = fun i => w (ix2 31 (i 2)) := by
  funext i
  obtain ⟨z, a, e, rfl⟩ : ∃ (z : Fin 1) (a : Fin 1) (e : Fin 128), i = ix3 z a e :=
    ⟨i 0, i 1, i 2, by funext a; fin_cases a <;> rfl⟩
  rw [Subsingleton.elim z 0, Subsingleton.elim a 0]
  pointwise [k0_pay27, k0_pay23]

end Cert.KernelIdeal.Mlstm

end
-- ==== Proof.Mlstm.Chain.lean ====
module

public import proofs.«01_k».proof.Proof.Mlstm.State

@[expose] public section

/-! # The named intermediate values of a grid point

Each intermediate value of the body is the stage function of its head, applied to the blocks the point is
given. -/

set_option maxRecDepth 16384
set_option synthInstance.maxSize 4096

noncomputable section

namespace Cert.KernelIdeal.Mlstm

open Idealize.ShloMosaic Idealize.ShloMosaic.TcCoe Idealize.ShloMosaic.Tactic
open Idealize.ShloMosaic.Pointwise Idealize.SL.Sem
open Cert.KernelIdeal Cert.KernelIdeal.Gen

variable {F : FTy → Type} [FloatOps F] [Named F]

theorem r_eq (c : Dev nD) (arg6 : Memref sig .tc .vmem S32x128 .f32) (harg6 : arg6.IsWhole) (arg7 : Memref sig .tc .vmem S1x128 .f32) (harg7 : arg7.IsWhole) (x4 : Vec F S32x128 .f32) (x5 : Vec F S1x128 .f32) :
    kernelRun0_A.sl.r (F := F) c arg6 harg6 arg7 harg7 x4 x5 = k0_pay9 x4 x5 := by
  unfold kernelRun0_A.sl.r
  simp only [load_cols128, load_cols256, load_gain256, load_S32x128, load_S1x128, load_S1x1x128, load_S1x8x128x256, load_S1x8x128x128]
  try rfl

theorem r_1_eq (c : Dev nD) (arg6 : Memref sig .tc .vmem S32x128 .f32) (harg6 : arg6.IsWhole) (arg7 : Memref sig .tc .vmem S1x128 .f32) (harg7 : arg7.IsWhole) (x4 : Vec F S32x128 .f32) (x5 : Vec F S1x128 .f32) :
    kernelRun0_A.sl.r_1 (F := F) c arg6 harg6 arg7 harg7 x4 x5 = k0_pay14 x4 x5 := by
  unfold kernelRun0_A.sl.r_1
  simp only [load_cols128, load_cols256, load_gain256, load_S32x128, load_S1x128, load_S1x1x128, load_S1x8x128x256, load_S1x8x128x128]
  try rfl

theorem r_2_eq (c : Dev nD) (arg6 : Memref sig .tc .vmem S32x128 .f32) (harg6 : arg6.IsWhole) (arg7 : Memref sig .tc .vmem S1x128 .f32) (harg7 : arg7.IsWhole) (x4 : Vec F S32x128 .f32) (x5 : Vec F S1x128 .f32) :
    kernelRun0_A.sl.r_2 (F := F) c arg6 harg6 arg7 harg7 x4 x5 = k0_pay15 x4 x5 := by
  unfold kernelRun0_A.sl.r_2
  simp only [load_cols128, load_cols256, load_gain256, load_S32x128, load_S1x128, load_S1x1x128, load_S1x8x128x256, load_S1x8x128x128]
  try rfl

theorem r_3_eq (c : Dev nD) (arg6 : Memref sig .tc .vmem S32x128 .f32) (harg6 : arg6.IsWhole) (arg7 : Memref sig .tc .vmem S1x128 .f32) (harg7 : arg7.IsWhole) (x4 : Vec F S32x128 .f32) (x5 : Vec F S1x128 .f32) :
    kernelRun0_A.sl.r_3 (F := F) c arg6 harg6 arg7 harg7 x4 x5 = k0_pay16 x4 x5 := by
  unfold kernelRun0_A.sl.r_3
  simp only [load_cols128, load_cols256, load_gain256, load_S32x128, load_S1x128, load_S1x1x128, load_S1x8x128x256, load_S1x8x128x128]
  try rfl

theorem r_4_eq (c : Dev nD) (arg6 : Memref sig .tc .vmem S32x128 .f32) (harg6 : arg6.IsWhole) (arg7 : Memref sig .tc .vmem S1x128 .f32) (harg7 : arg7.IsWhole) (x4 : Vec F S32x128 .f32) (x5 : Vec F S1x128 .f32) :
    kernelRun0_A.sl.r_4 (F := F) c arg6 harg6 arg7 harg7 x4 x5 = btS x4 x5 := by
  unfold kernelRun0_A.sl.r_4 kernelRun0_A.sl.cst_12
  simp only [load_cols128, load_cols256, load_gain256, load_S32x128, load_S1x128, load_S1x1x128, load_S1x8x128x256, load_S1x8x128x128, r_1_eq, r_2_eq, r_3_eq]
  try rfl

theorem r_5_eq (c : Dev nD) (arg6 : Memref sig .tc .vmem S32x128 .f32) (harg6 : arg6.IsWhole) (arg7 : Memref sig .tc .vmem S1x128 .f32) (harg7 : arg7.IsWhole) (x4 : Vec F S32x128 .f32) (x5 : Vec F S1x128 .f32) :
    kernelRun0_A.sl.r_5 (F := F) c arg6 harg6 arg7 harg7 x4 x5 = aS x4 x5 := by
  unfold kernelRun0_A.sl.r_5 kernelRun0_A.sl.cst_12
  simp only [load_cols128, load_cols256, load_gain256, load_S32x128, load_S1x128, load_S1x1x128, load_S1x8x128x256, load_S1x8x128x128, r_eq, r_1_eq, r_2_eq, r_3_eq]
  try rfl

theorem v44_eq (c : Dev nD) (arg11 : Memref sig .tc .vmem S1x1x128 .f32) (harg11 : arg11.IsWhole) (arg15 : Memref sig .tc .vmem S1x1x128 .f32) (x9 : Vec F S1x1x128 .f32) :
    kernelRun0_A.sl.v44 (F := F) c arg11 harg11 arg15 x9 = k0_pay6 x9 := by
  unfold kernelRun0_A.sl.v44 kernelRun0_A.sl.H13_1
  simp only [load_cols128, load_cols256, load_gain256, load_S32x128, load_S1x128, load_S1x1x128, load_S1x8x128x256, load_S1x8x128x128]
  exact readCov_m _ _ _

theorem r_7_eq (c : Dev nD) (arg6 : Memref sig .tc .vmem S32x128 .f32) (harg6 : arg6.IsWhole) (arg7 : Memref sig .tc .vmem S1x128 .f32) (harg7 : arg7.IsWhole) (arg11 : Memref sig .tc .vmem S1x1x128 .f32) (harg11 : arg11.IsWhole) (arg15 : Memref sig .tc .vmem S1x1x128 .f32) (x4 : Vec F S32x128 .f32) (x5 : Vec F S1x128 .f32) (x9 : Vec F S1x1x128 .f32) :
    kernelRun0_A.sl.r_7 (F := F) c arg6 harg6 arg7 harg7 arg11 harg11 arg15 x4 x5 x9 = mtS x4 x5 x9 := by
  unfold kernelRun0_A.sl.r_7 kernelRun0_A.sl.cst_12
  simp only [load_cols128, load_cols256, load_gain256, load_S32x128, load_S1x128, load_S1x1x128, load_S1x8x128x256, load_S1x8x128x128, r_eq, r_1_eq, r_2_eq, r_3_eq, v44_eq]
  try rfl

theorem r_10_eq (c : Dev nD) (arg6 : Memref sig .tc .vmem S32x128 .f32) (harg6 : arg6.IsWhole) (arg7 : Memref sig .tc .vmem S1x128 .f32) (harg7 : arg7.IsWhole) (arg11 : Memref sig .tc .vmem S1x1x128 .f32) (harg11 : arg11.IsWhole) (arg15 : Memref sig .tc .vmem S1x1x128 .f32) (x4 : Vec F S32x128 .f32) (x5 : Vec F S1x128 .f32) (x9 : Vec F S1x1x128 .f32) :
    kernelRun0_A.sl.r_10 (F := F) c arg6 harg6 arg7 harg7 arg11 harg11 arg15 x4 x5 x9 = wS x4 x5 x9 := by
  unfold kernelRun0_A.sl.r_10
  simp only [load_cols128, load_cols256, load_gain256, load_S32x128, load_S1x128, load_S1x1x128, load_S1x8x128x256, load_S1x8x128x128, r_4_eq, r_5_eq, r_7_eq]
  try rfl

theorem r_6_eq (c : Dev nD) (arg11 : Memref sig .tc .vmem S1x1x128 .f32) (harg11 : arg11.IsWhole) (arg15 : Memref sig .tc .vmem S1x1x128 .f32) (x9 : Vec F S1x1x128 .f32) :
    kernelRun0_A.sl.r_6 (F := F) c arg11 harg11 arg15 x9 = k0_pay19 (k0_pay6 x9) := by
  unfold kernelRun0_A.sl.r_6
  simp only [load_cols128, load_cols256, load_gain256, load_S32x128, load_S1x128, load_S1x1x128, load_S1x8x128x256, load_S1x8x128x128, v44_eq]
  try rfl

theorem r_11_eq (c : Dev nD) (arg6 : Memref sig .tc .vmem S32x128 .f32) (harg6 : arg6.IsWhole) (arg7 : Memref sig .tc .vmem S1x128 .f32) (harg7 : arg7.IsWhole) (arg11 : Memref sig .tc .vmem S1x1x128 .f32) (harg11 : arg11.IsWhole) (arg15 : Memref sig .tc .vmem S1x1x128 .f32) (x4 : Vec F S32x128 .f32) (x5 : Vec F S1x128 .f32) (x9 : Vec F S1x1x128 .f32) :
    kernelRun0_A.sl.r_11 (F := F) c arg6 harg6 arg7 harg7 arg11 harg11 arg15 x4 x5 x9 = decS x4 x5 x9 := by
  unfold kernelRun0_A.sl.r_11
  simp only [load_cols128, load_cols256, load_gain256, load_S32x128, load_S1x128, load_S1x1x128, load_S1x8x128x256, load_S1x8x128x128, r_4_eq, r_6_eq, r_7_eq]
  try rfl

theorem r_12_eq (c : Dev nD) (arg6 : Memref sig .tc .vmem S32x128 .f32) (harg6 : arg6.IsWhole) (arg7 : Memref sig .tc .vmem S1x128 .f32) (harg7 : arg7.IsWhole) (x4 : Vec F S32x128 .f32) (x5 : Vec F S1x128 .f32) :
    kernelRun0_A.sl.r_12 (F := F) c arg6 harg6 arg7 harg7 x4 x5 = k0_pay28 (aS x4 x5) := by
  unfold kernelRun0_A.sl.r_12
  simp only [load_cols128, load_cols256, load_gain256, load_S32x128, load_S1x128, load_S1x1x128, load_S1x8x128x256, load_S1x8x128x128, r_5_eq]
  try rfl

theorem r_9_eq (c : Dev nD) (arg11 : Memref sig .tc .vmem S1x1x128 .f32) (harg11 : arg11.IsWhole) (arg15 : Memref sig .tc .vmem S1x1x128 .f32) (x9 : Vec F S1x1x128 .f32) :
    kernelRun0_A.sl.r_9 (F := F) c arg11 harg11 arg15 x9 = k0_pay22 (k0_pay6 x9) := by
  unfold kernelRun0_A.sl.r_9
  simp only [load_cols128, load_cols256, load_gain256, load_S32x128, load_S1x128, load_S1x1x128, load_S1x8x128x256, load_S1x8x128x128, v44_eq]
  try rfl

theorem r_13_eq (c : Dev nD) (arg6 : Memref sig .tc .vmem S32x128 .f32) (harg6 : arg6.IsWhole) (arg7 : Memref sig .tc .vmem S1x128 .f32) (harg7 : arg7.IsWhole) (arg11 : Memref sig .tc .vmem S1x1x128 .f32) (harg11 : arg11.IsWhole) (arg15 : Memref sig .tc .vmem S1x1x128 .f32) (x4 : Vec F S32x128 .f32) (x5 : Vec F S1x128 .f32) (x9 : Vec F S1x1x128 .f32) :
    kernelRun0_A.sl.r_13 (F := F) c arg6 harg6 arg7 harg7 arg11 harg11 arg15 x4 x5 x9 = ieS x4 x5 x9 := by
  unfold kernelRun0_A.sl.r_13
  simp only [load_cols128, load_cols256, load_gain256, load_S32x128, load_S1x128, load_S1x1x128, load_S1x8x128x256, load_S1x8x128x128, r_4_eq, r_7_eq, r_9_eq]
  try rfl

theorem r_14_eq (c : Dev nD) (arg6 : Memref sig .tc .vmem S32x128 .f32) (harg6 : arg6.IsWhole) (arg7 : Memref sig .tc .vmem S1x128 .f32) (harg7 : arg7.IsWhole) (arg11 : Memref sig .tc .vmem S1x1x128 .f32) (harg11 : arg11.IsWhole) (arg15 : Memref sig .tc .vmem S1x1x128 .f32) (x4 : Vec F S32x128 .f32) (x5 : Vec F S1x128 .f32) (x9 : Vec F S1x1x128 .f32) :
    kernelRun0_A.sl.r_14 (F := F) c arg6 harg6 arg7 harg7 arg11 harg11 arg15 x4 x5 x9 = iebS 0 (ieS x4 x5 x9) := by
  unfold kernelRun0_A.sl.r_14
  simp only [load_cols128, load_cols256, load_gain256, load_S32x128, load_S1x128, load_S1x1x128, load_S1x8x128x256, load_S1x8x128x128, r_13_eq]
  try rfl

theorem r_15_eq (c : Dev nD) (arg2 : Memref sig .tc .vmem S32x1024 .bf16) (harg2 : arg2.IsWhole) (arg3 : Memref sig .tc .vmem S32x1024 .bf16) (harg3 : arg3.IsWhole) (x0 : Vec F S32x1024 .bf16) (x1 : Vec F S32x1024 .bf16) :
    kernelRun0_A.sl.r_15 (F := F) c arg2 harg2 arg3 harg3 x0 x1 = k0_pay37 (cols128 (128 * (0 : Fin 8).val) (le128 0) x0) (cols128 (128 * (0 : Fin 8).val) (le128 0) x1) := by
  unfold kernelRun0_A.sl.r_15
  simp only [load_cols128, load_cols256, load_gain256, load_S32x128, load_S1x128, load_S1x1x128, load_S1x8x128x256, load_S1x8x128x128]
  try rfl

theorem r_16_eq (c : Dev nD) (arg6 : Memref sig .tc .vmem S32x128 .f32) (harg6 : arg6.IsWhole) (arg7 : Memref sig .tc .vmem S1x128 .f32) (harg7 : arg7.IsWhole) (arg11 : Memref sig .tc .vmem S1x1x128 .f32) (harg11 : arg11.IsWhole) (arg15 : Memref sig .tc .vmem S1x1x128 .f32) (x4 : Vec F S32x128 .f32) (x5 : Vec F S1x128 .f32) (x9 : Vec F S1x1x128 .f32) :
    kernelRun0_A.sl.r_16 (F := F) c arg6 harg6 arg7 harg7 arg11 harg11 arg15 x4 x5 x9 = iebS 1 (ieS x4 x5 x9) := by
  unfold kernelRun0_A.sl.r_16 kernelRun0_A.sl.v105
  simp only [load_cols128, load_cols256, load_gain256, load_S32x128, load_S1x128, load_S1x1x128, load_S1x8x128x256, load_S1x8x128x128, r_13_eq]
  try rfl

theorem r_17_eq (c : Dev nD) (arg2 : Memref sig .tc .vmem S32x1024 .bf16) (harg2 : arg2.IsWhole) (arg3 : Memref sig .tc .vmem S32x1024 .bf16) (harg3 : arg3.IsWhole) (x0 : Vec F S32x1024 .bf16) (x1 : Vec F S32x1024 .bf16) :
    kernelRun0_A.sl.r_17 (F := F) c arg2 harg2 arg3 harg3 x0 x1 = k0_pay37 (cols128 (128 * (1 : Fin 8).val) (le128 1) x0) (cols128 (128 * (1 : Fin 8).val) (le128 1) x1) := by
  unfold kernelRun0_A.sl.r_17
  simp only [load_cols128, load_cols256, load_gain256, load_S32x128, load_S1x128, load_S1x1x128, load_S1x8x128x256, load_S1x8x128x128]
  try rfl

theorem r_18_eq (c : Dev nD) (arg6 : Memref sig .tc .vmem S32x128 .f32) (harg6 : arg6.IsWhole) (arg7 : Memref sig .tc .vmem S1x128 .f32) (harg7 : arg7.IsWhole) (arg11 : Memref sig .tc .vmem S1x1x128 .f32) (harg11 : arg11.IsWhole) (arg15 : Memref sig .tc .vmem S1x1x128 .f32) (x4 : Vec F S32x128 .f32) (x5 : Vec F S1x128 .f32) (x9 : Vec F S1x1x128 .f32) :
    kernelRun0_A.sl.r_18 (F := F) c arg6 harg6 arg7 harg7 arg11 harg11 arg15 x4 x5 x9 = iebS 2 (ieS x4 x5 x9) := by
  unfold kernelRun0_A.sl.r_18 kernelRun0_A.sl.v105 kernelRun0_A.sl.cst_67
  simp only [load_cols128, load_cols256, load_gain256, load_S32x128, load_S1x128, load_S1x1x128, load_S1x8x128x256, load_S1x8x128x128, r_13_eq]
  try rfl

theorem r_19_eq (c : Dev nD) (arg2 : Memref sig .tc .vmem S32x1024 .bf16) (harg2 : arg2.IsWhole) (arg3 : Memref sig .tc .vmem S32x1024 .bf16) (harg3 : arg3.IsWhole) (x0 : Vec F S32x1024 .bf16) (x1 : Vec F S32x1024 .bf16) :
    kernelRun0_A.sl.r_19 (F := F) c arg2 harg2 arg3 harg3 x0 x1 = k0_pay37 (cols128 (128 * (2 : Fin 8).val) (le128 2) x0) (cols128 (128 * (2 : Fin 8).val) (le128 2) x1) := by
  unfold kernelRun0_A.sl.r_19
  simp only [load_cols128, load_cols256, load_gain256, load_S32x128, load_S1x128, load_S1x1x128, load_S1x8x128x256, load_S1x8x128x128]
  try rfl

theorem r_20_eq (c : Dev nD) (arg6 : Memref sig .tc .vmem S32x128 .f32) (harg6 : arg6.IsWhole) (arg7 : Memref sig .tc .vmem S1x128 .f32) (harg7 : arg7.IsWhole) (arg11 : Memref sig .tc .vmem S1x1x128 .f32) (harg11 : arg11.IsWhole) (arg15 : Memref sig .tc .vmem S1x1x128 .f32) (x4 : Vec F S32x128 .f32) (x5 : Vec F S1x128 .f32) (x9 : Vec F S1x1x128 .f32) :
    kernelRun0_A.sl.r_20 (F := F) c arg6 harg6 arg7 harg7 arg11 harg11 arg15 x4 x5 x9 = iebS 3 (ieS x4 x5 x9) := by
  unfold kernelRun0_A.sl.r_20 kernelRun0_A.sl.v105
  simp only [load_cols128, load_cols256, load_gain256, load_S32x128, load_S1x128, load_S1x1x128, load_S1x8x128x256, load_S1x8x128x128, r_13_eq]
  try rfl

theorem r_21_eq (c : Dev nD) (arg2 : Memref sig .tc .vmem S32x1024 .bf16) (harg2 : arg2.IsWhole) (arg3 : Memref sig .tc .vmem S32x1024 .bf16) (harg3 : arg3.IsWhole) (x0 : Vec F S32x1024 .bf16) (x1 : Vec F S32x1024 .bf16) :
    kernelRun0_A.sl.r_21 (F := F) c arg2 harg2 arg3 harg3 x0 x1 = k0_pay37 (cols128 (128 * (3 : Fin 8).val) (le128 3) x0) (cols128 (128 * (3 : Fin 8).val) (le128 3) x1) := by
  unfold kernelRun0_A.sl.r_21
  simp only [load_cols128, load_cols256, load_gain256, load_S32x128, load_S1x128, load_S1x1x128, load_S1x8x128x256, load_S1x8x128x128]
  try rfl

theorem r_22_eq (c : Dev nD) (arg6 : Memref sig .tc .vmem S32x128 .f32) (harg6 : arg6.IsWhole) (arg7 : Memref sig .tc .vmem S1x128 .f32) (harg7 : arg7.IsWhole) (arg11 : Memref sig .tc .vmem S1x1x128 .f32) (harg11 : arg11.IsWhole) (arg15 : Memref sig .tc .vmem S1x1x128 .f32) (x4 : Vec F S32x128 .f32) (x5 : Vec F S1x128 .f32) (x9 : Vec F S1x1x128 .f32) :
    kernelRun0_A.sl.r_22 (F := F) c arg6 harg6 arg7 harg7 arg11 harg11 arg15 x4 x5 x9 = iebS 4 (ieS x4 x5 x9) := by
  unfold kernelRun0_A.sl.r_22 kernelRun0_A.sl.v105
  simp only [load_cols128, load_cols256, load_gain256, load_S32x128, load_S1x128, load_S1x1x128, load_S1x8x128x256, load_S1x8x128x128, r_13_eq]
  try rfl

theorem r_23_eq (c : Dev nD) (arg2 : Memref sig .tc .vmem S32x1024 .bf16) (harg2 : arg2.IsWhole) (arg3 : Memref sig .tc .vmem S32x1024 .bf16) (harg3 : arg3.IsWhole) (x0 : Vec F S32x1024 .bf16) (x1 : Vec F S32x1024 .bf16) :
    kernelRun0_A.sl.r_23 (F := F) c arg2 harg2 arg3 harg3 x0 x1 = k0_pay37 (cols128 (128 * (4 : Fin 8).val) (le128 4) x0) (cols128 (128 * (4 : Fin 8).val) (le128 4) x1) := by
  unfold kernelRun0_A.sl.r_23
  simp only [load_cols128, load_cols256, load_gain256, load_S32x128, load_S1x128, load_S1x1x128, load_S1x8x128x256, load_S1x8x128x128]
  try rfl

theorem r_24_eq (c : Dev nD) (arg6 : Memref sig .tc .vmem S32x128 .f32) (harg6 : arg6.IsWhole) (arg7 : Memref sig .tc .vmem S1x128 .f32) (harg7 : arg7.IsWhole) (arg11 : Memref sig .tc .vmem S1x1x128 .f32) (harg11 : arg11.IsWhole) (arg15 : Memref sig .tc .vmem S1x1x128 .f32) (x4 : Vec F S32x128 .f32) (x5 : Vec F S1x128 .f32) (x9 : Vec F S1x1x128 .f32) :
    kernelRun0_A.sl.r_24 (F := F) c arg6 harg6 arg7 harg7 arg11 harg11 arg15 x4 x5 x9 = iebS 5 (ieS x4 x5 x9) := by
  unfold kernelRun0_A.sl.r_24 kernelRun0_A.sl.v105
  simp only [load_cols128, load_cols256, load_gain256, load_S32x128, load_S1x128, load_S1x1x128, load_S1x8x128x256, load_S1x8x128x128, r_13_eq]
  try rfl

theorem r_25_eq (c : Dev nD) (arg2 : Memref sig .tc .vmem S32x1024 .bf16) (harg2 : arg2.IsWhole) (arg3 : Memref sig .tc .vmem S32x1024 .bf16) (harg3 : arg3.IsWhole) (x0 : Vec F S32x1024 .bf16) (x1 : Vec F S32x1024 .bf16) :
    kernelRun0_A.sl.r_25 (F := F) c arg2 harg2 arg3 harg3 x0 x1 = k0_pay37 (cols128 (128 * (5 : Fin 8).val) (le128 5) x0) (cols128 (128 * (5 : Fin 8).val) (le128 5) x1) := by
  unfold kernelRun0_A.sl.r_25
  simp only [load_cols128, load_cols256, load_gain256, load_S32x128, load_S1x128, load_S1x1x128, load_S1x8x128x256, load_S1x8x128x128]
  try rfl

theorem r_26_eq (c : Dev nD) (arg6 : Memref sig .tc .vmem S32x128 .f32) (harg6 : arg6.IsWhole) (arg7 : Memref sig .tc .vmem S1x128 .f32) (harg7 : arg7.IsWhole) (arg11 : Memref sig .tc .vmem S1x1x128 .f32) (harg11 : arg11.IsWhole) (arg15 : Memref sig .tc .vmem S1x1x128 .f32) (x4 : Vec F S32x128 .f32) (x5 : Vec F S1x128 .f32) (x9 : Vec F S1x1x128 .f32) :
    kernelRun0_A.sl.r_26 (F := F) c arg6 harg6 arg7 harg7 arg11 harg11 arg15 x4 x5 x9 = iebS 6 (ieS x4 x5 x9) := by
  unfold kernelRun0_A.sl.r_26 kernelRun0_A.sl.v105
  simp only [load_cols128, load_cols256, load_gain256, load_S32x128, load_S1x128, load_S1x1x128, load_S1x8x128x256, load_S1x8x128x128, r_13_eq]
  try rfl

theorem r_27_eq (c : Dev nD) (arg2 : Memref sig .tc .vmem S32x1024 .bf16) (harg2 : arg2.IsWhole) (arg3 : Memref sig .tc .vmem S32x1024 .bf16) (harg3 : arg3.IsWhole) (x0 : Vec F S32x1024 .bf16) (x1 : Vec F S32x1024 .bf16) :
    kernelRun0_A.sl.r_27 (F := F) c arg2 harg2 arg3 harg3 x0 x1 = k0_pay37 (cols128 (128 * (6 : Fin 8).val) (le128 6) x0) (cols128 (128 * (6 : Fin 8).val) (le128 6) x1) := by
  unfold kernelRun0_A.sl.r_27
  simp only [load_cols128, load_cols256, load_gain256, load_S32x128, load_S1x128, load_S1x1x128, load_S1x8x128x256, load_S1x8x128x128]
  try rfl

theorem r_28_eq (c : Dev nD) (arg6 : Memref sig .tc .vmem S32x128 .f32) (harg6 : arg6.IsWhole) (arg7 : Memref sig .tc .vmem S1x128 .f32) (harg7 : arg7.IsWhole) (arg11 : Memref sig .tc .vmem S1x1x128 .f32) (harg11 : arg11.IsWhole) (arg15 : Memref sig .tc .vmem S1x1x128 .f32) (x4 : Vec F S32x128 .f32) (x5 : Vec F S1x128 .f32) (x9 : Vec F S1x1x128 .f32) :
    kernelRun0_A.sl.r_28 (F := F) c arg6 harg6 arg7 harg7 arg11 harg11 arg15 x4 x5 x9 = iebS 7 (ieS x4 x5 x9) := by
  unfold kernelRun0_A.sl.r_28 kernelRun0_A.sl.v105
  simp only [load_cols128, load_cols256, load_gain256, load_S32x128, load_S1x128, load_S1x1x128, load_S1x8x128x256, load_S1x8x128x128, r_13_eq]
  try rfl

theorem r_29_eq (c : Dev nD) (arg2 : Memref sig .tc .vmem S32x1024 .bf16) (harg2 : arg2.IsWhole) (arg3 : Memref sig .tc .vmem S32x1024 .bf16) (harg3 : arg3.IsWhole) (x0 : Vec F S32x1024 .bf16) (x1 : Vec F S32x1024 .bf16) :
    kernelRun0_A.sl.r_29 (F := F) c arg2 harg2 arg3 harg3 x0 x1 = k0_pay37 (cols128 (128 * (7 : Fin 8).val) (le128 7) x0) (cols128 (128 * (7 : Fin 8).val) (le128 7) x1) := by
  unfold kernelRun0_A.sl.r_29
  simp only [load_cols128, load_cols256, load_gain256, load_S32x128, load_S1x128, load_S1x1x128, load_S1x8x128x256, load_S1x8x128x128]
  try rfl

theorem r_8_eq (c : Dev nD) (arg6 : Memref sig .tc .vmem S32x128 .f32) (harg6 : arg6.IsWhole) (arg7 : Memref sig .tc .vmem S1x128 .f32) (harg7 : arg7.IsWhole) (arg11 : Memref sig .tc .vmem S1x1x128 .f32) (harg11 : arg11.IsWhole) (arg15 : Memref sig .tc .vmem S1x1x128 .f32) (x4 : Vec F S32x128 .f32) (x5 : Vec F S1x128 .f32) (x9 : Vec F S1x1x128 .f32) :
    kernelRun0_A.sl.r_8 (F := F) c arg6 harg6 arg7 harg7 arg11 harg11 arg15 x4 x5 x9 = uS x4 x5 x9 := by
  unfold kernelRun0_A.sl.r_8 kernelRun0_A.sl.cst_12
  simp only [load_cols128, load_cols256, load_gain256, load_S32x128, load_S1x128, load_S1x1x128, load_S1x8x128x256, load_S1x8x128x128, r_eq, r_1_eq, r_2_eq, r_3_eq, v44_eq]
  try rfl

theorem v254_eq (c : Dev nD) (arg9 : Memref sig .tc .vmem S1x8x128x256 .f32) (harg9 : arg9.IsWhole) (arg10 : Memref sig .tc .vmem S1x8x128x128 .f32) (harg10 : arg10.IsWhole) (arg16 : Memref sig .tc .vmem S8x128x384 .f32) (x7 : Vec F S1x8x128x256 .f32) (x8 : Vec F S1x8x128x128 .f32) :
    kernelRun0_A.sl.v254 (F := F) c arg9 harg9 arg10 harg10 arg16 x7 x8 = stS 0 x7 x8 := by
  unfold kernelRun0_A.sl.v254 kernelRun0_A.sl.HS0_2
  simp only [load_cols128, load_cols256, load_gain256, load_S32x128, load_S1x128, load_S1x1x128, load_S1x8x128x256, load_S1x8x128x128]
  exact readCov_state 0 _ _ _ _ _

theorem r_32_eq (c : Dev nD) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x0 : Vec F S32x1024 .bf16) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.r_32 (F := F) c arg2 harg2 arg3 harg3 arg4 harg4 arg6 harg6 arg7 harg7 arg9 harg9 arg10 harg10 arg11 harg11 arg15 arg16 x0 x1 x2 x4 x5 x7 x8 x9 = outS 0 x0 x1 x2 x4 x5 x7 x8 x9 := by
  unfold kernelRun0_A.sl.r_32 kernelRun0_A.sl.r_30 kernelRun0_A.sl.r_31
  simp only [load_cols128, load_cols256, load_gain256, load_S32x128, load_S1x128, load_S1x1x128, load_S1x8x128x256, load_S1x8x128x128, r_14_eq, r_8_eq, r_12_eq, r_15_eq, v254_eq]
  try rfl

theorem v284_eq (c : Dev nD) (arg9 : Memref sig .tc .vmem S1x8x128x256 .f32) (harg9 : arg9.IsWhole) (arg10 : Memref sig .tc .vmem S1x8x128x128 .f32) (harg10 : arg10.IsWhole) (arg16 : Memref sig .tc .vmem S8x128x384 .f32) (x7 : Vec F S1x8x128x256 .f32) (x8 : Vec F S1x8x128x128 .f32) :
    kernelRun0_A.sl.v284 (F := F) c arg9 harg9 arg10 harg10 arg16 x7 x8 = stS 1 x7 x8 := by
  unfold kernelRun0_A.sl.v284 kernelRun0_A.sl.HS0_2
  simp only [load_cols128, load_cols256, load_gain256, load_S32x128, load_S1x128, load_S1x1x128, load_S1x8x128x256, load_S1x8x128x128]
  exact readCov_state 1 _ _ _ _ _

theorem r_37_eq (c : Dev nD) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x0 : Vec F S32x1024 .bf16) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.r_37 (F := F) c arg2 harg2 arg3 harg3 arg4 harg4 arg6 harg6 arg7 harg7 arg9 harg9 arg10 harg10 arg11 harg11 arg15 arg16 x0 x1 x2 x4 x5 x7 x8 x9 = outS 1 x0 x1 x2 x4 x5 x7 x8 x9 := by
  unfold kernelRun0_A.sl.r_37 kernelRun0_A.sl.r_33 kernelRun0_A.sl.r_34 kernelRun0_A.sl.r_35 kernelRun0_A.sl.r_36
  simp only [load_cols128, load_cols256, load_gain256, load_S32x128, load_S1x128, load_S1x1x128, load_S1x8x128x256, load_S1x8x128x128, r_8_eq, r_12_eq, r_17_eq, r_16_eq, v284_eq]
  try rfl

theorem v314_eq (c : Dev nD) (arg9 : Memref sig .tc .vmem S1x8x128x256 .f32) (harg9 : arg9.IsWhole) (arg10 : Memref sig .tc .vmem S1x8x128x128 .f32) (harg10 : arg10.IsWhole) (arg16 : Memref sig .tc .vmem S8x128x384 .f32) (x7 : Vec F S1x8x128x256 .f32) (x8 : Vec F S1x8x128x128 .f32) :
    kernelRun0_A.sl.v314 (F := F) c arg9 harg9 arg10 harg10 arg16 x7 x8 = stS 2 x7 x8 := by
  unfold kernelRun0_A.sl.v314 kernelRun0_A.sl.HS0_2
  simp only [load_cols128, load_cols256, load_gain256, load_S32x128, load_S1x128, load_S1x1x128, load_S1x8x128x256, load_S1x8x128x128]
  exact readCov_state 2 _ _ _ _ _

theorem r_38_eq (c : Dev nD) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x0 : Vec F S32x1024 .bf16) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.r_38 (F := F) c arg2 harg2 arg3 harg3 arg4 harg4 arg6 harg6 arg7 harg7 arg9 harg9 arg10 harg10 arg11 harg11 arg15 arg16 x0 x1 x2 x4 x5 x7 x8 x9 = outS 2 x0 x1 x2 x4 x5 x7 x8 x9 := by
  unfold kernelRun0_A.sl.r_38
  simp only [load_cols128, load_cols256, load_gain256, load_S32x128, load_S1x128, load_S1x1x128, load_S1x8x128x256, load_S1x8x128x128, r_8_eq, r_12_eq, r_18_eq, r_19_eq, v314_eq]
  try rfl

theorem v344_eq (c : Dev nD) (arg9 : Memref sig .tc .vmem S1x8x128x256 .f32) (harg9 : arg9.IsWhole) (arg10 : Memref sig .tc .vmem S1x8x128x128 .f32) (harg10 : arg10.IsWhole) (arg16 : Memref sig .tc .vmem S8x128x384 .f32) (x7 : Vec F S1x8x128x256 .f32) (x8 : Vec F S1x8x128x128 .f32) :
    kernelRun0_A.sl.v344 (F := F) c arg9 harg9 arg10 harg10 arg16 x7 x8 = stS 3 x7 x8 := by
  unfold kernelRun0_A.sl.v344 kernelRun0_A.sl.HS0_2
  simp only [load_cols128, load_cols256, load_gain256, load_S32x128, load_S1x128, load_S1x1x128, load_S1x8x128x256, load_S1x8x128x128]
  exact readCov_state 3 _ _ _ _ _

theorem r_40_eq (c : Dev nD) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x0 : Vec F S32x1024 .bf16) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.r_40 (F := F) c arg2 harg2 arg3 harg3 arg4 harg4 arg6 harg6 arg7 harg7 arg9 harg9 arg10 harg10 arg11 harg11 arg15 arg16 x0 x1 x2 x4 x5 x7 x8 x9 = outS 3 x0 x1 x2 x4 x5 x7 x8 x9 := by
  unfold kernelRun0_A.sl.r_40 kernelRun0_A.sl.r_39
  simp only [load_cols128, load_cols256, load_gain256, load_S32x128, load_S1x128, load_S1x1x128, load_S1x8x128x256, load_S1x8x128x128, r_20_eq, r_21_eq, r_8_eq, r_12_eq, v344_eq]
  try rfl

theorem v374_eq (c : Dev nD) (arg9 : Memref sig .tc .vmem S1x8x128x256 .f32) (harg9 : arg9.IsWhole) (arg10 : Memref sig .tc .vmem S1x8x128x128 .f32) (harg10 : arg10.IsWhole) (arg16 : Memref sig .tc .vmem S8x128x384 .f32) (x7 : Vec F S1x8x128x256 .f32) (x8 : Vec F S1x8x128x128 .f32) :
    kernelRun0_A.sl.v374 (F := F) c arg9 harg9 arg10 harg10 arg16 x7 x8 = stS 4 x7 x8 := by
  unfold kernelRun0_A.sl.v374 kernelRun0_A.sl.HS0_2
  simp only [load_cols128, load_cols256, load_gain256, load_S32x128, load_S1x128, load_S1x1x128, load_S1x8x128x256, load_S1x8x128x128]
  exact readCov_state 4 _ _ _ _ _

theorem r_43_eq (c : Dev nD) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x0 : Vec F S32x1024 .bf16) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.r_43 (F := F) c arg2 harg2 arg3 harg3 arg4 harg4 arg6 harg6 arg7 harg7 arg9 harg9 arg10 harg10 arg11 harg11 arg15 arg16 x0 x1 x2 x4 x5 x7 x8 x9 = outS 4 x0 x1 x2 x4 x5 x7 x8 x9 := by
  unfold kernelRun0_A.sl.r_43 kernelRun0_A.sl.r_41 kernelRun0_A.sl.r_42
  simp only [load_cols128, load_cols256, load_gain256, load_S32x128, load_S1x128, load_S1x1x128, load_S1x8x128x256, load_S1x8x128x128, r_8_eq, r_12_eq, r_23_eq, r_22_eq, v374_eq]
  try rfl

theorem v404_eq (c : Dev nD) (arg9 : Memref sig .tc .vmem S1x8x128x256 .f32) (harg9 : arg9.IsWhole) (arg10 : Memref sig .tc .vmem S1x8x128x128 .f32) (harg10 : arg10.IsWhole) (arg16 : Memref sig .tc .vmem S8x128x384 .f32) (x7 : Vec F S1x8x128x256 .f32) (x8 : Vec F S1x8x128x128 .f32) :
    kernelRun0_A.sl.v404 (F := F) c arg9 harg9 arg10 harg10 arg16 x7 x8 = stS 5 x7 x8 := by
  unfold kernelRun0_A.sl.v404 kernelRun0_A.sl.HS0_2
  simp only [load_cols128, load_cols256, load_gain256, load_S32x128, load_S1x128, load_S1x1x128, load_S1x8x128x256, load_S1x8x128x128]
  exact readCov_state 5 _ _ _ _ _

theorem r_47_eq (c : Dev nD) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x0 : Vec F S32x1024 .bf16) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.r_47 (F := F) c arg2 harg2 arg3 harg3 arg4 harg4 arg6 harg6 arg7 harg7 arg9 harg9 arg10 harg10 arg11 harg11 arg15 arg16 x0 x1 x2 x4 x5 x7 x8 x9 = outS 5 x0 x1 x2 x4 x5 x7 x8 x9 := by
  unfold kernelRun0_A.sl.r_47 kernelRun0_A.sl.r_44 kernelRun0_A.sl.r_45 kernelRun0_A.sl.r_46
  simp only [load_cols128, load_cols256, load_gain256, load_S32x128, load_S1x128, load_S1x1x128, load_S1x8x128x256, load_S1x8x128x128, r_8_eq, r_12_eq, r_25_eq, r_24_eq, v404_eq]
  try rfl

theorem v434_eq (c : Dev nD) (arg9 : Memref sig .tc .vmem S1x8x128x256 .f32) (harg9 : arg9.IsWhole) (arg10 : Memref sig .tc .vmem S1x8x128x128 .f32) (harg10 : arg10.IsWhole) (arg16 : Memref sig .tc .vmem S8x128x384 .f32) (x7 : Vec F S1x8x128x256 .f32) (x8 : Vec F S1x8x128x128 .f32) :
    kernelRun0_A.sl.v434 (F := F) c arg9 harg9 arg10 harg10 arg16 x7 x8 = stS 6 x7 x8 := by
  unfold kernelRun0_A.sl.v434 kernelRun0_A.sl.HS0_2
  simp only [load_cols128, load_cols256, load_gain256, load_S32x128, load_S1x128, load_S1x1x128, load_S1x8x128x256, load_S1x8x128x128]
  exact readCov_state 6 _ _ _ _ _

theorem r_48_eq (c : Dev nD) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x0 : Vec F S32x1024 .bf16) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.r_48 (F := F) c arg2 harg2 arg3 harg3 arg4 harg4 arg6 harg6 arg7 harg7 arg9 harg9 arg10 harg10 arg11 harg11 arg15 arg16 x0 x1 x2 x4 x5 x7 x8 x9 = outS 6 x0 x1 x2 x4 x5 x7 x8 x9 := by
  unfold kernelRun0_A.sl.r_48
  simp only [load_cols128, load_cols256, load_gain256, load_S32x128, load_S1x128, load_S1x1x128, load_S1x8x128x256, load_S1x8x128x128, r_8_eq, r_12_eq, r_26_eq, r_27_eq, v434_eq]
  try rfl

theorem v464_eq (c : Dev nD) (arg9 : Memref sig .tc .vmem S1x8x128x256 .f32) (harg9 : arg9.IsWhole) (arg10 : Memref sig .tc .vmem S1x8x128x128 .f32) (harg10 : arg10.IsWhole) (arg16 : Memref sig .tc .vmem S8x128x384 .f32) (x7 : Vec F S1x8x128x256 .f32) (x8 : Vec F S1x8x128x128 .f32) :
    kernelRun0_A.sl.v464 (F := F) c arg9 harg9 arg10 harg10 arg16 x7 x8 = stS 7 x7 x8 := by
  unfold kernelRun0_A.sl.v464 kernelRun0_A.sl.HS0_2
  simp only [load_cols128, load_cols256, load_gain256, load_S32x128, load_S1x128, load_S1x1x128, load_S1x8x128x256, load_S1x8x128x128]
  exact readCov_state 7 _ _ _ _ _

theorem r_50_eq (c : Dev nD) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x0 : Vec F S32x1024 .bf16) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.r_50 (F := F) c arg2 harg2 arg3 harg3 arg4 harg4 arg6 harg6 arg7 harg7 arg9 harg9 arg10 harg10 arg11 harg11 arg15 arg16 x0 x1 x2 x4 x5 x7 x8 x9 = outS 7 x0 x1 x2 x4 x5 x7 x8 x9 := by
  unfold kernelRun0_A.sl.r_50 kernelRun0_A.sl.r_49
  simp only [load_cols128, load_cols256, load_gain256, load_S32x128, load_S1x128, load_S1x1x128, load_S1x8x128x256, load_S1x8x128x128, r_28_eq, r_29_eq, r_8_eq, r_12_eq, v464_eq]
  try rfl

theorem r_51_eq (c : Dev nD) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x0 : Vec F S32x1024 .bf16) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.r_51 (F := F) c arg2 harg2 arg3 harg3 arg4 harg4 arg6 harg6 arg7 harg7 arg9 harg9 arg10 harg10 arg11 harg11 arg15 arg16 x0 x1 x2 x4 x5 x7 x8 x9 = hhS 0 x0 x1 x2 x4 x5 x7 x8 x9 := by
  unfold kernelRun0_A.sl.r_51
  simp only [load_cols128, load_cols256, load_gain256, load_S32x128, load_S1x128, load_S1x1x128, load_S1x8x128x256, load_S1x8x128x128, r_14_eq, r_32_eq]
  try rfl

theorem r_52_eq (c : Dev nD) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x0 : Vec F S32x1024 .bf16) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.r_52 (F := F) c arg2 harg2 arg3 harg3 arg4 harg4 arg6 harg6 arg7 harg7 arg9 harg9 arg10 harg10 arg11 harg11 arg15 arg16 x0 x1 x2 x4 x5 x7 x8 x9 = msS 0 x0 x1 x2 x4 x5 x7 x8 x9 := by
  unfold kernelRun0_A.sl.r_52
  simp only [load_cols128, load_cols256, load_gain256, load_S32x128, load_S1x128, load_S1x1x128, load_S1x8x128x256, load_S1x8x128x128, r_14_eq, r_32_eq]
  try rfl

theorem r_53_eq (c : Dev nD) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x0 : Vec F S32x1024 .bf16) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.r_53 (F := F) c arg2 harg2 arg3 harg3 arg4 harg4 arg6 harg6 arg7 harg7 arg9 harg9 arg10 harg10 arg11 harg11 arg15 arg16 x0 x1 x2 x4 x5 x7 x8 x9 = hhS 1 x0 x1 x2 x4 x5 x7 x8 x9 := by
  unfold kernelRun0_A.sl.r_53
  simp only [load_cols128, load_cols256, load_gain256, load_S32x128, load_S1x128, load_S1x1x128, load_S1x8x128x256, load_S1x8x128x128, r_16_eq, r_37_eq]
  try rfl

theorem r_54_eq (c : Dev nD) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x0 : Vec F S32x1024 .bf16) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.r_54 (F := F) c arg2 harg2 arg3 harg3 arg4 harg4 arg6 harg6 arg7 harg7 arg9 harg9 arg10 harg10 arg11 harg11 arg15 arg16 x0 x1 x2 x4 x5 x7 x8 x9 = msS 1 x0 x1 x2 x4 x5 x7 x8 x9 := by
  unfold kernelRun0_A.sl.r_54
  simp only [load_cols128, load_cols256, load_gain256, load_S32x128, load_S1x128, load_S1x1x128, load_S1x8x128x256, load_S1x8x128x128, r_53_eq]
  try rfl

theorem r_55_eq (c : Dev nD) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x0 : Vec F S32x1024 .bf16) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.r_55 (F := F) c arg2 harg2 arg3 harg3 arg4 harg4 arg6 harg6 arg7 harg7 arg9 harg9 arg10 harg10 arg11 harg11 arg15 arg16 x0 x1 x2 x4 x5 x7 x8 x9 = hhS 2 x0 x1 x2 x4 x5 x7 x8 x9 := by
  unfold kernelRun0_A.sl.r_55
  simp only [load_cols128, load_cols256, load_gain256, load_S32x128, load_S1x128, load_S1x1x128, load_S1x8x128x256, load_S1x8x128x128, r_18_eq, r_38_eq]
  try rfl

theorem r_56_eq (c : Dev nD) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x0 : Vec F S32x1024 .bf16) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.r_56 (F := F) c arg2 harg2 arg3 harg3 arg4 harg4 arg6 harg6 arg7 harg7 arg9 harg9 arg10 harg10 arg11 harg11 arg15 arg16 x0 x1 x2 x4 x5 x7 x8 x9 = msS 2 x0 x1 x2 x4 x5 x7 x8 x9 := by
  unfold kernelRun0_A.sl.r_56
  simp only [load_cols128, load_cols256, load_gain256, load_S32x128, load_S1x128, load_S1x1x128, load_S1x8x128x256, load_S1x8x128x128, r_18_eq, r_38_eq]
  try rfl

theorem r_57_eq (c : Dev nD) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x0 : Vec F S32x1024 .bf16) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.r_57 (F := F) c arg2 harg2 arg3 harg3 arg4 harg4 arg6 harg6 arg7 harg7 arg9 harg9 arg10 harg10 arg11 harg11 arg15 arg16 x0 x1 x2 x4 x5 x7 x8 x9 = hhS 3 x0 x1 x2 x4 x5 x7 x8 x9 := by
  unfold kernelRun0_A.sl.r_57
  simp only [load_cols128, load_cols256, load_gain256, load_S32x128, load_S1x128, load_S1x1x128, load_S1x8x128x256, load_S1x8x128x128, r_20_eq, r_40_eq]
  try rfl

theorem r_58_eq (c : Dev nD) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x0 : Vec F S32x1024 .bf16) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.r_58 (F := F) c arg2 harg2 arg3 harg3 arg4 harg4 arg6 harg6 arg7 harg7 arg9 harg9 arg10 harg10 arg11 harg11 arg15 arg16 x0 x1 x2 x4 x5 x7 x8 x9 = msS 3 x0 x1 x2 x4 x5 x7 x8 x9 := by
  unfold kernelRun0_A.sl.r_58
  simp only [load_cols128, load_cols256, load_gain256, load_S32x128, load_S1x128, load_S1x1x128, load_S1x8x128x256, load_S1x8x128x128, r_20_eq, r_40_eq]
  try rfl

theorem r_59_eq (c : Dev nD) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x0 : Vec F S32x1024 .bf16) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.r_59 (F := F) c arg2 harg2 arg3 harg3 arg4 harg4 arg6 harg6 arg7 harg7 arg9 harg9 arg10 harg10 arg11 harg11 arg15 arg16 x0 x1 x2 x4 x5 x7 x8 x9 = hhS 4 x0 x1 x2 x4 x5 x7 x8 x9 := by
  unfold kernelRun0_A.sl.r_59
  simp only [load_cols128, load_cols256, load_gain256, load_S32x128, load_S1x128, load_S1x1x128, load_S1x8x128x256, load_S1x8x128x128, r_22_eq, r_43_eq]
  try rfl

theorem r_60_eq (c : Dev nD) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x0 : Vec F S32x1024 .bf16) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.r_60 (F := F) c arg2 harg2 arg3 harg3 arg4 harg4 arg6 harg6 arg7 harg7 arg9 harg9 arg10 harg10 arg11 harg11 arg15 arg16 x0 x1 x2 x4 x5 x7 x8 x9 = msS 4 x0 x1 x2 x4 x5 x7 x8 x9 := by
  unfold kernelRun0_A.sl.r_60
  simp only [load_cols128, load_cols256, load_gain256, load_S32x128, load_S1x128, load_S1x1x128, load_S1x8x128x256, load_S1x8x128x128, r_22_eq, r_43_eq]
  try rfl

theorem r_62_eq (c : Dev nD) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x0 : Vec F S32x1024 .bf16) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.r_62 (F := F) c arg2 harg2 arg3 harg3 arg4 harg4 arg6 harg6 arg7 harg7 arg9 harg9 arg10 harg10 arg11 harg11 arg15 arg16 x0 x1 x2 x4 x5 x7 x8 x9 = hhS 5 x0 x1 x2 x4 x5 x7 x8 x9 := by
  unfold kernelRun0_A.sl.r_62 kernelRun0_A.sl.r_61
  simp only [load_cols128, load_cols256, load_gain256, load_S32x128, load_S1x128, load_S1x1x128, load_S1x8x128x256, load_S1x8x128x128, r_47_eq, r_24_eq]
  try rfl

theorem r_63_eq (c : Dev nD) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x0 : Vec F S32x1024 .bf16) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.r_63 (F := F) c arg2 harg2 arg3 harg3 arg4 harg4 arg6 harg6 arg7 harg7 arg9 harg9 arg10 harg10 arg11 harg11 arg15 arg16 x0 x1 x2 x4 x5 x7 x8 x9 = msS 5 x0 x1 x2 x4 x5 x7 x8 x9 := by
  unfold kernelRun0_A.sl.r_63 kernelRun0_A.sl.r_61
  simp only [load_cols128, load_cols256, load_gain256, load_S32x128, load_S1x128, load_S1x1x128, load_S1x8x128x256, load_S1x8x128x128, r_47_eq, r_24_eq]
  try rfl

theorem r_64_eq (c : Dev nD) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x0 : Vec F S32x1024 .bf16) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.r_64 (F := F) c arg2 harg2 arg3 harg3 arg4 harg4 arg6 harg6 arg7 harg7 arg9 harg9 arg10 harg10 arg11 harg11 arg15 arg16 x0 x1 x2 x4 x5 x7 x8 x9 = hhS 6 x0 x1 x2 x4 x5 x7 x8 x9 := by
  unfold kernelRun0_A.sl.r_64
  simp only [load_cols128, load_cols256, load_gain256, load_S32x128, load_S1x128, load_S1x1x128, load_S1x8x128x256, load_S1x8x128x128, r_26_eq, r_48_eq]
  try rfl

theorem r_65_eq (c : Dev nD) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x0 : Vec F S32x1024 .bf16) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.r_65 (F := F) c arg2 harg2 arg3 harg3 arg4 harg4 arg6 harg6 arg7 harg7 arg9 harg9 arg10 harg10 arg11 harg11 arg15 arg16 x0 x1 x2 x4 x5 x7 x8 x9 = msS 6 x0 x1 x2 x4 x5 x7 x8 x9 := by
  unfold kernelRun0_A.sl.r_65
  simp only [load_cols128, load_cols256, load_gain256, load_S32x128, load_S1x128, load_S1x1x128, load_S1x8x128x256, load_S1x8x128x128, r_26_eq, r_48_eq]
  try rfl

theorem r_66_eq (c : Dev nD) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x0 : Vec F S32x1024 .bf16) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.r_66 (F := F) c arg2 harg2 arg3 harg3 arg4 harg4 arg6 harg6 arg7 harg7 arg9 harg9 arg10 harg10 arg11 harg11 arg15 arg16 x0 x1 x2 x4 x5 x7 x8 x9 = hhS 7 x0 x1 x2 x4 x5 x7 x8 x9 := by
  unfold kernelRun0_A.sl.r_66
  simp only [load_cols128, load_cols256, load_gain256, load_S32x128, load_S1x128, load_S1x1x128, load_S1x8x128x256, load_S1x8x128x128, r_28_eq, r_50_eq]
  try rfl

theorem r_67_eq (c : Dev nD) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x0 : Vec F S32x1024 .bf16) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.r_67 (F := F) c arg2 harg2 arg3 harg3 arg4 harg4 arg6 harg6 arg7 harg7 arg9 harg9 arg10 harg10 arg11 harg11 arg15 arg16 x0 x1 x2 x4 x5 x7 x8 x9 = msS 7 x0 x1 x2 x4 x5 x7 x8 x9 := by
  unfold kernelRun0_A.sl.r_67
  simp only [load_cols128, load_cols256, load_gain256, load_S32x128, load_S1x128, load_S1x1x128, load_S1x8x128x256, load_S1x8x128x128, r_28_eq, r_50_eq]
  try rfl

theorem r_71_eq (c : Dev nD) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg11 : Memref sig .tc .vmem S1x1x128 .f32) (harg11 : arg11.IsWhole) (arg15 : Memref sig .tc .vmem S1x1x128 .f32) (x1 : Vec F S32x1024 .bf16) (x2 : Vec F S32x2048 .bf16) (x4 : Vec F S32x128 .f32) (x5 : Vec F S1x128 .f32) (x9 : Vec F S1x1x128 .f32) :
    kernelRun0_A.sl.r_71 (F := F) c arg3 harg3 arg4 harg4 arg6 harg6 arg7 harg7 arg11 harg11 arg15 x1 x2 x4 x5 x9 = updS 0 (wS x4 x5 x9) (cols128 (128 * (0 : Fin 8).val) (le128 0) x1) (cols256 (256 * (0 : Fin 8).val) (le256 0) x2) := by
  unfold kernelRun0_A.sl.r_71
  simp only [load_cols128, load_cols256, load_gain256, load_S32x128, load_S1x128, load_S1x1x128, load_S1x8x128x256, load_S1x8x128x128, r_10_eq]
  try rfl

theorem r_73_eq (c : Dev nD) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg11 : Memref sig .tc .vmem S1x1x128 .f32) (harg11 : arg11.IsWhole) (arg15 : Memref sig .tc .vmem S1x1x128 .f32) (x1 : Vec F S32x1024 .bf16) (x2 : Vec F S32x2048 .bf16) (x4 : Vec F S32x128 .f32) (x5 : Vec F S1x128 .f32) (x9 : Vec F S1x1x128 .f32) :
    kernelRun0_A.sl.r_73 (F := F) c arg3 harg3 arg4 harg4 arg6 harg6 arg7 harg7 arg11 harg11 arg15 x1 x2 x4 x5 x9 = updS 1 (wS x4 x5 x9) (cols128 (128 * (1 : Fin 8).val) (le128 1) x1) (cols256 (256 * (1 : Fin 8).val) (le256 1) x2) := by
  unfold kernelRun0_A.sl.r_73
  simp only [load_cols128, load_cols256, load_gain256, load_S32x128, load_S1x128, load_S1x1x128, load_S1x8x128x256, load_S1x8x128x128, r_10_eq]
  try rfl

theorem r_75_eq (c : Dev nD) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg11 : Memref sig .tc .vmem S1x1x128 .f32) (harg11 : arg11.IsWhole) (arg15 : Memref sig .tc .vmem S1x1x128 .f32) (x1 : Vec F S32x1024 .bf16) (x2 : Vec F S32x2048 .bf16) (x4 : Vec F S32x128 .f32) (x5 : Vec F S1x128 .f32) (x9 : Vec F S1x1x128 .f32) :
    kernelRun0_A.sl.r_75 (F := F) c arg3 harg3 arg4 harg4 arg6 harg6 arg7 harg7 arg11 harg11 arg15 x1 x2 x4 x5 x9 = updS 2 (wS x4 x5 x9) (cols128 (128 * (2 : Fin 8).val) (le128 2) x1) (cols256 (256 * (2 : Fin 8).val) (le256 2) x2) := by
  unfold kernelRun0_A.sl.r_75
  simp only [load_cols128, load_cols256, load_gain256, load_S32x128, load_S1x128, load_S1x1x128, load_S1x8x128x256, load_S1x8x128x128, r_10_eq]
  try rfl

theorem r_77_eq (c : Dev nD) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg11 : Memref sig .tc .vmem S1x1x128 .f32) (harg11 : arg11.IsWhole) (arg15 : Memref sig .tc .vmem S1x1x128 .f32) (x1 : Vec F S32x1024 .bf16) (x2 : Vec F S32x2048 .bf16) (x4 : Vec F S32x128 .f32) (x5 : Vec F S1x128 .f32) (x9 : Vec F S1x1x128 .f32) :
    kernelRun0_A.sl.r_77 (F := F) c arg3 harg3 arg4 harg4 arg6 harg6 arg7 harg7 arg11 harg11 arg15 x1 x2 x4 x5 x9 = updS 3 (wS x4 x5 x9) (cols128 (128 * (3 : Fin 8).val) (le128 3) x1) (cols256 (256 * (3 : Fin 8).val) (le256 3) x2) := by
  unfold kernelRun0_A.sl.r_77
  simp only [load_cols128, load_cols256, load_gain256, load_S32x128, load_S1x128, load_S1x1x128, load_S1x8x128x256, load_S1x8x128x128, r_10_eq]
  try rfl

theorem r_78_eq (c : Dev nD) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg11 : Memref sig .tc .vmem S1x1x128 .f32) (harg11 : arg11.IsWhole) (arg15 : Memref sig .tc .vmem S1x1x128 .f32) (x1 : Vec F S32x1024 .bf16) (x2 : Vec F S32x2048 .bf16) (x4 : Vec F S32x128 .f32) (x5 : Vec F S1x128 .f32) (x9 : Vec F S1x1x128 .f32) :
    kernelRun0_A.sl.r_78 (F := F) c arg3 harg3 arg4 harg4 arg6 harg6 arg7 harg7 arg11 harg11 arg15 x1 x2 x4 x5 x9 = updS 4 (wS x4 x5 x9) (cols128 (128 * (4 : Fin 8).val) (le128 4) x1) (cols256 (256 * (4 : Fin 8).val) (le256 4) x2) := by
  unfold kernelRun0_A.sl.r_78
  simp only [load_cols128, load_cols256, load_gain256, load_S32x128, load_S1x128, load_S1x1x128, load_S1x8x128x256, load_S1x8x128x128, r_10_eq]
  try rfl

theorem r_80_eq (c : Dev nD) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg11 : Memref sig .tc .vmem S1x1x128 .f32) (harg11 : arg11.IsWhole) (arg15 : Memref sig .tc .vmem S1x1x128 .f32) (x1 : Vec F S32x1024 .bf16) (x2 : Vec F S32x2048 .bf16) (x4 : Vec F S32x128 .f32) (x5 : Vec F S1x128 .f32) (x9 : Vec F S1x1x128 .f32) :
    kernelRun0_A.sl.r_80 (F := F) c arg3 harg3 arg4 harg4 arg6 harg6 arg7 harg7 arg11 harg11 arg15 x1 x2 x4 x5 x9 = updS 5 (wS x4 x5 x9) (cols128 (128 * (5 : Fin 8).val) (le128 5) x1) (cols256 (256 * (5 : Fin 8).val) (le256 5) x2) := by
  unfold kernelRun0_A.sl.r_80 kernelRun0_A.sl.r_79
  simp only [load_cols128, load_cols256, load_gain256, load_S32x128, load_S1x128, load_S1x1x128, load_S1x8x128x256, load_S1x8x128x128, r_10_eq]
  try rfl

theorem r_83_eq (c : Dev nD) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg11 : Memref sig .tc .vmem S1x1x128 .f32) (harg11 : arg11.IsWhole) (arg15 : Memref sig .tc .vmem S1x1x128 .f32) (x1 : Vec F S32x1024 .bf16) (x2 : Vec F S32x2048 .bf16) (x4 : Vec F S32x128 .f32) (x5 : Vec F S1x128 .f32) (x9 : Vec F S1x1x128 .f32) :
    kernelRun0_A.sl.r_83 (F := F) c arg3 harg3 arg4 harg4 arg6 harg6 arg7 harg7 arg11 harg11 arg15 x1 x2 x4 x5 x9 = updS 6 (wS x4 x5 x9) (cols128 (128 * (6 : Fin 8).val) (le128 6) x1) (cols256 (256 * (6 : Fin 8).val) (le256 6) x2) := by
  unfold kernelRun0_A.sl.r_83 kernelRun0_A.sl.r_81 kernelRun0_A.sl.r_82
  simp only [load_cols128, load_cols256, load_gain256, load_S32x128, load_S1x128, load_S1x1x128, load_S1x8x128x256, load_S1x8x128x128, r_10_eq]
  try rfl

theorem r_85_eq (c : Dev nD) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg11 : Memref sig .tc .vmem S1x1x128 .f32) (harg11 : arg11.IsWhole) (arg15 : Memref sig .tc .vmem S1x1x128 .f32) (x1 : Vec F S32x1024 .bf16) (x2 : Vec F S32x2048 .bf16) (x4 : Vec F S32x128 .f32) (x5 : Vec F S1x128 .f32) (x9 : Vec F S1x1x128 .f32) :
    kernelRun0_A.sl.r_85 (F := F) c arg3 harg3 arg4 harg4 arg6 harg6 arg7 harg7 arg11 harg11 arg15 x1 x2 x4 x5 x9 = updS 7 (wS x4 x5 x9) (cols128 (128 * (7 : Fin 8).val) (le128 7) x1) (cols256 (256 * (7 : Fin 8).val) (le256 7) x2) := by
  unfold kernelRun0_A.sl.r_85 kernelRun0_A.sl.r_84
  simp only [load_cols128, load_cols256, load_gain256, load_S32x128, load_S1x128, load_S1x1x128, load_S1x8x128x256, load_S1x8x128x128, r_10_eq]
  try rfl

theorem v855_eq (c : Dev nD) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.v855 (F := F) c arg3 harg3 arg4 harg4 arg6 harg6 arg7 harg7 arg9 harg9 arg10 harg10 arg11 harg11 arg15 arg16 x1 x2 x4 x5 x7 x8 x9 = stS 1 x7 x8 := by
  unfold kernelRun0_A.sl.v855
  unfold kernelRun0_A.sl.HS0_3
  rw [View.readCov_skip (h := by decide)]
  unfold kernelRun0_A.sl.HS0_2
  simp only [load_cols128, load_cols256, load_gain256, load_S32x128, load_S1x128, load_S1x1x128, load_S1x8x128x256, load_S1x8x128x128]
  exact readCov_state 1 _ _ _ _ _

theorem v864_eq (c : Dev nD) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.v864 (F := F) c arg3 harg3 arg4 harg4 arg6 harg6 arg7 harg7 arg9 harg9 arg10 harg10 arg11 harg11 arg15 arg16 x1 x2 x4 x5 x7 x8 x9 = stS 2 x7 x8 := by
  unfold kernelRun0_A.sl.v864
  unfold kernelRun0_A.sl.HS0_4
  rw [View.readCov_skip (h := by decide)]
  unfold kernelRun0_A.sl.HS0_3
  rw [View.readCov_skip (h := by decide)]
  unfold kernelRun0_A.sl.HS0_2
  simp only [load_cols128, load_cols256, load_gain256, load_S32x128, load_S1x128, load_S1x1x128, load_S1x8x128x256, load_S1x8x128x128]
  exact readCov_state 2 _ _ _ _ _

theorem v873_eq (c : Dev nD) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.v873 (F := F) c arg3 harg3 arg4 harg4 arg6 harg6 arg7 harg7 arg9 harg9 arg10 harg10 arg11 harg11 arg15 arg16 x1 x2 x4 x5 x7 x8 x9 = stS 3 x7 x8 := by
  unfold kernelRun0_A.sl.v873
  unfold kernelRun0_A.sl.HS0_5
  rw [View.readCov_skip (h := by decide)]
  unfold kernelRun0_A.sl.HS0_4
  rw [View.readCov_skip (h := by decide)]
  unfold kernelRun0_A.sl.HS0_3
  rw [View.readCov_skip (h := by decide)]
  unfold kernelRun0_A.sl.HS0_2
  simp only [load_cols128, load_cols256, load_gain256, load_S32x128, load_S1x128, load_S1x1x128, load_S1x8x128x256, load_S1x8x128x128]
  exact readCov_state 3 _ _ _ _ _

theorem v882_eq (c : Dev nD) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.v882 (F := F) c arg3 harg3 arg4 harg4 arg6 harg6 arg7 harg7 arg9 harg9 arg10 harg10 arg11 harg11 arg15 arg16 x1 x2 x4 x5 x7 x8 x9 = stS 4 x7 x8 := by
  unfold kernelRun0_A.sl.v882
  unfold kernelRun0_A.sl.HS0_6
  rw [View.readCov_skip (h := by decide)]
  unfold kernelRun0_A.sl.HS0_5
  rw [View.readCov_skip (h := by decide)]
  unfold kernelRun0_A.sl.HS0_4
  rw [View.readCov_skip (h := by decide)]
  unfold kernelRun0_A.sl.HS0_3
  rw [View.readCov_skip (h := by decide)]
  unfold kernelRun0_A.sl.HS0_2
  simp only [load_cols128, load_cols256, load_gain256, load_S32x128, load_S1x128, load_S1x1x128, load_S1x8x128x256, load_S1x8x128x128]
  exact readCov_state 4 _ _ _ _ _

theorem v891_eq (c : Dev nD) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.v891 (F := F) c arg3 harg3 arg4 harg4 arg6 harg6 arg7 harg7 arg9 harg9 arg10 harg10 arg11 harg11 arg15 arg16 x1 x2 x4 x5 x7 x8 x9 = stS 5 x7 x8 := by
  unfold kernelRun0_A.sl.v891
  unfold kernelRun0_A.sl.HS0_7
  rw [View.readCov_skip (h := by decide)]
  unfold kernelRun0_A.sl.HS0_6
  rw [View.readCov_skip (h := by decide)]
  unfold kernelRun0_A.sl.HS0_5
  rw [View.readCov_skip (h := by decide)]
  unfold kernelRun0_A.sl.HS0_4
  rw [View.readCov_skip (h := by decide)]
  unfold kernelRun0_A.sl.HS0_3
  rw [View.readCov_skip (h := by decide)]
  unfold kernelRun0_A.sl.HS0_2
  simp only [load_cols128, load_cols256, load_gain256, load_S32x128, load_S1x128, load_S1x1x128, load_S1x8x128x256, load_S1x8x128x128]
  exact readCov_state 5 _ _ _ _ _

theorem v900_eq (c : Dev nD) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.v900 (F := F) c arg3 harg3 arg4 harg4 arg6 harg6 arg7 harg7 arg9 harg9 arg10 harg10 arg11 harg11 arg15 arg16 x1 x2 x4 x5 x7 x8 x9 = stS 6 x7 x8 := by
  unfold kernelRun0_A.sl.v900
  unfold kernelRun0_A.sl.HS0_8
  rw [View.readCov_skip (h := by decide)]
  unfold kernelRun0_A.sl.HS0_7
  rw [View.readCov_skip (h := by decide)]
  unfold kernelRun0_A.sl.HS0_6
  rw [View.readCov_skip (h := by decide)]
  unfold kernelRun0_A.sl.HS0_5
  rw [View.readCov_skip (h := by decide)]
  unfold kernelRun0_A.sl.HS0_4
  rw [View.readCov_skip (h := by decide)]
  unfold kernelRun0_A.sl.HS0_3
  rw [View.readCov_skip (h := by decide)]
  unfold kernelRun0_A.sl.HS0_2
  simp only [load_cols128, load_cols256, load_gain256, load_S32x128, load_S1x128, load_S1x1x128, load_S1x8x128x256, load_S1x8x128x128]
  exact readCov_state 6 _ _ _ _ _

theorem v909_eq (c : Dev nD) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.v909 (F := F) c arg3 harg3 arg4 harg4 arg6 harg6 arg7 harg7 arg9 harg9 arg10 harg10 arg11 harg11 arg15 arg16 x1 x2 x4 x5 x7 x8 x9 = stS 7 x7 x8 := by
  unfold kernelRun0_A.sl.v909
  unfold kernelRun0_A.sl.HS0_9
  rw [View.readCov_skip (h := by decide)]
  unfold kernelRun0_A.sl.HS0_8
  rw [View.readCov_skip (h := by decide)]
  unfold kernelRun0_A.sl.HS0_7
  rw [View.readCov_skip (h := by decide)]
  unfold kernelRun0_A.sl.HS0_6
  rw [View.readCov_skip (h := by decide)]
  unfold kernelRun0_A.sl.HS0_5
  rw [View.readCov_skip (h := by decide)]
  unfold kernelRun0_A.sl.HS0_4
  rw [View.readCov_skip (h := by decide)]
  unfold kernelRun0_A.sl.HS0_3
  rw [View.readCov_skip (h := by decide)]
  unfold kernelRun0_A.sl.HS0_2
  simp only [load_cols128, load_cols256, load_gain256, load_S32x128, load_S1x128, load_S1x1x128, load_S1x8x128x256, load_S1x8x128x128]
  exact readCov_state 7 _ _ _ _ _

end Cert.KernelIdeal.Mlstm

end
-- ==== Proof.Mlstm.Out.lean ====
module

public import proofs.«01_k».proof.Proof.Mlstm.Tile
public import proofs.«01_k».proof.Proof.Mlstm.Chain

@[expose] public section

/-! # What one grid point leaves in its output blocks

The gated output of the eight heads side by side, the new state matrix and normaliser, and the last row of the
running maximum. -/

set_option maxRecDepth 16384
set_option synthInstance.maxSize 4096

noncomputable section

namespace Cert.KernelIdeal.Mlstm

open Idealize.ShloMosaic Idealize.ShloMosaic.TcCoe Idealize.ShloMosaic.Tactic
open Idealize.ShloMosaic.Pointwise Idealize.SL.Sem
open Cert.KernelIdeal Cert.KernelIdeal.Gen

variable {F : FTy → Type} [FloatOps F] [Named F]

theorem HS0_10_eq (c : Dev nD) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.HS0_10 (F := F) c arg3 harg3 arg4 harg4 arg6 harg6 arg7 harg7 arg9 harg9 arg10 harg10 arg11 harg11 arg15 arg16 x1 x2 x4 x5 x7 x8 x9 = stPieces (fun h => nstS h x1 x2 x4 x5 x7 x8 x9) ++ kernelRun0_A.sl.HS0_2 c arg9 harg9 arg10 harg10 x7 x8 := by
  unfold kernelRun0_A.sl.HS0_10 kernelRun0_A.sl.HS0_9 kernelRun0_A.sl.HS0_8 kernelRun0_A.sl.HS0_7 kernelRun0_A.sl.HS0_6 kernelRun0_A.sl.HS0_5 kernelRun0_A.sl.HS0_4 kernelRun0_A.sl.HS0_3 kernelRun0_A.sl.r_86
  simp only [r_11_eq, r_71_eq, r_73_eq, r_75_eq, r_77_eq, r_78_eq, r_80_eq, r_83_eq, r_85_eq, v254_eq, v855_eq, v864_eq, v873_eq, v882_eq, v891_eq, v900_eq, v909_eq]
  rfl

theorem v920_eq (c : Dev nD) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.v920 (F := F) c arg3 harg3 arg4 harg4 arg6 harg6 arg7 harg7 arg9 harg9 arg10 harg10 arg11 harg11 arg15 arg16 x1 x2 x4 x5 x7 x8 x9 = fun j => nstS (j 0) x1 x2 x4 x5 x7 x8 x9 (ix3 0 (j 1) ⟨(j 2).val, lt384 (j 2)⟩) := by
  unfold kernelRun0_A.sl.v920
  rw [HS0_10_eq]
  exact readCov_v920 _ _ _

theorem v924_eq (c : Dev nD) (arg3 : Memref sig .tc .vmem S32x1024 .bf16) (harg3 : arg3.IsWhole) (arg4 : Memref sig .tc .vmem S32x2048 .bf16) (harg4 : arg4.IsWhole) (arg6 : Memref sig .tc .vmem S32x128 .f32) (harg6 : arg6.IsWhole) (arg7 : Memref sig .tc .vmem S1x128 .f32) (harg7 : arg7.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg15 : Memref sig .tc .vmem S1x1x128 .f32) (arg16 : Memref sig .tc .vmem S8x128x384 .f32) (x1 : Vec F S32x1024 .bf16) (x2 : Vec F S32x2048 .bf16) (x4 : Vec F S32x128 .f32) (x5 : Vec F S1x128 .f32) (x7 : Vec F S1x8x128x256 .f32) (x8 : Vec F S1x8x128x128 .f32) (x9 : Vec F S1x1x128 .f32) :
    kernelRun0_A.sl.v924 (F := F) c arg3 harg3 arg4 harg4 arg6 harg6 arg7 harg7 arg9 harg9 arg10 harg10 arg11 harg11 arg15 arg16 x1 x2 x4 x5 x7 x8 x9 = fun j => nstS (j 0) x1 x2 x4 x5 x7 x8 x9 (ix3 0 (j 1) ⟨256 + (j 2).val, lt384' (j 2)⟩) := by
  unfold kernelRun0_A.sl.v924
  rw [HS0_10_eq]
  exact readCov_v924 _ _ _

theorem out10_eq (c : Dev nD) (i : grid0.Coords) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg5 : Memref sig .tc .vmem S32x2048 .bf16) (harg5 : arg5.IsWhole) (arg6 : Memref sig .tc .vmem S32x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg12 : Memref sig .tc .vmem S32x2048 .bf16) (harg12 : arg12.IsWhole) (arg13 : Memref sig .tc .vmem S1x8x128x256 .f32) (harg13 : arg13.IsWhole) (arg14 : Memref sig .tc .vmem S1x8x128x128 .f32) (harg14 : arg14.IsWhole) (arg15 : Memref sig .tc .vmem S1x1x128 .f32) (harg15 : arg15.IsWhole) (arg16 : Memref sig .tc .vmem S8x128x384 .f32) (harg16 : arg16.IsWhole) (hc0 : cond0_0 i) (hc1 : cond0_1 i)
    (x0 : Vec F S32x1024 .bf16) (x1 : Vec F S32x1024 .bf16) (x2 : Vec F S32x2048 .bf16) (x3 : Vec F S32x2048 .bf16) (x4 : Vec F S32x128 .f32) (x5 : Vec F S1x128 .f32) (x6 : Vec F S1x2048 .f32) (x7 : Vec F S1x8x128x256 .f32) (x8 : Vec F S1x8x128x128 .f32) (x9 : Vec F S1x1x128 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = yG (fun h => yS h x0 x1 x2 x3 x4 x5 x6 x7 x8 x9) := by
  unfold out0_A_10
  rw [View.read_writes_junk_eq_canon]
  unfold kernelRun0_A
  dsimp only
  unfold kernelRun0_A.sl.r_68 kernelRun0_A.sl.r_69 kernelRun0_A.sl.r_70 kernelRun0_A.sl.r_72 kernelRun0_A.sl.r_74 kernelRun0_A.sl.r_76
  simp only [load_cols128, load_cols256, load_gain256, load_S32x128, load_S1x128, load_S1x1x128, load_S1x8x128x256, load_S1x8x128x128, r_51_eq, r_52_eq, r_53_eq, r_54_eq, r_55_eq, r_56_eq, r_57_eq, r_58_eq, r_59_eq, r_60_eq, r_62_eq, r_63_eq, r_64_eq, r_65_eq, r_66_eq, r_67_eq]
  exact canon_y (fun h => yS h x0 x1 x2 x3 x4 x5 x6 x7 x8 x9) _ _ _ _ _ _ _ _

theorem out11_eq (c : Dev nD) (i : grid0.Coords) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg5 : Memref sig .tc .vmem S32x2048 .bf16) (harg5 : arg5.IsWhole) (arg6 : Memref sig .tc .vmem S32x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg12 : Memref sig .tc .vmem S32x2048 .bf16) (harg12 : arg12.IsWhole) (arg13 : Memref sig .tc .vmem S1x8x128x256 .f32) (harg13 : arg13.IsWhole) (arg14 : Memref sig .tc .vmem S1x8x128x128 .f32) (harg14 : arg14.IsWhole) (arg15 : Memref sig .tc .vmem S1x1x128 .f32) (harg15 : arg15.IsWhole) (arg16 : Memref sig .tc .vmem S8x128x384 .f32) (harg16 : arg16.IsWhole) (hc0 : cond0_0 i) (hc1 : cond0_1 i)
    (x0 : Vec F S32x1024 .bf16) (x1 : Vec F S32x1024 .bf16) (x2 : Vec F S32x2048 .bf16) (x3 : Vec F S32x2048 .bf16) (x4 : Vec F S32x128 .f32) (x5 : Vec F S1x128 .f32) (x6 : Vec F S1x2048 .f32) (x7 : Vec F S1x8x128x256 .f32) (x8 : Vec F S1x8x128x128 .f32) (x9 : Vec F S1x1x128 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = fun i => nstS (i 1) x1 x2 x4 x5 x7 x8 x9 (ix3 0 (i 2) ⟨(i 3).val, lt384 (i 3)⟩) := by
  unfold out0_A_11
  rw [View.read_writes_junk_eq_canon]
  unfold kernelRun0_A
  dsimp only
  rw [v920_eq]
  exact (View.canon_unit_zero (funext fun a => by fin_cases a <;> rfl) _ _).trans (pay2_eq _)

theorem out12_eq (c : Dev nD) (i : grid0.Coords) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg5 : Memref sig .tc .vmem S32x2048 .bf16) (harg5 : arg5.IsWhole) (arg6 : Memref sig .tc .vmem S32x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg12 : Memref sig .tc .vmem S32x2048 .bf16) (harg12 : arg12.IsWhole) (arg13 : Memref sig .tc .vmem S1x8x128x256 .f32) (harg13 : arg13.IsWhole) (arg14 : Memref sig .tc .vmem S1x8x128x128 .f32) (harg14 : arg14.IsWhole) (arg15 : Memref sig .tc .vmem S1x1x128 .f32) (harg15 : arg15.IsWhole) (arg16 : Memref sig .tc .vmem S8x128x384 .f32) (harg16 : arg16.IsWhole) (hc0 : cond0_0 i) (hc1 : cond0_1 i)
    (x0 : Vec F S32x1024 .bf16) (x1 : Vec F S32x1024 .bf16) (x2 : Vec F S32x2048 .bf16) (x3 : Vec F S32x2048 .bf16) (x4 : Vec F S32x128 .f32) (x5 : Vec F S1x128 .f32) (x6 : Vec F S1x2048 .f32) (x7 : Vec F S1x8x128x256 .f32) (x8 : Vec F S1x8x128x128 .f32) (x9 : Vec F S1x1x128 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = fun i => nstS (i 1) x1 x2 x4 x5 x7 x8 x9 (ix3 0 (i 2) ⟨256 + (i 3).val, lt384' (i 3)⟩) := by
  unfold out0_A_12
  rw [View.read_writes_junk_eq_canon]
  unfold kernelRun0_A
  dsimp only
  rw [v924_eq]
  exact (View.canon_unit_zero (funext fun a => by fin_cases a <;> rfl) _ _).trans (pay3_eq _)

theorem out13_eq (c : Dev nD) (i : grid0.Coords) (arg2 : Memref sig .tc .vmem S32x1024 .bf16) (harg2 : arg2.IsWhole) (arg3 : Memref sig .tc .vmem S32x1024 .bf16) (harg3 : arg3.IsWhole) (arg4 : Memref sig .tc .vmem S32x2048 .bf16) (harg4 : arg4.IsWhole) (arg5 : Memref sig .tc .vmem S32x2048 .bf16) (harg5 : arg5.IsWhole) (arg6 : Memref sig .tc .vmem S32x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x8x128x256 .f32) (harg9 : arg9.IsWhole) (arg10 : Memref sig .tc .vmem S1x8x128x128 .f32) (harg10 : arg10.IsWhole) (arg11 : Memref sig .tc .vmem S1x1x128 .f32) (harg11 : arg11.IsWhole) (arg12 : Memref sig .tc .vmem S32x2048 .bf16) (harg12 : arg12.IsWhole) (arg13 : Memref sig .tc .vmem S1x8x128x256 .f32) (harg13 : arg13.IsWhole) (arg14 : Memref sig .tc .vmem S1x8x128x128 .f32) (harg14 : arg14.IsWhole) (arg15 : Memref sig .tc .vmem S1x1x128 .f32) (harg15 : arg15.IsWhole) (arg16 : Memref sig .tc .vmem S8x128x384 .f32) (harg16 : arg16.IsWhole) (hc0 : cond0_0 i) (hc1 : cond0_1 i)
    (x0 : Vec F S32x1024 .bf16) (x1 : Vec F S32x1024 .bf16) (x2 : Vec F S32x2048 .bf16) (x3 : Vec F S32x2048 .bf16) (x4 : Vec F S32x128 .f32) (x5 : Vec F S1x128 .f32) (x6 : Vec F S1x2048 .f32) (x7 : Vec F S1x8x128x256 .f32) (x8 : Vec F S1x8x128x128 .f32) (x9 : Vec F S1x1x128 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 = fun i => mtS x4 x5 x9 (ix2 31 (i 2)) := by
  unfold out0_A_13
  rw [View.read_writes_junk_eq_canon]
  unfold kernelRun0_A
  dsimp only
  rw [r_7_eq]
  exact (View.canon_cons_unit_zero (funext fun a => by fin_cases a <;> rfl) _ _ _).trans (pay27_eq _)

end Cert.KernelIdeal.Mlstm

end
-- ==== Proof.Mlstm.Math.lean ====
module

public import Idealize.ShloMosaic.Lib.Pointwise

@[expose] public section

/-! # One head of the mLSTM block over the extended reals

The values of one head over one block of 32 rows, written with the gates as real numbers: the soft cap keeps
them finite, so the running sums are real whatever the inputs are. -/

noncomputable section

namespace Cert.Mlstm

open Idealize.ShloMosaic

/-! ## Finite sums -/

theorem sum_mul_nonneg {ι : Type*} (S : Finset ι) (f : ι → EReal) (c : EReal) (h0 : 0 ≤ c) (ht : c ≠ ⊤) :
    (∑ i ∈ S, f i) * c = ∑ i ∈ S, f i * c := by
  classical
  induction S using Finset.induction_on with
  | empty => simp
  | insert a S ha ih => rw [Finset.sum_insert ha, Finset.sum_insert ha, EReal.right_distrib_of_nonneg_of_ne_top h0 ht, ih]

theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-! ## The gates -/

/-- The hyperbolic tangent of an extended real, as a real. -/
def tanhR (x : EReal) : ℝ := (Ideal.tanh x).toReal

theorem tanh_eq (x : EReal) : Ideal.tanh x = (tanhR x : EReal) := by
  induction x with
  | bot => simp [tanhR]
  | top => simp [tanhR]
  | coe r => simp [tanhR]

/-- The soft cap at 15. -/
def capR (x : EReal) : ℝ := 15 * tanhR (x * ((15 : ℝ)⁻¹ : ℝ))

/-- The logarithm of the logistic function. -/
def lsR (r : ℝ) : ℝ := min r 0 - Real.log (1 + Real.exp (-|r|))

theorem lsR_eq (r : ℝ) : min (r : EReal) 0 - Ideal.log (1 + Ideal.exp (0 - ((|r| : ℝ) : EReal))) = (lsR r : EReal) := by
  have h1 : (0 : EReal) - ((|r| : ℝ) : EReal) = ((-|r| : ℝ) : EReal) := by
    rw [zero_sub, EReal.coe_neg]
  have h2 : (1 : EReal) + ((Real.exp (-|r|) : ℝ) : EReal) = ((1 + Real.exp (-|r|) : ℝ) : EReal) := by
    rw [EReal.coe_add, EReal.coe_one]
  have h3 : ¬ (1 + Real.exp (-|r|) ≤ 0) := not_le.mpr (by positivity)
  rw [h1, Ideal.exp_coe, h2, Ideal.log_coe, if_neg h3, lsR, EReal.coe_sub, EReal.coe_strictMono.monotone.map_min, EReal.coe_zero]

/-- The negated softplus of the negation is the same function. -/
theorem lsR_softplus (r : ℝ) : -(max (-r) 0 + Real.log (1 + Real.exp (-|(-r) - 0|))) = lsR r := by
  rw [lsR, sub_zero, abs_neg, neg_add, ← min_neg_neg, neg_neg, neg_zero, ← sub_eq_add_neg]

/-! ## One head -/

/-- What one head of one block is given: the projected rows, the two gates before the cap, the gain, and the
    carried state. -/
structure Head where
  q : Fin 32 → Fin 128 → EReal
  k : Fin 32 → Fin 128 → EReal
  v : Fin 32 → Fin 256 → EReal
  o : Fin 32 → Fin 256 → EReal
  gi : Fin 32 → EReal
  gf : Fin 32 → EReal
  gain : Fin 256 → EReal
  C : Fin 128 → Fin 256 → EReal
  n : Fin 128 → EReal
  m : EReal

namespace Head

variable (H : Head)

/-- The scale of the keys, `1/√128` as the program's literal. -/
abbrev scale : EReal := Ideal.ofBits .f32 1035273459#32
abbrev inv256 : EReal := Ideal.ofBits .f32 998244352#32
abbrev eps : EReal := Ideal.ofBits .f32 897988541#32

def ig (s : Fin 32) : ℝ := capR (H.gi s)
def lf (s : Fin 32) : ℝ := lsR (capR (H.gf s))
def bt (t : Fin 32) : ℝ := ∑ s, if s ≤ t then H.lf s else 0
def a (s : Fin 32) : ℝ := H.ig s - H.bt s
/-- The greatest `a` so far. -/
def M (t : Fin 32) : EReal := Finset.univ.sup fun s => if s ≤ t then (H.a s : EReal) else ⊥
def mt (t : Fin 32) : EReal := (H.bt t : EReal) + max H.m (H.M t)
def it (t : Fin 32) : EReal := Ideal.exp ((H.bt t : EReal) + H.m - H.mt t)
def sc (t s : Fin 32) : EReal :=
  if s ≤ t then (∑ x, H.q t x * H.k s x) * (Ideal.exp ((H.bt t : EReal) - H.mt t + (H.a s : EReal)) * scale) else 0
def num (t : Fin 32) (e : Fin 256) : EReal := (∑ s, H.sc t s * H.v s e) + ∑ x, H.q t x * H.it t * H.C x e
def den (t : Fin 32) : EReal := (∑ s, H.sc t s) + ∑ x, H.q t x * H.it t * H.n x
def dn (t : Fin 32) : EReal := max (FloatOps.absf (F := Ideal) (φ := .f32) (H.den t)) (Ideal.exp (0 - H.mt t))
def hh (t : Fin 32) (e : Fin 256) : EReal := H.num t e * Ideal.div 1 (H.dn t)
def ms (t : Fin 32) : EReal := ∑ e, H.hh t e * H.hh t e
def y (t : Fin 32) (e : Fin 256) : EReal :=
  H.hh t e * Ideal.rsqrt (H.ms t * inv256 + eps) * H.gain e * Ideal.logistic (H.o t e)
def w (s : Fin 32) : EReal := Ideal.exp ((H.bt 31 : EReal) - H.mt 31 + (H.a s : EReal))
def dec : EReal := Ideal.exp ((H.bt 31 : EReal) + H.m - H.mt 31)
def Cn (x : Fin 128) (e : Fin 256) : EReal := H.dec * H.C x e + ∑ s, H.k s x * (H.w s * scale) * H.v s e
def nn (x : Fin 128) : EReal := H.dec * H.n x + ∑ s, H.k s x * (H.w s * scale)

end Head

/-- The row of the projected arrays that row `s` of stream `b` is: the streams' rows follow the prompts'. -/
def row (b s : Fin 32) : Fin 33792 := ⟨32768 + 32 * b.val + s.val, by omega⟩

/-- Head `h` of stream `b` of the argument arrays. -/
def arrHead (A0 : Fin 33792 → Fin 6144 → EReal) (A1 : Fin 33792 → Fin 128 → EReal) (A2 : Fin 16 → EReal) (A3 : Fin 2048 → EReal)
    (A4 : Fin 32 → Fin 8 → Fin 128 → Fin 256 → EReal) (A5 : Fin 32 → Fin 8 → Fin 128 → EReal) (A6 : Fin 32 → Fin 8 → EReal)
    (b : Fin 32) (h : Fin 8) : Head where
  q t x := A0 (row b t) ⟨128 * h.val + x.val, by omega⟩
  k t x := A0 (row b t) ⟨1024 + (128 * h.val + x.val), by omega⟩
  v t e := A0 (row b t) ⟨2048 + (256 * h.val + e.val), by omega⟩
  o t e := A0 (row b t) ⟨4096 + (256 * h.val + e.val), by omega⟩
  gi t := A1 (row b t) ⟨h.val, by omega⟩ + A2 ⟨h.val, by omega⟩
  gf t := A1 (row b t) ⟨h.val + 8, by omega⟩ + A2 ⟨h.val + 8, by omega⟩
  gain e := A3 ⟨256 * h.val + e.val, by omega⟩
  C x e := A4 b h x e
  n x := A5 b h x
  m := A6 b h

/-! ## The running maximum by doubling -/

/-- The greatest of the `n` values ending at `t`. -/
def win (n : ℕ) (f : Fin 32 → EReal) (t : Fin 32) : EReal :=
  Finset.univ.sup fun s : Fin 32 => if s ≤ t ∧ t.val < s.val + n then f s else ⊥

theorem win_one (f : Fin 32 → EReal) (t : Fin 32) : win 1 f t = f t := by
  apply le_antisymm
  · refine Finset.sup_le fun s _ => ?_
    split_ifs with h
    · have : s = t := Fin.ext (by have := h.1; rw [Fin.le_def] at this; omega)
      rw [this]
    · exact bot_le
  · refine le_trans ?_ (Finset.le_sup (f := fun s : Fin 32 => if s ≤ t ∧ t.val < s.val + 1 then f s else ⊥) (Finset.mem_univ t))
    rw [if_pos ⟨le_refl t, Nat.lt_succ_self _⟩]

theorem win_double (n : ℕ) (f : Fin 32 → EReal) (t : Fin 32) :
    win (n + n) f t = max (win n f t) (if h : n ≤ t.val then win n f ⟨t.val - n, by omega⟩ else ⊥) := by
  apply le_antisymm
  · refine Finset.sup_le fun s _ => ?_
    split_ifs with h hn
    · by_cases hs : t.val < s.val + n
      · refine le_max_of_le_left ?_
        refine le_trans ?_ (Finset.le_sup (f := fun s : Fin 32 => if s ≤ t ∧ t.val < s.val + n then f s else ⊥) (Finset.mem_univ s))
        rw [if_pos ⟨h.1, hs⟩]
      · refine le_max_of_le_right ?_
        refine le_trans ?_ (Finset.le_sup (f := fun s : Fin 32 => if s ≤ (⟨t.val - n, by omega⟩ : Fin 32) ∧ t.val - n < s.val + n then f s else ⊥) (Finset.mem_univ s))
        rw [if_pos ⟨by rw [Fin.le_def]; show s.val ≤ t.val - n; omega, by omega⟩]
    · refine le_max_of_le_left ?_
      refine le_trans ?_ (Finset.le_sup (f := fun s : Fin 32 => if s ≤ t ∧ t.val < s.val + n then f s else ⊥) (Finset.mem_univ s))
      rw [if_pos ⟨h.1, by omega⟩]
    · exact bot_le
    · exact bot_le
  · refine max_le ?_ ?_
    · refine Finset.sup_le fun s _ => ?_
      split_ifs with h
      · refine le_trans ?_ (Finset.le_sup (f := fun s : Fin 32 => if s ≤ t ∧ t.val < s.val + (n + n) then f s else ⊥) (Finset.mem_univ s))
        rw [if_pos ⟨h.1, by omega⟩]
      · exact bot_le
    · split_ifs with hn
      · refine Finset.sup_le fun s _ => ?_
        split_ifs with h
        · have h1 := h.1
          rw [Fin.le_def] at h1
          have h2 := h.2
          simp only at h1 h2
          refine le_trans ?_ (Finset.le_sup (f := fun s : Fin 32 => if s ≤ t ∧ t.val < s.val + (n + n) then f s else ⊥) (Finset.mem_univ s))
          rw [if_pos ⟨by rw [Fin.le_def]; omega, by omega⟩]
        · exact bot_le
      · exact bot_le

theorem win_all (f : Fin 32 → EReal) (t : Fin 32) :
    win 32 f t = Finset.univ.sup fun s : Fin 32 => if s ≤ t then f s else ⊥ := by
  unfold win
  refine congrArg _ (funext fun s => ?_)
  by_cases h : s ≤ t
  · rw [if_pos h, if_pos ⟨h, by have := t.isLt; omega⟩]
  · rw [if_neg h, if_neg fun h' => h h'.1]

end Cert.Mlstm

end
-- ==== Proof.Mlstm.Gates.lean ====
module

public import proofs.«01_k».proof.Proof.Mlstm.Out
public import proofs.«01_k».proof.Proof.Mlstm.Math

@[expose] public section

/-! # One grid point over the extended reals

The output blocks of a grid point, head by head, are the values of `Cert.Mlstm.Head`. -/

set_option maxRecDepth 16384
set_option synthInstance.maxSize 4096

noncomputable section

namespace Cert.KernelIdeal.Mlstm

open Idealize.ShloMosaic Idealize.ShloMosaic.TcCoe Idealize.ShloMosaic.Tactic
open Idealize.ShloMosaic.Pointwise Idealize.SL.Sem
open Cert.KernelIdeal Cert.KernelIdeal.Gen

open Cert.Mlstm

/-- Head `h` of the blocks of one grid point. -/
def headK (h : Fin 8) (x0 x1 : Vec Ideal S32x1024 .bf16) (x2 x3 : Vec Ideal S32x2048 .bf16) (x4 : Vec Ideal S32x128 .f32) (x5 : Vec Ideal S1x128 .f32)
    (x6 : Vec Ideal S1x2048 .f32) (x7 : Vec Ideal S1x8x128x256 .f32) (x8 : Vec Ideal S1x8x128x128 .f32) (x9 : Vec Ideal S1x1x128 .f32) : Head where
  q t x := x0 (ix2 t ⟨128 * h.val + x.val, by omega⟩)
  k t x := x1 (ix2 t ⟨128 * h.val + x.val, by omega⟩)
  v t e := x2 (ix2 t ⟨256 * h.val + e.val, by omega⟩)
  o t e := x3 (ix2 t ⟨256 * h.val + e.val, by omega⟩)
  gi t := x4 (ix2 t ⟨h.val, by omega⟩) + x5 (ix2 0 ⟨h.val, by omega⟩)
  gf t := x4 (ix2 t ⟨h.val + 8, by omega⟩) + x5 (ix2 0 ⟨h.val + 8, by omega⟩)
  gain e := x6 (ix2 0 ⟨256 * h.val + e.val, by omega⟩)
  C x e := x7 (ix4 0 h x e)
  n x := x8 (ix4 0 h x 0)
  m := x9 (ix3 0 0 ⟨h.val, by omega⟩)

/-! ## The gates -/

theorem lit15 : Ideal.ofBits .f32 1097859072#32 = ((15 : ℝ) : EReal) := by
  simp [Ideal.ofBits, Ideal.ieee, -EReal.coe_mul]; norm_num

theorem inv_cap_eq : (Named.named (F := Ideal) (φ := .f32) κ "inv_cap" 1032358025#32 : EReal) = (((15 : ℝ)⁻¹ : ℝ) : EReal) := by
  refine (IdealRules.named_const.ideal_named_scalar _ _ _ _ rfl).trans ?_
  norm_num

theorem pay9_apply (x4 : Vec Ideal S32x128 .f32) (x5 : Vec Ideal S1x128 .f32) (s : Fin 32) (l : Fin 128) :
    k0_pay9 (F := Ideal) x4 x5 (ix2 s l) = (capR (x4 (ix2 s l) + x5 (ix2 0 l)) : EReal) := by
  pointwise [k0_pay9]
  rw [lit15, inv_cap_eq, capR, EReal.coe_mul, tanh_eq]

/-- The log forget gate: lane `l` reads the gate of lane `l + 8`. -/
def lfL (x4 : Vec Ideal S32x128 .f32) (x5 : Vec Ideal S1x128 .f32) (s : Fin 32) (l : Fin 128) : ℝ :=
  lsR (capR (x4 (ix2 s ⟨(l.val + 128 - 120) % 128, Nat.mod_lt _ (by decide)⟩) + x5 (ix2 0 ⟨(l.val + 128 - 120) % 128, Nat.mod_lt _ (by decide)⟩)))

theorem pay10_apply (x4 : Vec Ideal S32x128 .f32) (x5 : Vec Ideal S1x128 .f32) (s : Fin 32) (l : Fin 128) :
    k0_pay10 (F := Ideal) x4 x5 (ix2 s l) = (lfL x4 x5 s l : EReal) := by
  pointwise [k0_pay10]
  rw [pay9_apply]
  exact lsR_eq _

theorem pay12_apply (x4 : Vec Ideal S32x128 .f32) (x5 : Vec Ideal S1x128 .f32) (s : Fin 32) (l : Fin 128) :
    k0_pay12 (F := Ideal) x4 x5 (ix2 s l) = 0 := by
  pointwise [k0_pay12, k0_pay11]
  rw [pay10_apply, ← EReal.coe_sub, sub_self, EReal.coe_zero]

theorem pay14_apply (x4 : Vec Ideal S32x128 .f32) (x5 : Vec Ideal S1x128 .f32) (s : Fin 32) (l : Fin 128) :
    k0_pay14 (F := Ideal) x4 x5 (ix2 s l) = 0 := by
  pointwise [k0_pay14, k0_pay13]
  rw [pay12_apply, sub_zero]

theorem sle_eq (t s : Fin 32) : IntOp.cmpi CmpIPredicate.sle (BitVec.ofNat 32 s.val) (BitVec.ofNat 32 t.val) = if s ≤ t then 1#1 else 0#1 := by
  revert t s; decide

theorem pay8_apply (t s : Fin 32) : k0_pay8 (F := Ideal) (ix2 t s) = if s ≤ t then 1 else 0 := by
  pointwise [k0_pay8, k0_pay7]
  rw [sle_eq]
  by_cases h : s ≤ t
  · simp [h, Scalar.select]
  · simp [h, Scalar.select]

theorem pay15_apply (x4 : Vec Ideal S32x128 .f32) (x5 : Vec Ideal S1x128 .f32) (t : Fin 32) (l : Fin 128) :
    k0_pay15 (F := Ideal) x4 x5 (ix2 t l) = ((∑ s, if s ≤ t then lfL x4 x5 s l else 0 : ℝ) : EReal) := by
  pointwise [k0_pay15, k0_pay11]
  rw [coe_sum]
  refine Finset.sum_congr rfl fun s _ => ?_
  rw [pay8_apply, pay10_apply]
  split_ifs <;> simp

theorem pay16_apply (x4 : Vec Ideal S32x128 .f32) (x5 : Vec Ideal S1x128 .f32) (t : Fin 32) (l : Fin 128) :
    k0_pay16 (F := Ideal) x4 x5 (ix2 t l) = 0 := by
  pointwise [k0_pay16, k0_pay13]
  simp only [pay12_apply, mul_zero, Finset.sum_const_zero]

def btL (x4 : Vec Ideal S32x128 .f32) (x5 : Vec Ideal S1x128 .f32) (t : Fin 32) (l : Fin 128) : ℝ :=
  ∑ s, if s ≤ t then lfL x4 x5 s l else 0

theorem btS_apply (x4 : Vec Ideal S32x128 .f32) (x5 : Vec Ideal S1x128 .f32) (t : Fin 32) (l : Fin 128) :
    btS (F := Ideal) x4 x5 (ix2 t l) = (btL x4 x5 t l : EReal) := by
  pointwise [btS, k0_pay17]
  simp only [pay14_apply, pay15_apply, pay16_apply, mul_zero, Finset.sum_const_zero, add_zero]
  rfl

theorem aS_apply (x4 : Vec Ideal S32x128 .f32) (x5 : Vec Ideal S1x128 .f32) (t : Fin 32) (l : Fin 128) :
    aS (F := Ideal) x4 x5 (ix2 t l) = ((capR (x4 (ix2 t l) + x5 (ix2 0 l)) - btL x4 x5 t l : ℝ) : EReal) := by
  pointwise [aS, k0_pay18]
  rw [pay9_apply, EReal.coe_sub]
  exact congrArg _ (btS_apply x4 x5 t l)

theorem pay6_apply (x9 : Vec Ideal S1x1x128 .f32) (l : Fin 128) : k0_pay6 (F := Ideal) x9 (ix3 0 0 l) = x9 (ix3 0 0 l) := by
  pointwise [k0_pay6]

theorem sge_eq (d : Fin 32) (t : Fin 32) : IntOp.cmpi CmpIPredicate.sge (BitVec.ofNat 32 t.val) (BitVec.ofNat 32 d.val) = if d ≤ t then 1#1 else 0#1 := by
  revert t d; decide

/-- One doubling step of the running maximum: shift by `d` rows, mask, take the greater. -/
theorem dbl (d : Fin 32) (n : ℕ) (hd : d.val = n) (f : Fin 32 → EReal) (t : Fin 32) (p : (t.val + 32 - d.val) % 32 < 32) :
    max (win n f t) (Scalar.select (IntOp.cmpi CmpIPredicate.sge (BitVec.ofNat 32 t.val) (BitVec.ofNat 32 d.val))
      (win n f ⟨(t.val + 32 - d.val) % 32, p⟩) ⊥) = win (n + n) f t := by
  subst hd
  rw [win_double, sge_eq]
  by_cases h : d ≤ t
  · have h' : d.val ≤ t.val := h
    have e : (⟨(t.val + 32 - d.val) % 32, p⟩ : Fin 32) = ⟨t.val - d.val, by omega⟩ := Fin.ext (by show (t.val + 32 - d.val) % 32 = t.val - d.val; omega)
    rw [if_pos h, dif_pos h', e]
    rfl
  · have h' : ¬ d.val ≤ t.val := h
    rw [if_neg h, dif_neg h']
    rfl

theorem neg_inf : Ideal.ofBits .f32 4286578688#32 = (⊥ : EReal) := by
  simp [Ideal.ofBits, Ideal.ieee]

/-- Each row against the row `d` above it. -/
def shiftMax (d : BitVec 32) (x : FVec Ideal S32x128 .f32) : FVec Ideal S32x128 .f32 :=
  maximumf x (select (cmpi .sge (iota .tc S32x128 32 [0] iota_S32x128_d0_w32) (broadcast S32x128 d))
    (dynamicRotate 0 d none x rotates_S32x128_d0) (broadcast S32x128 (Scalar.ofBits (F := Ideal) .f32 0xFF800000#32)))

theorem shiftMax_win (d : Fin 32) (b : BitVec 32) (hb : b = BitVec.ofNat 32 d.val) (n : ℕ) (hd : d.val = n) (x : FVec Ideal S32x128 .f32)
    (f : Fin 32 → EReal) (l : Fin 128) (hx : ∀ t, x (ix2 t l) = win n f t) (t : Fin 32) : shiftMax b x (ix2 t l) = win (n + n) f t := by
  subst hb
  have hm0 : ∀ d : Fin 32, (BitVec.ofNat 32 d.val).toNat % 32 = d.val := by decide
  have hm := hm0 d
  pointwise [shiftMax]
  rw [neg_inf, hx, hx, ← dbl d n hd f t (Nat.mod_lt _ (by decide))]
  congr 4
  rw [hm]

theorem pay20_eq (v9 : FVec Ideal S32x32 .bf16) (v19 : FVec Ideal S32x128 .f32) (v37 : FVec Ideal S32x128 .bf16) (v38 v39 c : FVec Ideal S32x128 .f32)
    (v44 : Vec Ideal S1x1x128 .f32) : k0_pay20 v9 v19 v37 v38 v39 c v44 = addf (k0_pay17 v9 v37 v38 v39 c)
      (maximumf (broadcastTo S32x128 (k0_pay19 v44) broadcasts_S1x128_S32x128)
        (shiftMax 16#32 (shiftMax 8#32 (shiftMax 4#32 (shiftMax 2#32 (shiftMax 1#32 (k0_pay18 v9 v19 v37 v38 v39 c))))))) := rfl

/-- The greatest `a` so far, one lane. -/
def ML (x4 : Vec Ideal S32x128 .f32) (x5 : Vec Ideal S1x128 .f32) (t : Fin 32) (l : Fin 128) : EReal :=
  Finset.univ.sup fun s => if s ≤ t then ((capR (x4 (ix2 s l) + x5 (ix2 0 l)) - btL x4 x5 s l : ℝ) : EReal) else ⊥

theorem mtS_apply (x4 : Vec Ideal S32x128 .f32) (x5 : Vec Ideal S1x128 .f32) (x9 : Vec Ideal S1x1x128 .f32) (t : Fin 32) (l : Fin 128) :
    mtS (F := Ideal) x4 x5 x9 (ix2 t l) = (btL x4 x5 t l : EReal) + max (x9 (ix3 0 0 l)) (ML x4 x5 t l) := by
  have h1 : ∀ s, (aS (F := Ideal) x4 x5) (ix2 s l) = win 1 (fun s => ((capR (x4 (ix2 s l) + x5 (ix2 0 l)) - btL x4 x5 s l : ℝ) : EReal)) s :=
    fun s => by rw [win_one, aS_apply]
  have h5 := shiftMax_win 16 16#32 rfl 16 rfl _ _ l (shiftMax_win 8 8#32 rfl 8 rfl _ _ l (shiftMax_win 4 4#32 rfl 4 rfl _ _ l
    (shiftMax_win 2 2#32 rfl 2 rfl _ _ l (shiftMax_win 1 1#32 rfl 1 rfl _ _ l h1)))) t
  rw [win_all] at h5
  rw [mtS, pay20_eq]
  pointwise [k0_pay19]
  rw [pay6_apply, ← btS_apply, ML, ← h5]
  rfl

end Cert.KernelIdeal.Mlstm

end
-- ==== Proof.Mlstm.HeadK.lean ====
module

public import proofs.«01_k».proof.Proof.Mlstm.Gates

@[expose] public section

/-! # One head of a grid point over the extended reals

Each stage of the body, at an index, is the value of `Cert.Mlstm.Head` of the same name. -/

set_option maxRecDepth 16384
set_option synthInstance.maxSize 4096

noncomputable section

namespace Cert.KernelIdeal.Mlstm

open Idealize.ShloMosaic Idealize.ShloMosaic.TcCoe Idealize.ShloMosaic.Tactic
open Idealize.ShloMosaic.Pointwise Idealize.SL.Sem
open Cert.KernelIdeal Cert.KernelIdeal.Gen

open Cert.Mlstm

variable (h : Fin 8) (x0 x1 : Vec Ideal S32x1024 .bf16) (x2 x3 : Vec Ideal S32x2048 .bf16) (x4 : Vec Ideal S32x128 .f32) (x5 : Vec Ideal S1x128 .f32)
    (x6 : Vec Ideal S1x2048 .f32) (x7 : Vec Ideal S1x8x128x256 .f32) (x8 : Vec Ideal S1x8x128x128 .f32) (x9 : Vec Ideal S1x1x128 .f32)

/-- The lane of head `h` in the gate blocks. -/
def lane (h : Fin 8) : Fin 128 := ⟨h.val, by omega⟩

theorem lf_head (s : Fin 32) : lfL x4 x5 s (lane h) = (headK h x0 x1 x2 x3 x4 x5 x6 x7 x8 x9).lf s := by
  have e : (⟨((lane h).val + 128 - 120) % 128, Nat.mod_lt _ (by decide)⟩ : Fin 128) = ⟨h.val + 8, by omega⟩ :=
    Fin.ext (by show (h.val + 128 - 120) % 128 = h.val + 8; omega)
  unfold lfL
  rw [e]
  rfl

theorem bt_head (t : Fin 32) : btS (F := Ideal) x4 x5 (ix2 t (lane h)) = ((headK h x0 x1 x2 x3 x4 x5 x6 x7 x8 x9).bt t : EReal) := by
  rw [btS_apply, btL, Head.bt]
  simp only [lf_head h x0 x1 x2 x3 x4 x5 x6 x7 x8 x9]

theorem a_head (t : Fin 32) : aS (F := Ideal) x4 x5 (ix2 t (lane h)) = ((headK h x0 x1 x2 x3 x4 x5 x6 x7 x8 x9).a t : EReal) := by
  rw [aS_apply, btL, Head.a, Head.bt]
  simp only [lf_head h x0 x1 x2 x3 x4 x5 x6 x7 x8 x9]
  rfl

theorem mt_head (t : Fin 32) : mtS (F := Ideal) x4 x5 x9 (ix2 t (lane h)) = (headK h x0 x1 x2 x3 x4 x5 x6 x7 x8 x9).mt t := by
  have e : ∀ s, (((capR (x4 (ix2 s (lane h)) + x5 (ix2 0 (lane h))) - btL x4 x5 s (lane h) : ℝ)) : EReal) = ((headK h x0 x1 x2 x3 x4 x5 x6 x7 x8 x9).a s : EReal) :=
    fun s => (aS_apply x4 x5 s (lane h)).symm.trans (a_head h x0 x1 x2 x3 x4 x5 x6 x7 x8 x9 s)
  rw [mtS_apply, ← btS_apply, bt_head h x0 x1 x2 x3 x4 x5 x6 x7 x8 x9, ML, Head.mt, Head.M]
  simp only [e]
  rfl

/-- Which lanes head `h` takes the two row factors from. -/
theorem half_eq (x l : Fin 256) (h : Fin 8) : IntOp.andi
      (IntOp.xori
        (IntOp.xori (IntOp.cmpi CmpIPredicate.sge (BitVec.ofNat 32 x.val) 128#32)
          (IntOp.cmpi CmpIPredicate.sge (BitVec.ofNat 32 l.val) 128#32))
        1#1)
      (IntOp.cmpi CmpIPredicate.eq (IntOp.andi (BitVec.ofNat 32 x.val) 127#32) (BitVec.ofNat 32 h.val))
    = if x.val = (if l.val < 128 then h.val else 128 + h.val) then 1#1 else 0#1 := by
  have h1 : ∀ x : Fin 256, IntOp.cmpi CmpIPredicate.sge (BitVec.ofNat 32 x.val) 128#32 = if 128 ≤ x.val then 1#1 else 0#1 := by decide +kernel
  have h2 : ∀ (x : Fin 256) (h : Fin 8), IntOp.cmpi CmpIPredicate.eq (IntOp.andi (BitVec.ofNat 32 x.val) 127#32) (BitVec.ofNat 32 h.val)
      = if x.val % 128 = h.val then 1#1 else 0#1 := by decide +kernel
  rw [h1, h1, h2]
  have := x.isLt
  have := h.isLt
  by_cases a : 128 ≤ x.val <;> by_cases b : 128 ≤ l.val <;> by_cases c : x.val % 128 = h.val <;>
    simp only [a, b, c, if_true, if_false] <;> split_ifs <;> first | rfl | (exfalso; omega)

theorem ieb_apply (ie : FVec Ideal S32x256 .bf16) (t : Fin 32) (l : Fin 256) :
    iebS h ie (ix2 t l) = ie (ix2 t ⟨if l.val < 128 then h.val else 128 + h.val, by split_ifs <;> omega⟩) := by
  pointwise [iebS, k0_pay30]
  simp only [half_eq]
  rw [Finset.sum_eq_single ⟨if l.val < 128 then h.val else 128 + h.val, by split_ifs <;> omega⟩]
  · rw [if_pos rfl]
    rfl
  · intro x _ hx
    rw [if_neg fun e => hx (Fin.ext e)]
    rfl
  · intro hx
    exact absurd (Finset.mem_univ _) hx

theorem ie_it (t : Fin 32) (l : Fin 128) : iebS h (ieS x4 x5 x9) (ix2 t ⟨l.val, by omega⟩) = (headK h x0 x1 x2 x3 x4 x5 x6 x7 x8 x9).it t := by
  rw [ieb_apply]
  have e : (⟨if l.val < 128 then h.val else 128 + h.val, by split_ifs <;> omega⟩ : Fin 256) = ⟨h.val, by omega⟩ :=
    Fin.ext (if_pos l.isLt)
  rw [e, ieS]
  pointwise [k0_pay29, k0_pay22, k0_pay19]
  rw [dif_pos (show h.val < 128 by omega), pay6_apply]
  rw [show (⟨h.val, by omega⟩ : Fin 128) = lane h from rfl, bt_head h x0 x1 x2 x3 x4 x5 x6 x7 x8 x9, mt_head h x0 x1 x2 x3 x4 x5 x6 x7 x8 x9]
  rfl

theorem ie_em (t : Fin 32) (l : Fin 128) : iebS h (ieS x4 x5 x9) (ix2 t ⟨128 + l.val, by omega⟩) = Ideal.exp (0 - (headK h x0 x1 x2 x3 x4 x5 x6 x7 x8 x9).mt t) := by
  rw [ieb_apply]
  have e : (⟨if 128 + l.val < 128 then h.val else 128 + h.val, by split_ifs <;> omega⟩ : Fin 256) = ⟨128 + h.val, by omega⟩ :=
    Fin.ext (if_neg (by omega))
  rw [e, ieS]
  pointwise [k0_pay29, k0_pay22, k0_pay19]
  rw [show (⟨h.val, by omega⟩ : Fin 128) = lane h from rfl, mt_head h x0 x1 x2 x3 x4 x5 x6 x7 x8 x9]

theorem sc_head (t s : Fin 32) : scS h (uS x4 x5 x9) (k0_pay28 (aS x4 x5))
    (k0_pay37 (cols128 (128 * h.val) (le128 h) x0) (cols128 (128 * h.val) (le128 h) x1)) (ix2 t s) = (headK h x0 x1 x2 x3 x4 x5 x6 x7 x8 x9).sc t s := by
  pointwise [scS, k0_pay7, k0_pay28, uS, k0_pay37, cols128]
  rw [sle_eq]
  rw [show (⟨h.val, by omega⟩ : Fin 128) = lane h from rfl, bt_head h x0 x1 x2 x3 x4 x5 x6 x7 x8 x9, mt_head h x0 x1 x2 x3 x4 x5 x6 x7 x8 x9, a_head h x0 x1 x2 x3 x4 x5 x6 x7 x8 x9]
  unfold Head.sc
  split_ifs <;> rfl

theorem st_C (x : Fin 128) (e : Fin 384) (he : e.val < 256) :
    stS (F := Ideal) h x7 x8 (ix3 0 x e) = (headK h x0 x1 x2 x3 x4 x5 x6 x7 x8 x9).C x ⟨e.val, he⟩ := dif_pos he

theorem st_n (hx8 : ∀ x l, x8 (ix4 0 h x l) = x8 (ix4 0 h x 0)) (x : Fin 128) (e : Fin 384) (he : ¬ e.val < 256) :
    stS (F := Ideal) h x7 x8 (ix3 0 x e) = (headK h x0 x1 x2 x3 x4 x5 x6 x7 x8 x9).n x := (dif_neg he).trans (hx8 _ _)

theorem out_num (t : Fin 32) (e : Fin 256) : outS h x0 x1 x2 x4 x5 x7 x8 x9 (ix2 t ⟨e.val, by omega⟩) = (headK h x0 x1 x2 x3 x4 x5 x6 x7 x8 x9).num t e := by
  pointwise [outS, k0_pay55, k0_pay31, k0_pay32, k0_pay33, k0_pay54]
  simp only [sc_head h x0 x1 x2 x3 x4 x5 x6 x7 x8 x9, ie_it h x0 x1 x2 x3 x4 x5 x6 x7 x8 x9, Head.num]
  refine congrArg₂ (· + ·) rfl (Finset.sum_congr rfl fun x _ => ?_)
  rw [st_C h x0 x1 x2 x3 x4 x5 x6 x7 x8 x9 x _ e.isLt]
  rfl

/-- The first part of the denominator. -/
theorem out_den_s (t : Fin 32) (l : Fin 128) : outS h x0 x1 x2 x4 x5 x7 x8 x9 (ix2 t ⟨256 + l.val, by omega⟩) = ∑ s, (headK h x0 x1 x2 x3 x4 x5 x6 x7 x8 x9).sc t s := by
  pointwise [outS, k0_pay55, k0_pay31, k0_pay32, k0_pay33, k0_pay54]
  simp only [mul_zero, Finset.sum_const_zero, add_zero, sc_head h x0 x1 x2 x3 x4 x5 x6 x7 x8 x9]

/-- The second part of the denominator. -/
theorem out_den_q (hx8 : ∀ x l, x8 (ix4 0 h x l) = x8 (ix4 0 h x 0)) (t : Fin 32) (l : Fin 128) :
    outS h x0 x1 x2 x4 x5 x7 x8 x9 (ix2 t ⟨384 + l.val, by omega⟩) = ∑ x, (headK h x0 x1 x2 x3 x4 x5 x6 x7 x8 x9).q t x * (headK h x0 x1 x2 x3 x4 x5 x6 x7 x8 x9).it t * (headK h x0 x1 x2 x3 x4 x5 x6 x7 x8 x9).n x := by
  have e1 : ¬ 384 + l.val < 256 := by omega
  have e2 : ¬ 384 + l.val - 256 < 128 := by omega
  pointwise [outS, k0_pay55, k0_pay31, k0_pay32, k0_pay33, k0_pay54]
  simp only [e1, e2, dif_neg, not_false_eq_true, mul_zero, Finset.sum_const_zero, zero_add, ie_it h x0 x1 x2 x3 x4 x5 x6 x7 x8 x9]
  refine Finset.sum_congr rfl fun x _ => ?_
  rw [st_n h x0 x1 x2 x3 x4 x5 x6 x7 x8 x9 hx8 x _ (by simp)]
  rfl

theorem hh_head (hx8 : ∀ x l, x8 (ix4 0 h x l) = x8 (ix4 0 h x 0)) (t : Fin 32) (e : Fin 256) :
    hhS h x0 x1 x2 x4 x5 x7 x8 x9 (ix2 t e) = (headK h x0 x1 x2 x3 x4 x5 x6 x7 x8 x9).hh t e := by
  have key : ∀ l : Fin 128, Ideal.div 1 (max (FloatOps.absf (F := Ideal) (φ := .f32)
        (outS h x0 x1 x2 x4 x5 x7 x8 x9 (ix2 t ⟨256 + l.val, by omega⟩) + outS h x0 x1 x2 x4 x5 x7 x8 x9 (ix2 t ⟨384 + l.val, by omega⟩)))
      (iebS h (ieS x4 x5 x9) (ix2 t ⟨128 + l.val, by omega⟩))) = Ideal.div 1 ((headK h x0 x1 x2 x3 x4 x5 x6 x7 x8 x9).dn t) := by
    intro l
    rw [out_den_s h x0 x1 x2 x3 x4 x5 x6 x7 x8 x9, out_den_q h x0 x1 x2 x3 x4 x5 x6 x7 x8 x9 hx8, ie_em h x0 x1 x2 x3 x4 x5 x6 x7 x8 x9]
    rfl
  pointwise [hhS, k0_pay75]
  rw [Head.hh, ← out_num h x0 x1 x2 x3 x4 x5 x6 x7 x8 x9 t e]
  refine congrArg₂ (· * ·) rfl ?_
  split_ifs with he
  · exact key ⟨e.val, he⟩
  all_goals exact key ⟨e.val - 128, by omega⟩

theorem ms_head (hx8 : ∀ x l, x8 (ix4 0 h x l) = x8 (ix4 0 h x 0)) (t : Fin 32) (l : Fin 128) :
    msS h x0 x1 x2 x4 x5 x7 x8 x9 (ix2 t l) = (headK h x0 x1 x2 x3 x4 x5 x6 x7 x8 x9).ms t := by
  have e : ∀ x : Fin 256, _ := fun x => hh_head h x0 x1 x2 x3 x4 x5 x6 x7 x8 x9 hx8 t x
  simp only [hhS] at e
  pointwise [msS, k0_pay76, k0_pay34]
  exact Finset.sum_congr rfl fun x _ => by rw [e x]

theorem y_head (hx8 : ∀ x l, x8 (ix4 0 h x l) = x8 (ix4 0 h x 0)) (t : Fin 32) (e : Fin 256) :
    yS h x0 x1 x2 x3 x4 x5 x6 x7 x8 x9 (ix2 t e) = (headK h x0 x1 x2 x3 x4 x5 x6 x7 x8 x9).y t e := by
  pointwise [yS, k0_pay96, k0_pay93, k0_pay94, k0_pay95]
  simp only [hh_head h x0 x1 x2 x3 x4 x5 x6 x7 x8 x9 hx8, ms_head h x0 x1 x2 x3 x4 x5 x6 x7 x8 x9 hx8]
  simp only [dite_eq_ite, ite_self]
  rfl

theorem w_head (s : Fin 32) : wS x4 x5 x9 (ix2 s (lane h)) = (headK h x0 x1 x2 x3 x4 x5 x6 x7 x8 x9).w s := by
  pointwise [wS, k0_pay25, k0_pay23, k0_pay24]
  rw [bt_head h x0 x1 x2 x3 x4 x5 x6 x7 x8 x9, mt_head h x0 x1 x2 x3 x4 x5 x6 x7 x8 x9, a_head h x0 x1 x2 x3 x4 x5 x6 x7 x8 x9]
  rfl

theorem dec_head : decS x4 x5 x9 (ix2 0 (lane h)) = (headK h x0 x1 x2 x3 x4 x5 x6 x7 x8 x9).dec := by
  pointwise [decS, k0_pay26, k0_pay19, k0_pay23, k0_pay24]
  rw [bt_head h x0 x1 x2 x3 x4 x5 x6 x7 x8 x9, mt_head h x0 x1 x2 x3 x4 x5 x6 x7 x8 x9, pay6_apply]
  rfl

theorem C_head (x : Fin 128) (e : Fin 256) :
    nstS h x1 x2 x4 x5 x7 x8 x9 (ix3 0 x ⟨e.val, by omega⟩) = (headK h x0 x1 x2 x3 x4 x5 x6 x7 x8 x9).Cn x e := by
  pointwise [nstS, nxS, updS, k0_pay31]
  simp only [show (⟨h.val, by omega⟩ : Fin 128) = lane h from rfl, w_head h x0 x1 x2 x3 x4 x5 x6 x7 x8 x9, dec_head h x0 x1 x2 x3 x4 x5 x6 x7 x8 x9]
  rw [st_C h x0 x1 x2 x3 x4 x5 x6 x7 x8 x9 x _ (by simp)]
  rfl

theorem n_head (hx8 : ∀ x l, x8 (ix4 0 h x l) = x8 (ix4 0 h x 0)) (x l : Fin 128) :
    nstS h x1 x2 x4 x5 x7 x8 x9 (ix3 0 x ⟨256 + l.val, by omega⟩) = (headK h x0 x1 x2 x3 x4 x5 x6 x7 x8 x9).nn x := by
  pointwise [nstS, nxS, updS, k0_pay31]
  simp only [show (⟨h.val, by omega⟩ : Fin 128) = lane h from rfl, w_head h x0 x1 x2 x3 x4 x5 x6 x7 x8 x9, dec_head h x0 x1 x2 x3 x4 x5 x6 x7 x8 x9,
    st_n h x0 x1 x2 x3 x4 x5 x6 x7 x8 x9 hx8 x ⟨256 + l.val, by omega⟩ (by simp)]
  rfl

end Cert.KernelIdeal.Mlstm

end
-- ==== Proof.Mlstm.Blocks.lean ====
module

public import proofs.«01_k».proof.Proof.Mlstm.HeadK
public import Idealize.ShloMosaic.Lib.Pipeline.ValueKit
public import Idealize.ShloMosaic.Lib.Claim

@[expose] public section

/-! # The blocks of a grid point, and the arrays after the run

Each input block at an index is an entry of an argument array; each result array is the blocks the grid points leave. -/

set_option maxRecDepth 16384
set_option synthInstance.maxSize 4096

noncomputable section

namespace Cert.KernelIdeal.Mlstm

open Idealize.ShloMosaic Idealize.ShloMosaic.TcCoe Idealize.ShloMosaic.Tactic
open Idealize.ShloMosaic.Pointwise Idealize.SL.Sem
open Cert.KernelIdeal Cert.KernelIdeal.Gen

open Idealize.ShloMosaic.Pipeline (Dat)
open Cert.Mlstm

variable (m : (ℓ : Loc nD τ sig) → Buf (Elt Ideal) ℓ) (c : Dev nD)

theorem idx : ∀ t : Fin cfg0.N, win0_0.index t = ![1024 + (grid0.coords t 0).val, 0] ∧ win0_1.index t = ![1024 + (grid0.coords t 0).val, 1]
    ∧ win0_2.index t = ![1024 + (grid0.coords t 0).val, 1] ∧ win0_3.index t = ![1024 + (grid0.coords t 0).val, 2]
    ∧ win0_4.index t = ![1024 + (grid0.coords t 0).val, 0] ∧ win0_5.index t = ![0, 0] ∧ win0_6.index t = ![0, 0]
    ∧ win0_7.index t = ![(grid0.coords t 0).val, 0, 0, 0] ∧ win0_8.index t = ![(grid0.coords t 0).val, 0, 0, 0]
    ∧ win0_9.index t = ![(grid0.coords t 0).val, 0, 0]
    ∧ win0_10.index t = ![(grid0.coords t 0).val, 0] ∧ win0_11.index t = ![(grid0.coords t 0).val, 0, 0, 0]
    ∧ win0_12.index t = ![(grid0.coords t 0).val, 0, 0, 0] ∧ win0_13.index t = ![(grid0.coords t 0).val, 0, 0] :=
  (by decide +kernel : ∀ t : Fin grid0.N, _)

/-- The stream a grid point works on. -/
def st (t : Fin cfg0.N) : Fin 32 := ⟨(grid0.coords t 0).val, (grid0.coords t 0).isLt⟩

theorem V_bias (l : Fin 128) (hl : l.val < 16) : (V m c main_v5 : S1x128.Idx → EReal) (ix2 0 l)
    = (m ((c : Thread nD τ).loc main_arg2) : S16.Idx → EReal) (ix1 ⟨l.val, hl⟩) := by
  dsimp only [V, V0, hostOps0, hostOps0_1, hostOps0_2, hostOps0_3, hostOps0_4, List.flatten_cons, List.flatten_nil, List.append_nil,
    List.cons_append, List.nil_append]
  after_results
  simp -implicitDefEqProofs only [StableHlo.TRef.toBuf, StableHlo.TRef.ofBuf, cast_cast, cast_eq]
  pointwise
  exact dif_pos hl

theorem V_n (b : Fin 32) (h : Fin 8) (x l : Fin 128) : (V m c main_v2 : S32x8x128x128.Idx → EReal) (ix4 b h x l)
    = (m ((c : Thread nD τ).loc main_arg5) : S32x8x128.Idx → EReal) (ix3 b h x) := by
  dsimp only [V, V0, hostOps0, hostOps0_1, hostOps0_2, hostOps0_3, hostOps0_4, List.flatten_cons, List.flatten_nil, List.append_nil,
    List.cons_append, List.nil_append]
  after_results
  pointwise

theorem V_m (b : Fin 32) (l : Fin 128) (hl : l.val < 8) : (V m c main_v4 : S32x1x128.Idx → EReal) (ix3 b 0 l)
    = (m ((c : Thread nD τ).loc main_arg6) : S32x8.Idx → EReal) (ix2 b ⟨l.val, hl⟩) := by
  dsimp only [V, V0, hostOps0, hostOps0_1, hostOps0_2, hostOps0_3, hostOps0_4, List.flatten_cons, List.flatten_nil, List.append_nil,
    List.cons_append, List.nil_append]
  after_results
  simp -implicitDefEqProofs only [StableHlo.TRef.toBuf, StableHlo.TRef.ofBuf, cast_cast, cast_eq]
  pointwise
  exact dif_pos hl

theorem V_gain (l : Fin 2048) : (V m c main_v6 : S1x2048.Idx → EReal) (ix2 0 l)
    = (m ((c : Thread nD τ).loc main_arg3) : S2048.Idx → EReal) (ix1 l) := by
  dsimp only [V, V0, hostOps0, hostOps0_1, hostOps0_2, hostOps0_3, hostOps0_4, List.flatten_cons, List.flatten_nil, List.append_nil,
    List.cons_append, List.nil_append]
  after_results
  pointwise

theorem blk0 (t : Fin cfg0.N) (s : Fin 32) (l : Fin 1024) :
    iblk m c 0 t (ix2 s l) = m ((c : Thread nD τ).loc main_arg0) (ix2 (row (st t) s) ⟨l.val, by omega⟩) := by
  blk_ext [iblk, V_main_arg0, idx t, row, st]
theorem blk1 (t : Fin cfg0.N) (s : Fin 32) (l : Fin 1024) :
    iblk m c 1 t (ix2 s l) = m ((c : Thread nD τ).loc main_arg0) (ix2 (row (st t) s) ⟨1024 + l.val, by omega⟩) := by
  blk_ext [iblk, V_main_arg0, idx t, row, st]
theorem blk2 (t : Fin cfg0.N) (s : Fin 32) (l : Fin 2048) :
    iblk m c 2 t (ix2 s l) = m ((c : Thread nD τ).loc main_arg0) (ix2 (row (st t) s) ⟨2048 + l.val, by omega⟩) := by
  blk_ext [iblk, V_main_arg0, idx t, row, st]
theorem blk3 (t : Fin cfg0.N) (s : Fin 32) (l : Fin 2048) :
    iblk m c 3 t (ix2 s l) = m ((c : Thread nD τ).loc main_arg0) (ix2 (row (st t) s) ⟨4096 + l.val, by omega⟩) := by
  blk_ext [iblk, V_main_arg0, idx t, row, st]
theorem blk4 (t : Fin cfg0.N) (s : Fin 32) (l : Fin 128) :
    iblk m c 4 t (ix2 s l) = m ((c : Thread nD τ).loc main_arg1) (ix2 (row (st t) s) l) := by
  blk_ext [iblk, V_main_arg1, idx t, row, st]
theorem blk5 (t : Fin cfg0.N) (l : Fin 128) (hl : l.val < 16) :
    iblk m c 5 t (ix2 0 l) = m ((c : Thread nD τ).loc main_arg2) (ix1 ⟨l.val, hl⟩) := by
  refine Eq.trans ?_ (V_bias m c l hl)
  blk_ext [iblk, idx t]
theorem blk6 (t : Fin cfg0.N) (l : Fin 2048) :
    iblk m c 6 t (ix2 0 l) = m ((c : Thread nD τ).loc main_arg3) (ix1 l) := by
  refine Eq.trans ?_ (V_gain m c l)
  blk_ext [iblk, idx t]
theorem blk7 (t : Fin cfg0.N) (h : Fin 8) (x : Fin 128) (e : Fin 256) :
    iblk m c 7 t (ix4 0 h x e) = m ((c : Thread nD τ).loc main_arg4) (ix4 (st t) h x e) := by
  blk_ext [iblk, V_main_arg4, idx t, st]
theorem blk8 (t : Fin cfg0.N) (h : Fin 8) (x l : Fin 128) :
    iblk m c 8 t (ix4 0 h x l) = m ((c : Thread nD τ).loc main_arg5) (ix3 (st t) h x) := by
  refine Eq.trans ?_ (V_n m c (st t) h x l)
  blk_ext [iblk, idx t, st]
theorem blk9 (t : Fin cfg0.N) (l : Fin 128) (hl : l.val < 8) :
    iblk m c 9 t (ix3 0 0 l) = m ((c : Thread nD τ).loc main_arg6) (ix2 (st t) ⟨l.val, hl⟩) := by
  refine Eq.trans ?_ (V_m m c (st t) l hl)
  blk_ext [iblk, idx t, st]

/-- Head `h` of stream `b` of device `c`'s argument arrays. -/
abbrev headM (b : Fin 32) (h : Fin 8) : Head :=
  arrHead (fun i j => m ((c : Thread nD τ).loc main_arg0) (ix2 i j)) (fun i j => m ((c : Thread nD τ).loc main_arg1) (ix2 i j))
    (fun i => m ((c : Thread nD τ).loc main_arg2) (ix1 i)) (fun i => m ((c : Thread nD τ).loc main_arg3) (ix1 i))
    (fun i j k l => m ((c : Thread nD τ).loc main_arg4) (ix4 i j k l)) (fun i j k => m ((c : Thread nD τ).loc main_arg5) (ix3 i j k))
    (fun i j => m ((c : Thread nD τ).loc main_arg6) (ix2 i j)) b h

theorem headK_blk (t : Fin cfg0.N) (h : Fin 8) :
    headK h (iblk m c 0 t) (iblk m c 1 t) (iblk m c 2 t) (iblk m c 3 t) (iblk m c 4 t) (iblk m c 5 t) (iblk m c 6 t) (iblk m c 7 t)
      (iblk m c 8 t) (iblk m c 9 t) = headM m c (st t) h := by
  unfold headK headM arrHead
  congr 1
  · funext s x; exact blk0 m c t s _
  · funext s x; exact blk1 m c t s _
  · funext s x; exact blk2 m c t s _
  · funext s x; exact blk3 m c t s _
  · funext s; exact congrArg₂ (· + ·) (blk4 m c t s _) (blk5 m c t _ (by simp; omega))
  · funext s; exact congrArg₂ (· + ·) (blk4 m c t s _) (blk5 m c t _ (by simp; omega))
  · funext e; exact blk6 m c t _
  · funext x e; exact blk7 m c t h x e
  · funext x; exact blk8 m c t h x 0
  · exact blk9 m c t _ h.isLt

end Cert.KernelIdeal.Mlstm

end
-- ==== Proof.Mlstm.Arrays.lean ====
module

public import proofs.«01_k».proof.Proof.Mlstm.Blocks

@[expose] public section

/-! # The arrays after the run

Each result array is the blocks the grid points leave: head by head, the values of `Cert.Mlstm.Head`. -/

set_option maxRecDepth 16384
set_option synthInstance.maxSize 4096

noncomputable section

namespace Cert.KernelIdeal.Mlstm

open Idealize.ShloMosaic Idealize.ShloMosaic.TcCoe Idealize.ShloMosaic.Tactic
open Idealize.ShloMosaic.Pointwise Idealize.SL.Sem
open Cert.KernelIdeal Cert.KernelIdeal.Gen

open Idealize.ShloMosaic.Pipeline (Dat)
open Cert.Mlstm

variable (m : (ℓ : Loc nD τ sig) → Buf (Elt Ideal) ℓ) (ρ : Dev nD → PrngReg) (c : Dev nD)

theorem blk8_lanes (t : Fin cfg0.N) (h : Fin 8) (x l : Fin 128) :
    iblk m c 8 t (ix4 0 h x l) = iblk m c 8 t (ix4 0 h x 0) := (blk8 m c t h x l).trans (blk8 m c t h x 0).symm

/-- The gated output. -/
def resY : S1024x2048.Idx → EReal := fun i =>
  (headM m c ⟨(i 0).val / 32, by have := (i 0).isLt; change (i 0).val < 1024 at this; omega⟩
    ⟨(i 1).val / 256, by have := (i 1).isLt; change (i 1).val < 2048 at this; omega⟩).y
    ⟨(i 0).val % 32, Nat.mod_lt _ (by decide)⟩ ⟨(i 1).val % 256, Nat.mod_lt _ (by decide)⟩
/-- The new state matrix. -/
def resC : S32x8x128x256.Idx → EReal := fun i => (headM m c (i 0) (i 1)).Cn (i 2) (i 3)
/-- The new normaliser, on every lane. -/
def resN : S32x8x128x128.Idx → EReal := fun i => (headM m c (i 0) (i 1)).nn (i 2)

theorem idx_st (t : Fin cfg0.N) : (grid0.coords t 0).val = (st t).val := rfl

theorem arr10 : (dats (F := Ideal) m 0 c).arrAt 10 cfg0.N = resY m c := by
  refine (dats m 0 c).arrAt_eq_of_covers 10 _ (by decide +kernel) fun t hf y => ?_
  blk_simp
  rw [after0_10]
  unfold outsAt0
  dsimp only
  rw [out10_eq]
  obtain ⟨s, l, rfl⟩ : ∃ (s : Fin 32) (l : Fin 2048), y = ix2 s l := ⟨y 0, y 1, by funext a; fin_cases a <;> rfl⟩
  refine Eq.trans (y_head ⟨l.val / 256, by omega⟩ _ _ _ _ _ _ _ _ _ _ (fun x l => blk8_lanes m c t _ x l) s ⟨l.val % 256, by omega⟩) ?_
  rw [headK_blk]
  have e0 : (((cfg0.win 10).blk t).view.emb (ix2 s l) 0).val = 32 * (st t).val + s.val := by blk_simp [idx t]; rw [idx_st]; simp; omega
  have e1 : (((cfg0.win 10).blk t).view.emb (ix2 s l) 1).val = l.val := by blk_simp [idx t]
  have := (st t).isLt
  unfold resY
  congr 1
  · congr 1
    · exact Fin.ext (by show _ = _ / 32; rw [e0]; omega)
    · exact Fin.ext (by show _ = _ / 256; rw [e1])
  · exact Fin.ext (by show _ = _ % 32; rw [e0]; omega)
  · exact Fin.ext (by show _ = _ % 256; rw [e1])

theorem arr11 : (dats (F := Ideal) m 0 c).arrAt 11 cfg0.N = resC m c := by
  refine (dats m 0 c).arrAt_eq_of_covers 11 _ (by decide +kernel) fun t hf y => ?_
  blk_simp
  rw [after0_11]
  unfold outsAt0
  dsimp only
  rw [out11_eq]
  obtain ⟨z, h, x, l, rfl⟩ : ∃ (z : Fin 1) (h : Fin 8) (x : Fin 128) (l : Fin 256), y = ix4 z h x l :=
    ⟨y 0, y 1, y 2, y 3, by funext a; fin_cases a <;> rfl⟩
  refine Eq.trans (C_head h (iblk m c 0 t) _ _ (iblk m c 3 t) _ _ (iblk m c 6 t) _ _ _ x l) ?_
  rw [headK_blk]
  have e : ((cfg0.win 11).blk t).view.emb (ix4 z h x l) = ix4 (st t) h x l := by blk_ext [idx t, st]
  rw [e]
  rfl

theorem arr12 : (dats (F := Ideal) m 0 c).arrAt 12 cfg0.N = resN m c := by
  refine (dats m 0 c).arrAt_eq_of_covers 12 _ (by decide +kernel) fun t hf y => ?_
  blk_simp
  rw [after0_12]
  unfold outsAt0
  dsimp only
  rw [out12_eq]
  obtain ⟨z, h, x, l, rfl⟩ : ∃ (z : Fin 1) (h : Fin 8) (x : Fin 128) (l : Fin 128), y = ix4 z h x l :=
    ⟨y 0, y 1, y 2, y 3, by funext a; fin_cases a <;> rfl⟩
  refine Eq.trans (n_head h (iblk m c 0 t) _ _ (iblk m c 3 t) _ _ (iblk m c 6 t) _ _ _ (fun x l => blk8_lanes m c t _ x l) x l) ?_
  rw [headK_blk]
  have e : ((cfg0.win 12).blk t).view.emb (ix4 z h x l) = ix4 (st t) h x l := by blk_ext [idx t, st]
  rw [e]
  rfl

theorem blkF4 (t : Fin cfg0.N) : iblk m c 4 t = fun j => m ((c : Thread nD τ).loc main_arg1) (ix2 (row (st t) (j 0)) (j 1)) := by
  funext j
  obtain ⟨s, l, rfl⟩ : ∃ (s : Fin 32) (l : Fin 128), j = ix2 s l := ⟨j 0, j 1, by funext a; fin_cases a <;> rfl⟩
  exact blk4 m c t s l
theorem blkF5 (t : Fin cfg0.N) : iblk m c 5 t = fun j => V m c main_v5 j := by
  funext j
  blk_ext [iblk, idx t]
theorem blkF9 (t : Fin cfg0.N) : iblk m c 9 t = fun j => V m c main_v4 (ix3 (st t) 0 (j 2)) := by
  funext j
  blk_ext [iblk, idx t, st]

/-- The new running maximum of a head, at that head's lane. -/
theorem arr13 (b : Fin 32) (h : Fin 8) : (dats (F := Ideal) m 0 c).arrAt 13 cfg0.N (ix3 b 0 ⟨h.val, by omega⟩) = (headM m c b h).mt 31 := by
  have key : (dats (F := Ideal) m 0 c).arrAt 13 cfg0.N = fun i : S32x1x128.Idx => mtS (F := Ideal)
      (fun j => m ((c : Thread nD τ).loc main_arg1) (ix2 (row (i 0) (j 0)) (j 1)))
      (fun j => V m c main_v5 j) (fun j => V m c main_v4 (ix3 (i 0) 0 (j 2))) (ix2 31 (i 2)) := by
    refine (dats m 0 c).arrAt_eq_of_covers 13 _ (by decide +kernel) fun t hf y => ?_
    blk_simp
    rw [after0_13]
    unfold outsAt0
    dsimp only
    rw [out13_eq]
    obtain ⟨z, z', l, rfl⟩ : ∃ (z : Fin 1) (z' : Fin 1) (l : Fin 128), y = ix3 z z' l :=
      ⟨y 0, y 1, y 2, by funext a; fin_cases a <;> rfl⟩
    have e : ((cfg0.win 13).blk t).view.emb (ix3 z z' l) = ix3 (st t) 0 l := by blk_ext [idx t, st]
    rw [e]
    rw [blkF4, blkF5, blkF9]
    rfl
  obtain ⟨t, ht⟩ : ∃ t : Fin cfg0.N, st t = b := by
    revert b; exact (by decide +kernel : ∀ b : Fin 32, ∃ t : Fin grid0.N, (⟨(grid0.coords t 0).val, (grid0.coords t 0).isLt⟩ : Fin 32) = b)
  rw [key, ← ht]
  show mtS (F := Ideal)
      (fun j => m ((c : Thread nD τ).loc main_arg1) (ix2 (row (st t) (j 0)) (j 1)))
      (fun j => V m c main_v5 j) (fun j => V m c main_v4 (ix3 (st t) 0 (j 2))) (ix2 31 (lane h)) = _
  refine (congrFun (congr (congr (congrArg (mtS (F := Ideal)) (blkF4 m c t).symm) (blkF5 m c t).symm) (blkF9 m c t).symm) _).trans ?_
  rw [← headK_blk]
  exact mt_head h _ _ _ _ _ _ _ _ _ _ 31

end Cert.KernelIdeal.Mlstm

end
-- ==== Proof.Mlstm.Run.lean ====
module

public import proofs.«01_k».proof.Proof.Mlstm.Arrays

@[expose] public section

/-! # The run's results

What the four result arrays hold at the end of the run, and that the argument arrays are unchanged. -/

set_option maxRecDepth 16384
set_option synthInstance.maxSize 4096

noncomputable section

namespace Cert.KernelIdeal.Mlstm

open Idealize.ShloMosaic Idealize.ShloMosaic.TcCoe Idealize.ShloMosaic.Tactic
open Idealize.ShloMosaic.Pointwise Idealize.SL.Sem
open Cert.KernelIdeal Cert.KernelIdeal.Gen

open Idealize.ShloMosaic.Pipeline (Dat)
open Cert.Mlstm

variable (m : (ℓ : Loc nD τ sig) → Buf (Elt Ideal) ℓ) (g : Dev nD → PrngReg)

/-- The new normaliser. -/
def resN3 (c : Dev nD) : S32x8x128.Idx → EReal := fun i => (headM m c (i 0) (i 1)).nn (i 2)
/-- The new running maximum. -/
def resM (c : Dev nD) : S32x8.Idx → EReal := fun i => (headM m c (i 0) (i 1)).mt 31

/-- Windows on one array are inputs, which hold it as the region finds it. -/
theorem shared (c : Dev nD) : ∀ w w', w ≠ w' → Pipeline.arrRef (cfgs 0).spec w = Pipeline.arrRef (cfgs 0).spec w' →
    (dats m 0 c).arrAt w (cfgs 0).N = V0 m c (Proc.devRef .tc (Pipeline.arrRef (cfgs 0).spec w)) :=
  (dats m 0 c).arrAt_sharedIn (by decide) (V0 m c) (fun w => A_eq m c w) _

theorem tail_n (c : Dev nD) : Pipeline.afterTail₀ cfgs (dats m) 0 (V0 m) [hostOps1] c main_v9 = resN3 m c := by
  unfold Pipeline.afterTail₀
  dsimp only [hostOps1, List.flatten_cons, List.flatten_nil, List.append_nil, List.cons_append, List.nil_append]
  after_results
  have e : Pipeline.withArrays (cfgs 0).spec c (V0 m c) (fun w => (dats m 0 c).arrAt w (cfgs 0).N) (Proc.tc.devRef main_v7_2) = resN m c :=
    (Pipeline.withArrays_arr_shared (cfgs 0).spec c (V0 m c) (fun w => (dats m 0 c).arrAt w (cfgs 0).N) (shared m c) 12).trans (arr12 m c)
  rw [e]
  funext i
  obtain ⟨b, h, x, rfl⟩ : ∃ (b : Fin 32) (h : Fin 8) (x : Fin 128), i = ix3 b h x := ⟨i 0, i 1, i 2, by funext a; fin_cases a <;> rfl⟩
  change shapeCast S32x8x128 (extractStridedSlice S32x8x128x1 ![0, 0, 0, 0] (resN m c : FVec Ideal S32x8x128x128 .f32)
    slices_S32x8x128x128_S32x8x128x1_0_0_0_0) shapeCasts_S32x8x128x1_S32x8x128 (ix3 b h x) = _
  pointwise
  rfl

theorem tail_m (c : Dev nD) : Pipeline.afterTail₀ cfgs (dats m) 0 (V0 m) [hostOps1] c main_v11 = resM m c := by
  unfold Pipeline.afterTail₀
  dsimp only [hostOps1, List.flatten_cons, List.flatten_nil, List.append_nil, List.cons_append, List.nil_append]
  after_results
  have e := (Pipeline.withArrays_arr_shared (cfgs 0).spec c (V0 m c) (fun w => (dats m 0 c).arrAt w (cfgs 0).N) (shared m c) 13)
  change Pipeline.withArrays (cfgs 0).spec c (V0 m c) (fun w => (dats m 0 c).arrAt w (cfgs 0).N) (Proc.tc.devRef main_v7_3) = _ at e
  rw [e]
  funext i
  obtain ⟨b, h, rfl⟩ : ∃ (b : Fin 32) (h : Fin 8), i = ix2 b h := ⟨i 0, i 1, by funext a; fin_cases a <;> rfl⟩
  change shapeCast S32x8 (extractStridedSlice S32x1x8 ![0, 0, 0] ((dats m 0 c).arrAt 13 cfg0.N : FVec Ideal S32x1x128 .f32)
    slices_S32x1x128_S32x1x8_0_0_0) shapeCasts_S32x1x8_S32x8 (ix2 b h) = _
  pointwise
  exact arr13 m c b h

theorem run : θ_run defs (onTc (τ := τ) (main (F := Ideal))) ⟨m, fun _ => 0, g⟩ (fun r => ∀ c : Dev nD,
      r.2.mem ((c.tc : Thread nD τ).loc main_v7_0) = resY m c
      ∧ r.2.mem ((c.tc : Thread nD τ).loc main_v7_1) = resC m c
      ∧ r.2.mem ((c.tc : Thread nD τ).loc main_v9) = resN3 m c
      ∧ r.2.mem ((c.tc : Thread nD τ).loc main_v11) = resM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  run_from run_main m g & unchanged m g
  · exact arr10 m c
  · exact arr11 m c
  · exact tail_n m c
  · exact tail_m m c

end Cert.KernelIdeal.Mlstm

end
-- ==== Proof.Mlstm.Ref.lean ====
module

public import proofs.«01_k».proof.Proof.Gen.ReferenceIdeal.Read
public import proofs.«01_k».proof.Proof.Mlstm.Math

@[expose] public section

/-! # The reference's stages at an index

Each value of the reference program, at an index, from the argument arrays. -/

set_option maxRecDepth 16384
set_option synthInstance.maxSize 4096

noncomputable section

namespace Cert.ReferenceIdeal.Mlstm

open Idealize.ShloMosaic Idealize.ShloMosaic.TcCoe Idealize.ShloMosaic.Tactic
open Idealize.ShloMosaic.Pointwise Idealize.SL.Sem
open Cert.ReferenceIdeal Cert.ReferenceIdeal.Gen Cert.ReferenceIdeal.Read
open Cert.Mlstm

/-- A sum in order from an initial value. -/
theorem foldl_sum {N : ℕ} (g : Fin N → EReal) (l : List (Fin N)) (a : EReal) :
    l.foldl (fun r n => r + g n) a = a + (l.map g).sum := by
  induction l generalizing a with
  | nil => simp
  | cons n l ih => rw [List.foldl_cons, ih, List.map_cons, List.sum_cons, add_assoc]

/-- The running sum along the middle axis. -/
theorem cumsum_ref (x : FVec Ideal S32x32x8 .f32) (z : FVec Ideal S_ .f32) (hz : ∀ i, z i = (0 : EReal)) (b t : Fin 32) (h : Fin 8) :
    Host.reduceWindowAdd ![1, 32, 1] ![1, 1, 1] ![0, 31, 0] ![0, 0, 0] x z reduceWindows_S32x32x8_S32x32x8_w1s1p0_0_w32s1p31_0_w1s1p0_0 h_S_
      (ix3 b t h) = ∑ s : Fin 32, if s ≤ t then x (ix3 b s h) else (0 : EReal) := by
  unfold Host.reduceWindowAdd
  rw [Ideal.hostReduceWindowAdd_def]
  unfold Ideal.hostReduceWindowAdd Host.reduceWindow
  rw [hz]
  dsimp only
  rw [foldl_sum, zero_add, ← Fin.sum_univ_def]
  let G : (⟨3, ![1, 32, 1]⟩ : Shape).Idx → EReal := fun w =>
    if hin : ∀ a : Fin 3, ![0, 31, 0] a ≤ ((ix3 b t h : S32x32x8.Idx) a).val * ![1, 1, 1] a + (w a).val ∧
        ((ix3 b t h : S32x32x8.Idx) a).val * ![1, 1, 1] a + (w a).val - ![0, 31, 0] a < ![32, 32, 8] a then
      x fun a => ⟨((ix3 b t h : S32x32x8.Idx) a).val * ![1, 1, 1] a + (w a).val - ![0, 31, 0] a, (hin a).2⟩
    else 0
  have hG : ∀ n : Fin 32, G (ix3 0 n 0) = if n + (t + 1) ≤ t then x (ix3 b (n + (t + 1)) h) else (0 : EReal) := by
    intro n
    have hv : (n + (t + 1)).val = (n.val + t.val + 1) % 32 := by
      rw [Fin.val_add, Fin.val_add]; simp; omega
    by_cases hc : 31 ≤ t.val + n.val
    · have hn : (n + (t + 1)).val = t.val + n.val - 31 := by omega
      rw [if_pos (by rw [Fin.le_def]; omega)]
      have hin : ∀ a : Fin 3, ![0, 31, 0] a ≤ ((ix3 b t h : S32x32x8.Idx) a).val * ![1, 1, 1] a + ((ix3 0 n 0 : (⟨3, ![1, 32, 1]⟩ : Shape).Idx) a).val ∧
          ((ix3 b t h : S32x32x8.Idx) a).val * ![1, 1, 1] a + ((ix3 0 n 0 : (⟨3, ![1, 32, 1]⟩ : Shape).Idx) a).val - ![0, 31, 0] a < ![32, 32, 8] a := by
        intro a
        fin_cases a
        · exact ⟨Nat.zero_le _, by show b.val * 1 + 0 - 0 < 32; omega⟩
        · exact ⟨by show 31 ≤ t.val * 1 + n.val; omega, by show t.val * 1 + n.val - 31 < 32; omega⟩
        · exact ⟨Nat.zero_le _, by show h.val * 1 + 0 - 0 < 8; omega⟩
      refine (dif_pos hin).trans (congrArg x ?_)
      funext a
      fin_cases a
      · exact Fin.ext (by show b.val * 1 + 0 - 0 = b.val; omega)
      · exact Fin.ext (by show t.val * 1 + n.val - 31 = (n + (t + 1)).val; omega)
      · exact Fin.ext (by show h.val * 1 + 0 - 0 = h.val; omega)
    · rw [if_neg (by rw [Fin.le_def]; omega)]
      exact dif_neg fun hin => hc (by have := (hin 1).1; change 31 ≤ t.val * 1 + n.val at this; omega)
  refine (Finset.sum_congr rfl fun i _ => ?_).trans ((Equiv.sum_comp (Shape.rowMajor ⟨3, ![1, 32, 1]⟩).symm G).trans ((sum_idx3 G).trans ?_))
  · dsimp only [G]
    split_ifs with h1 h2 h2
    · rfl
    · exact absurd h1 h2
    · exact absurd h2 h1
    · rfl
  rw [Fin.sum_univ_one]
  simp only [Fin.sum_univ_one]
  rw [← Equiv.sum_comp (Equiv.addRight (t + 1)) (fun s : Fin 32 => if s ≤ t then x (ix3 b s h) else (0 : EReal))]
  exact Finset.sum_congr rfl fun n _ => hG n

theorem max_ref (x : FVec Ideal S32x8x32x32 .f32) (z : FVec Ideal S_ .f32) (hz : ∀ i, z i = (⊥ : EReal)) (b t : Fin 32) (h : Fin 8) :
    Host.reduce (FloatOps.maximumf (F := Ideal) (φ := .f32)) x z reducesTo_S32x8x32x32_S32x8x32_d3 h_S_ (ix3 b h t)
      = Finset.univ.sup fun s : Fin 32 => (x (ix4 b h t s) : EReal) := by
  rw [Host.reduce_eq_fold_single (FloatOps.maximumf (F := Ideal) (φ := .f32)) x z reducesTo_S32x8x32x32_S32x8x32_d3 (by decide) h_S_, hz]
  show Finset.univ.sup _ = _
  refine Finset.sup_congr rfl fun s _ => ?_
  refine congrArg x ?_
  funext a
  fin_cases a <;> rfl

theorem q_ref (x0 : (⟨S33792x6144, .bf16⟩ : BufTy).Contents (Elt Ideal)) (b t : Fin 32) (h : Fin 8) (x : Fin 128) :
    val_main_v9 (F := Ideal) x0 (ix4 b t h x) = x0 (ix2 (row b t) ⟨128 * h.val + x.val, by omega⟩) := by
  pointwise [val_main_v9, val_main_v8, val_main_v2, val_main_v1, val_main_v0]
  exact congrArg x0 (congrArg₂ ix2 (Fin.ext (by simp [row]; omega)) (Fin.ext (by simp; omega)))

theorem k_ref (x0 : (⟨S33792x6144, .bf16⟩ : BufTy).Contents (Elt Ideal)) (b t : Fin 32) (h : Fin 8) (x : Fin 128) :
    val_main_v13 (F := Ideal) x0 (ix4 b t h x) = x0 (ix2 (row b t) ⟨1024 + (128 * h.val + x.val), by omega⟩) * Head.scale := by
  pointwise [val_main_v13, val_main_v11, val_main_v10, val_main_v3, val_main_v1, val_main_v0, val_main_v12, val_main_cst]
  refine congrArg₂ (· * ·) ?_ rfl
  exact congrArg x0 (congrArg₂ ix2 (Fin.ext (by simp [row]; omega)) (Fin.ext (by simp; omega)))

theorem v_ref (x0 : (⟨S33792x6144, .bf16⟩ : BufTy).Contents (Elt Ideal)) (b t : Fin 32) (h : Fin 8) (e : Fin 256) :
    val_main_v15 (F := Ideal) x0 (ix4 b t h e) = x0 (ix2 (row b t) ⟨2048 + (256 * h.val + e.val), by omega⟩) := by
  pointwise [val_main_v15, val_main_v14, val_main_v4, val_main_v1, val_main_v0]
  exact congrArg x0 (congrArg₂ ix2 (Fin.ext (by simp [row]; omega)) (Fin.ext (by simp; omega)))

theorem lit15 : Ideal.ofBits .f32 1097859072#32 = ((15 : ℝ) : EReal) := by
  simp [Ideal.ofBits, Ideal.ieee, -EReal.coe_mul]; norm_num

theorem pre_ref (x1 : (⟨S33792x128, .f32⟩ : BufTy).Contents (Elt Ideal)) (x2 : (⟨S16, .f32⟩ : BufTy).Contents (Elt Ideal)) (b t : Fin 32) (j : Fin 16) :
    val_main_v23 (F := Ideal) x1 x2 (ix3 b t j) = (capR (x1 (ix2 (row b t) ⟨j.val, by omega⟩) + x2 (ix1 j)) : EReal) := by
  pointwise [val_main_v23, val_main_v22, val_main_cst_1, val_main_v21, val_main_v20, val_main_v18, val_main_v7, val_main_v6, val_main_v17, val_main_v16, val_main_v19, val_main_cst_0]
  have e : (ix2 (⟨32768 + (b.val * 32 + t.val), by omega⟩ : Fin 33792) (⟨j.val, by omega⟩ : Fin 128) : S33792x128.Idx) = ix2 (row b t) ⟨j.val, by omega⟩ :=
    congrArg₂ ix2 (Fin.ext (by simp [row]; omega)) rfl
  rw [lit15, e, Ideal.div, if_neg (by norm_num), capR, EReal.coe_mul, ← tanh_eq]
  rfl

theorem ig_ref (x1 : (⟨S33792x128, .f32⟩ : BufTy).Contents (Elt Ideal)) (x2 : (⟨S16, .f32⟩ : BufTy).Contents (Elt Ideal)) (b t : Fin 32) (h : Fin 8) :
    val_main_v29 (F := Ideal) x1 x2 (ix3 b h t) = (capR (x1 (ix2 (row b t) ⟨h.val, by omega⟩) + x2 (ix1 ⟨h.val, by omega⟩)) : EReal) := by
  pointwise [val_main_v29, val_main_v24]
  exact pre_ref x1 x2 b t ⟨h.val, by omega⟩

theorem lf_ref (x1 : (⟨S33792x128, .f32⟩ : BufTy).Contents (Elt Ideal)) (x2 : (⟨S16, .f32⟩ : BufTy).Contents (Elt Ideal)) (b t : Fin 32) (h : Fin 8) :
    val_main_v26 (F := Ideal) x1 x2 (ix3 b t h) = (lsR (capR (x1 (ix2 (row b t) ⟨h.val + 8, by omega⟩) + x2 (ix1 ⟨h.val + 8, by omega⟩))) : EReal) := by
  pointwise [val_main_v26, val_main_call0_v1, val_main_call0_call0_v4, val_main_call0_call0_v3, val_main_call0_v0, val_main_v25, val_main_call0_call0_v2, val_main_call0_call0_cst, val_main_call0_call0_v6, val_main_call0_call0_v5, val_main_call0_call0_v11, val_main_call0_call0_v1, val_main_call0_call0_v0, val_main_call0_call0_v10, val_main_call0_call0_v9, val_main_call0_call0_v8, val_main_call0_call0_v7]
  have e : (⟨8 + h.val, by omega⟩ : Fin 16) = ⟨h.val + 8, by omega⟩ := Fin.ext (Nat.add_comm _ _)
  rw [e, pre_ref]
  generalize capR _ = r
  rw [if_neg (by simp), ← lsR_softplus]
  have ea : FloatOps.absf (F := Ideal) (φ := .f32) (-(r : EReal)) = ((|(-r) - 0| : ℝ) : EReal) := by
    rw [← EReal.coe_neg, Ideal.absf_def, sub_zero, abs_eq_max_neg, EReal.coe_strictMono.monotone.map_max, EReal.coe_neg (-r)]
  rw [ea, ← EReal.coe_neg, ← EReal.coe_neg, Ideal.exp_coe]
  have e1 : Ideal.log1p ((Real.exp (-|(-r) - 0|) : ℝ) : EReal) = ((Real.log (1 + Real.exp (-|(-r) - 0|)) : ℝ) : EReal) := by
    show Ideal.log (1 + ((Real.exp (-|(-r) - 0|) : ℝ) : EReal)) = _
    rw [← EReal.coe_one, ← EReal.coe_add, Ideal.log_coe, if_neg (not_le.mpr (by positivity))]
  rw [e1, ← EReal.coe_zero, ← EReal.coe_strictMono.monotone.map_max, ← EReal.coe_add, ← EReal.coe_neg]

end Cert.ReferenceIdeal.Mlstm

end
-- ==== Proof.Mlstm.Head.lean ====
module

public import proofs.«01_k».proof.Proof.Mlstm.Math

@[expose] public section

/-!
# The two ways of writing one head

The kernel and the reference write a head's rows differently: the reference takes the
running maximum of `bt t - bt s + ig s`, scales the keys before the scores, multiplies the sums
by the inter-chunk weight and divides by the normaliser. Each of these is the kernel's term.
-/

noncomputable section

namespace Cert.Mlstm

open Idealize Idealize.ShloMosaic

namespace Head

variable (H : Head)

theorem scale_eq : ∃ r : ℝ, 0 ≤ r ∧ scale = (r : EReal) := by
  refine ⟨(Ideal.ofBits .f32 1035273459#32).toReal, ?_, ?_⟩ <;>
  · simp [scale, Ideal.ofBits, Ideal.ieee, -EReal.coe_mul]
    try positivity

theorem lit256 : Ideal.ofBits .f32 1132462080#32 = ((256 : ℝ) : EReal) := by
  simp [Ideal.ofBits, Ideal.ieee, -EReal.coe_mul]; norm_num

theorem inv256_eq : inv256 = (((256 : ℝ)⁻¹ : ℝ) : EReal) := by
  simp [inv256, Ideal.ofBits, Ideal.ieee, -EReal.coe_mul]; norm_num

theorem eps_eq : ∃ r : ℝ, eps = (r : EReal) := by
  refine ⟨(Ideal.ofBits .f32 897988541#32).toReal, ?_⟩
  simp [eps, Ideal.ofBits, Ideal.ieee, -EReal.coe_mul]

theorem M_real (t : Fin 32) : ∃ r : ℝ, H.M t = (r : EReal) := by
  have hle : (H.a t : EReal) ≤ H.M t := by
    have := Finset.le_sup (f := fun s : Fin 32 => if s ≤ t then (H.a s : EReal) else ⊥) (Finset.mem_univ t)
    simpa [M] using this
  obtain ⟨i, -, hi⟩ := Finset.exists_mem_eq_sup Finset.univ ⟨t, Finset.mem_univ t⟩
    (fun s : Fin 32 => if s ≤ t then (H.a s : EReal) else ⊥)
  have hi' : H.M t = if i ≤ t then (H.a i : EReal) else ⊥ := hi
  by_cases hc : i ≤ t
  · exact ⟨H.a i, by rw [hi', if_pos hc]⟩
  · rw [if_neg hc] at hi'
    rw [hi'] at hle
    exact absurd (le_bot_iff.mp hle) (EReal.coe_ne_bot _)

theorem mt_real (t : Fin 32) (hm : H.m ≠ ⊤) : ∃ r : ℝ, H.mt t = (r : EReal) := by
  obtain ⟨r, hr⟩ := H.M_real t
  unfold mt
  rw [hr]
  generalize H.m = m at hm
  induction m with
  | bot => exact ⟨H.bt t + r, by rw [max_eq_right bot_le, EReal.coe_add]⟩
  | top => exact absurd rfl hm
  | coe x => exact ⟨H.bt t + max x r, by rw [EReal.coe_add, EReal.coe_strictMono.monotone.map_max]⟩

theorem mt_top (t : Fin 32) (hm : H.m = ⊤) : H.mt t = ⊤ := by
  unfold mt
  rw [hm, max_eq_left le_top, EReal.coe_add_top]

theorem mt_eq (t : Fin 32) :
    max ((H.bt t : EReal) + H.m)
      (Finset.univ.sup fun s => if s ≤ t then ((H.bt t - H.bt s + H.ig s : ℝ) : EReal) else ⊥) = H.mt t := by
  have key : (Finset.univ.sup fun s => if s ≤ t then ((H.bt t - H.bt s + H.ig s : ℝ) : EReal) else ⊥)
      = (H.bt t : EReal) + H.M t := by
    unfold M
    rw [Finset.comp_sup_eq_sup_comp (fun x : EReal => (H.bt t : EReal) + x)
      (fun x y => (show Monotone fun x : EReal => (H.bt t : EReal) + x from fun _ _ h => by dsimp only; gcongr).map_max) (by simp)]
    refine congrArg _ (funext fun s => ?_)
    simp only [Function.comp]
    split_ifs
    · rw [← EReal.coe_add, a]
      congr 1
      ring
    · simp
  rw [key]
  unfold mt
  exact ((show Monotone fun x : EReal => (H.bt t : EReal) + x from fun _ _ h => by dsimp only; gcongr).map_max).symm

theorem it_nonneg (t : Fin 32) : 0 ≤ H.it t ∧ H.it t ≠ ⊤ := by
  unfold it
  by_cases hm : H.m = ⊤
  · rw [H.mt_top t hm, hm]
    simp
  · obtain ⟨r, hr⟩ := H.mt_real t hm
    rw [hr]
    generalize H.m = m at hm
    induction m with
    | bot => simp
    | top => exact absurd rfl hm
    | coe x =>
      rw [← EReal.coe_add, ← EReal.coe_sub, Ideal.exp_coe]
      exact ⟨by exact_mod_cast (Real.exp_pos _).le, EReal.coe_ne_top _⟩

/-- A weight's exponent: `bt t - bt s + ig s - mt` is `bt t - mt + a s`. -/
theorem arg_eq (t s u : Fin 32) :
    ((H.bt t - H.bt s + H.ig s : ℝ) : EReal) - H.mt u = (H.bt t : EReal) - H.mt u + (H.a s : EReal) := by
  by_cases hm : H.m = ⊤
  · rw [H.mt_top u hm]; simp
  · obtain ⟨r, hr⟩ := H.mt_real u hm
    rw [hr, ← EReal.coe_sub, ← EReal.coe_sub, ← EReal.coe_add, a]
    congr 1
    ring

theorem sc_eq (t s : Fin 32) :
    (∑ x, H.q t x * (H.k s x * scale)) *
      Ideal.exp ((if s ≤ t then ((H.bt t - H.bt s + H.ig s : ℝ) : EReal) else ⊥) - H.mt t) = H.sc t s := by
  unfold sc
  split_ifs
  · obtain ⟨r, h0, hr⟩ := scale_eq
    rw [arg_eq, hr, mul_comm (Ideal.exp _), ← mul_assoc,
      sum_mul_nonneg _ _ _ (by exact_mod_cast h0) (EReal.coe_ne_top _)]
    simp only [mul_assoc]
  · simp

theorem num_eq (t : Fin 32) (e : Fin 256) :
    ∑ s, H.v s e * H.sc t s + (∑ x, H.C x e * H.q t x) * H.it t = H.num t e := by
  unfold num
  rw [sum_mul_nonneg _ _ _ (H.it_nonneg t).1 (H.it_nonneg t).2]
  refine congrArg₂ (· + ·) (Finset.sum_congr rfl fun s _ => mul_comm _ _) (Finset.sum_congr rfl fun x _ => ?_)
  rw [mul_comm (H.C x e), mul_right_comm]

theorem den_eq (t : Fin 32) : ∑ s, H.sc t s + H.it t * ∑ x, H.q t x * H.n x = H.den t := by
  unfold den
  rw [mul_comm (H.it t), sum_mul_nonneg _ _ _ (H.it_nonneg t).1 (H.it_nonneg t).2]
  exact congrArg _ (Finset.sum_congr rfl fun x _ => mul_right_comm _ _ _)

theorem div_real (x : EReal) {r : ℝ} (hr : r ≠ 0) : Ideal.div x (r : EReal) = x * ((r⁻¹ : ℝ) : EReal) := by
  unfold Ideal.div
  rw [if_neg (by exact_mod_cast hr), EReal.coe_inv]

theorem logistic_eq (x : EReal) : Ideal.div 1 (1 + Ideal.exp (-x)) = Ideal.logistic x := rfl

theorem y_eq (t : Fin 32) (e : Fin 256) :
    Ideal.div (H.num t e) (H.dn t) *
          Ideal.rsqrt (Ideal.div (∑ x, Ideal.div (H.num t x) (H.dn t) * Ideal.div (H.num t x) (H.dn t))
            (Ideal.ofBits .f32 1132462080#32) + eps) * H.gain e * Ideal.div 1 (1 + Ideal.exp (-H.o t e)) = H.y t e := by
  rw [lit256, div_real _ (by norm_num : (256 : ℝ) ≠ 0), logistic_eq]
  unfold y ms
  rw [inv256_eq]
  by_cases hm : H.m = ⊤
  · have hsc : ∀ s, H.sc t s = 0 := fun s => by
      unfold sc
      rw [H.mt_top t hm]
      simp
    have hit : H.it t = 0 := by
      unfold it
      rw [H.mt_top t hm, hm]
      simp
    have hnum : ∀ e, H.num t e = 0 := fun e => by simp [num, hsc, hit]
    have hden : H.den t = 0 := by simp [den, hsc, hit]
    have hdn : H.dn t = 0 := by
      unfold dn
      rw [hden, H.mt_top t hm, Ideal.absf_def]
      simp
    have hh0 : ∀ e, H.hh t e = 0 := fun e => by simp [hh, hnum]
    have hd : Ideal.div (0 : EReal) 0 = ⊥ := by simp [Ideal.div]
    obtain ⟨r, hr⟩ := eps_eq
    have hsum : (∑ _x : Fin 256, (⊥ : EReal) * ⊥) = ⊤ := by
      rw [EReal.bot_mul_bot, Fin.sum_univ_succ]
      exact EReal.top_add_of_ne_bot (ne_bot_of_le_ne_bot EReal.zero_ne_bot (Finset.sum_nonneg fun _ _ => le_top))
    simp only [hnum, hdn, hd, hh0, hsum, hr]
    rw [EReal.top_mul_coe_of_pos (by norm_num), EReal.top_add_coe]
    simp
  · have hdn : H.dn t ≠ 0 := by
      obtain ⟨r, hr⟩ := H.mt_real t hm
      have hpos : (0 : EReal) < Ideal.exp (0 - H.mt t) := by
        rw [hr, zero_sub, ← EReal.coe_neg, Ideal.exp_coe]
        exact_mod_cast Real.exp_pos _
      exact (lt_of_lt_of_le hpos (le_max_right _ _)).ne'
    have hh' : ∀ e, Ideal.div (H.num t e) (H.dn t) = H.hh t e := fun e => by
      unfold hh Ideal.div
      rw [if_neg hdn, if_neg hdn, one_mul]
    simp only [hh']

theorem w_eq (s : Fin 32) :
    Ideal.exp ((H.bt 31 : EReal) - (H.bt s : EReal) + (H.ig s : EReal) - H.mt 31) = H.w s := by
  unfold w
  rw [← arg_eq, EReal.coe_add, EReal.coe_sub]

end Head

end Cert.Mlstm

end
-- ==== Proof.Mlstm.RefHead.lean ====
module

public import proofs.«01_k».proof.Proof.Mlstm.Ref
public import proofs.«01_k».proof.Proof.Mlstm.Head

@[expose] public section

/-! # The reference's results at an index

Each value of the reference program, at an index, from the argument arrays. -/

set_option maxRecDepth 16384
set_option synthInstance.maxSize 4096

noncomputable section

namespace Cert.ReferenceIdeal.Mlstm

open Idealize.ShloMosaic Idealize.ShloMosaic.TcCoe Idealize.ShloMosaic.Tactic
open Idealize.ShloMosaic.Pointwise Idealize.SL.Sem
open Cert.ReferenceIdeal Cert.ReferenceIdeal.Gen Cert.ReferenceIdeal.Read
open Cert.Mlstm

theorem lit_bot : Ideal.ofBits .f32 4286578688#32 = (⊥ : EReal) := by
  simp [Ideal.ofBits, Ideal.ieee]

/-- The lower triangle's test at one pair of positions. -/
theorem tril : ∀ t s : Fin 32, Scalar.select (IntOp.cmpi CmpIPredicate.sge (IntOp.addi (BitVec.ofNat 32 t.val) 0#32) (BitVec.ofNat 32 s.val)) 1#1 0#1
    = if s ≤ t then (1#1 : BitVec 1) else 0#1 := by
  decide +kernel

variable (x0 : (⟨S33792x6144, .bf16⟩ : BufTy).Contents (Elt Ideal)) (x1 : (⟨S33792x128, .f32⟩ : BufTy).Contents (Elt Ideal))
  (x2 : (⟨S16, .f32⟩ : BufTy).Contents (Elt Ideal)) (x3 : (⟨S2048, .f32⟩ : BufTy).Contents (Elt Ideal))
  (x4 : (⟨S32x8x128x256, .f32⟩ : BufTy).Contents (Elt Ideal)) (x5 : (⟨S32x8x128, .f32⟩ : BufTy).Contents (Elt Ideal))
  (x6 : (⟨S32x8, .f32⟩ : BufTy).Contents (Elt Ideal)) (b : Fin 32) (h : Fin 8)

/-- Head `h` of stream `b` of the argument arrays. -/
abbrev headR : Head :=
  arrHead (fun i j => x0 (ix2 i j)) (fun i j => x1 (ix2 i j)) (fun i => x2 (ix1 i)) (fun i => x3 (ix1 i))
    (fun i j k l => x4 (ix4 i j k l)) (fun i j k => x5 (ix3 i j k)) (fun i j => x6 (ix2 i j)) b h

theorem bt_ref (t : Fin 32) :
    val_main_v28 (F := Ideal) x1 x2 (ix3 b h t) = ((headR x0 x1 x2 x3 x4 x5 x6 b h).bt t : EReal) := by
  pointwise [val_main_v28]
  unfold val_main_v27
  rw [cumsum_ref _ _ (fun i => by pointwise [val_main_call1_call0_v0, val_main_call1_call0_cst])]
  unfold Head.bt
  rw [coe_sum]
  refine Finset.sum_congr rfl fun s _ => ?_
  split_ifs
  · exact lf_ref x1 x2 b s h
  · rfl

theorem ig_head (t : Fin 32) :
    val_main_v29 (F := Ideal) x1 x2 (ix3 b h t) = (((headR x0 x1 x2 x3 x4 x5 x6 b h).ig t : ℝ) : EReal) :=
  ig_ref x1 x2 b t h

theorem d_ref (t s : Fin 32) :
    val_main_v40 (F := Ideal) x1 x2 (ix4 b h t s) = (if s ≤ t then ((((headR x0 x1 x2 x3 x4 x5 x6 b h).bt t - (headR x0 x1 x2 x3 x4 x5 x6 b h).bt s + (headR x0 x1 x2 x3 x4 x5 x6 b h).ig s : ℝ)) : EReal) else ⊥) := by
  pointwise [val_main_v40, val_main_call3_v1, val_main_v31, val_main_call2_v4, val_main_call2_v2, val_main_call2_v0, val_main_call2_v1, val_main_call2_c, val_main_call2_v3, val_main_v30, val_main_c, val_main_call2_v5, val_main_call2_c_0, val_main_v39, val_main_v36, val_main_v34, val_main_v32, val_main_v35, val_main_v33, val_main_v38, val_main_v37, val_main_call3_v2, val_main_call3_v0, val_main_cst_2]
  rw [tril]
  by_cases hst : s ≤ t
  · rw [if_pos hst, if_pos hst, bt_ref x0 x1 x2 x3 x4 x5 x6 b h, bt_ref x0 x1 x2 x3 x4 x5 x6 b h, ig_head x0 x1 x2 x3 x4 x5 x6 b h, EReal.coe_add, EReal.coe_sub]
    rfl
  · rw [if_neg hst, if_neg hst]
    exact lit_bot

theorem mt_ref (t : Fin 32) :
    val_main_v45 (F := Ideal) x1 x2 x6 (ix3 b h t) = (headR x0 x1 x2 x3 x4 x5 x6 b h).mt t := by
  pointwise [val_main_v45, val_main_v43, val_main_v42, val_main_v41]
  unfold val_main_v44
  rw [max_ref _ _ (fun i => by pointwise [val_main_cst_3]; exact lit_bot)]
  simp only [d_ref x0 x1 x2 x3 x4 x5 x6 b h]
  rw [bt_ref x0 x1 x2 x3 x4 x5 x6 b h]
  exact Head.mt_eq (headR x0 x1 x2 x3 x4 x5 x6 b h) t

theorem it_ref (t : Fin 32) :
    val_main_v51 (F := Ideal) x1 x2 x6 (ix3 b h t) = (headR x0 x1 x2 x3 x4 x5 x6 b h).it t := by
  pointwise [val_main_v51, val_main_v50, val_main_v43, val_main_v42, val_main_v41]
  rw [bt_ref x0 x1 x2 x3 x4 x5 x6 b h, mt_ref x0 x1 x2 x3 x4 x5 x6 b h]
  rfl

theorem s_ref (t s : Fin 32) :
    val_main_v53 (F := Ideal) x0 x1 x2 x6 (ix4 b h t s) = (headR x0 x1 x2 x3 x4 x5 x6 b h).sc t s := by
  pointwise [val_main_v53, val_main_v52, val_main_v49, val_main_v48, val_main_v47, val_main_v46]
  rw [d_ref x0 x1 x2 x3 x4 x5 x6 b h, mt_ref x0 x1 x2 x3 x4 x5 x6 b h]
  simp only [q_ref, k_ref]
  exact Head.sc_eq (headR x0 x1 x2 x3 x4 x5 x6 b h) t s

theorem num_ref (t : Fin 32) (e : Fin 256) :
    val_main_v62 (F := Ideal) x0 x1 x2 x4 x6 (ix4 b t h e) = (headR x0 x1 x2 x3 x4 x5 x6 b h).num t e := by
  pointwise [val_main_v62, val_main_v57, val_main_v56, val_main_v61, val_main_v59, val_main_v58, val_main_v60, val_main_v55, val_main_v54]
  rw [it_ref x0 x1 x2 x3 x4 x5 x6 b h]
  simp only [v_ref, s_ref x0 x1 x2 x3 x4 x5 x6 b h, q_ref]
  exact Head.num_eq (headR x0 x1 x2 x3 x4 x5 x6 b h) t e

theorem den_ref (t : Fin 32) :
    val_main_v66 (F := Ideal) x0 x1 x2 x5 x6 (ix3 b h t) = (headR x0 x1 x2 x3 x4 x5 x6 b h).den t := by
  pointwise [val_main_v66, val_main_v63, val_main_cst_4, val_main_v65, val_main_v64]
  rw [it_ref x0 x1 x2 x3 x4 x5 x6 b h]
  simp only [s_ref x0 x1 x2 x3 x4 x5 x6 b h, q_ref]
  exact Head.den_eq (headR x0 x1 x2 x3 x4 x5 x6 b h) t

theorem h_ref (t : Fin 32) (e : Fin 256) :
    val_main_v74 (F := Ideal) x0 x1 x2 x4 x5 x6 (ix4 b t h e) = Ideal.div ((headR x0 x1 x2 x3 x4 x5 x6 b h).num t e) ((headR x0 x1 x2 x3 x4 x5 x6 b h).dn t) := by
  pointwise [val_main_v74, val_main_v73, val_main_v72, val_main_v71, val_main_v70, val_main_v67, val_main_v69, val_main_v68]
  rw [num_ref x0 x1 x2 x3 x4 x5 x6 b h, den_ref x0 x1 x2 x3 x4 x5 x6 b h, mt_ref x0 x1 x2 x3 x4 x5 x6 b h, ← zero_sub]
  rfl

theorem m_ref  :
    val_main_v76 (F := Ideal) x1 x2 x6 (ix2 b h) = (headR x0 x1 x2 x3 x4 x5 x6 b h).mt 31 := by
  pointwise [val_main_v76, val_main_v75]
  exact mt_ref x0 x1 x2 x3 x4 x5 x6 b h 31

theorem w_ref (s : Fin 32) :
    val_main_v84 (F := Ideal) x1 x2 x6 (ix3 b h s) = (headR x0 x1 x2 x3 x4 x5 x6 b h).w s := by
  pointwise [val_main_v84, val_main_v83, val_main_v80, val_main_v79, val_main_v78, val_main_v77, val_main_v82, val_main_v81]
  rw [bt_ref x0 x1 x2 x3 x4 x5 x6 b h, bt_ref x0 x1 x2 x3 x4 x5 x6 b h, ig_head x0 x1 x2 x3 x4 x5 x6 b h, m_ref x0 x1 x2 x3 x4 x5 x6 b h]
  exact Head.w_eq (headR x0 x1 x2 x3 x4 x5 x6 b h) s

theorem dec_ref  :
    val_main_v89 (F := Ideal) x1 x2 x6 (ix2 b h) = (headR x0 x1 x2 x3 x4 x5 x6 b h).dec := by
  pointwise [val_main_v89, val_main_v88, val_main_v87, val_main_v86, val_main_v85]
  rw [bt_ref x0 x1 x2 x3 x4 x5 x6 b h, m_ref x0 x1 x2 x3 x4 x5 x6 b h]
  rfl

theorem kw_ref (s : Fin 32) (x : Fin 128) :
    val_main_v93 (F := Ideal) x0 x1 x2 x6 (ix4 b s h x) = (headR x0 x1 x2 x3 x4 x5 x6 b h).k s x * ((headR x0 x1 x2 x3 x4 x5 x6 b h).w s * Head.scale) := by
  pointwise [val_main_v93, val_main_v92, val_main_v91, val_main_v90]
  rw [k_ref, w_ref x0 x1 x2 x3 x4 x5 x6 b h, mul_assoc, mul_comm Head.scale]
  rfl

theorem C_ref (x : Fin 128) (e : Fin 256) :
    val_main_v98 (F := Ideal) x0 x1 x2 x4 x6 (ix4 b h x e) = (headR x0 x1 x2 x3 x4 x5 x6 b h).Cn x e := by
  pointwise [val_main_v98, val_main_v96, val_main_v95, val_main_v94, val_main_v97]
  rw [dec_ref x0 x1 x2 x3 x4 x5 x6 b h]
  simp only [kw_ref x0 x1 x2 x3 x4 x5 x6 b h, v_ref]
  rfl

theorem n_ref (x : Fin 128) :
    val_main_v103 (F := Ideal) x0 x1 x2 x5 x6 (ix3 b h x) = (headR x0 x1 x2 x3 x4 x5 x6 b h).nn x := by
  pointwise [val_main_v103, val_main_v101, val_main_v100, val_main_v99, val_main_v102, val_main_cst_5]
  rw [dec_ref x0 x1 x2 x3 x4 x5 x6 b h]
  simp only [kw_ref x0 x1 x2 x3 x4 x5 x6 b h]
  rfl

omit b h in
theorem y_ref (t : Fin 1024) (e : Fin 2048) :
    val_main_v127 (F := Ideal) x0 x1 x2 x3 x4 x5 x6 (ix2 t e) = (headR x0 x1 x2 x3 x4 x5 x6 ⟨t.val / 32, by omega⟩ ⟨e.val / 256, by omega⟩).y ⟨t.val % 32, by omega⟩ ⟨e.val % 256, by omega⟩ := by
  pointwise [val_main_v127, val_main_v126, val_main_v125, val_main_v117, val_main_v114, val_main_v113, val_main_v112, val_main_v111, val_main_v110, val_main_v108, val_main_v106, val_main_v105, val_main_v104, val_main_cst_6, val_main_v107, val_main_cst_7, val_main_v109, val_main_cst_8, val_main_v116, val_main_v115, val_main_v124, val_main_v123, val_main_cst_10, val_main_v122, val_main_v121, val_main_cst_9, val_main_v120, val_main_v119, val_main_v118, val_main_v5, val_main_v1]
  simp only [h_ref x0 x1 x2 x3 x4 x5 x6 ⟨t.val / 32, by omega⟩ ⟨e.val / 256, by omega⟩]
  have eo : val_main_v0 (F := Ideal) x0 (ix2 t ⟨4096 + e.val, by omega⟩)
      = (headR x0 x1 x2 x3 x4 x5 x6 ⟨t.val / 32, by omega⟩ ⟨e.val / 256, by omega⟩).o ⟨t.val % 32, by omega⟩ ⟨e.val % 256, by omega⟩ := by
    have hx : ix2 (⟨32768 + t.val, by omega⟩ : Fin 33792) (⟨4096 + e.val, by omega⟩ : Fin 6144)
        = ix2 (row ⟨t.val / 32, by omega⟩ ⟨t.val % 32, by omega⟩) ⟨4096 + (256 * (e.val / 256) + e.val % 256), by omega⟩ :=
      congrArg₂ ix2 (Fin.ext (by show 32768 + t.val = 32768 + 32 * (t.val / 32) + t.val % 32; omega))
        (Fin.ext (by show 4096 + e.val = 4096 + (256 * (e.val / 256) + e.val % 256); omega))
    pointwise [val_main_v0]
    exact congrArg x0 hx
  have eg : x3 (ix1 e) = (headR x0 x1 x2 x3 x4 x5 x6 ⟨t.val / 32, by omega⟩ ⟨e.val / 256, by omega⟩).gain ⟨e.val % 256, by omega⟩ :=
    congrArg x3 (congrArg ix1 (Fin.ext (by simp; omega)))
  refine Eq.trans ?_ (Head.y_eq (headR x0 x1 x2 x3 x4 x5 x6 ⟨t.val / 32, by omega⟩ ⟨e.val / 256, by omega⟩) ⟨t.val % 32, by omega⟩ ⟨e.val % 256, by omega⟩)
  exact congrArg₂ (· * ·) (congrArg (_ * ·) eg) (congrArg (fun z : EReal => Ideal.div 1 (1 + Ideal.exp (-z))) eo)

end Cert.ReferenceIdeal.Mlstm

end
-- ==== Proof.Mlstm.Claim.lean ====
module

public import proofs.«01_k».proof.Defs
public import proofs.«01_k».proof.Proof.Mlstm.Run
public import proofs.«01_k».proof.Proof.Mlstm.RefHead
public import proofs.«01_k».proof.Proof.Gen.ReferenceIdeal.Run
public import Idealize.ShloMosaic.Lib.Claim

@[expose] public section

/-!
# The block's values, kernel and reference

Both programs end with the four arrays `Head` writes: the output rows, the new state, the new normaliser and
the new running maximum of every head of every stream.
-/

noncomputable section

namespace Cert.Proof

open Idealize Idealize.ShloMosaic Idealize.SL.Sem
open Cert.Mlstm Cert.KernelIdeal.Mlstm Cert.ReferenceIdeal.Read Cert.ReferenceIdeal.Mlstm

theorem algebraic : Cert.algebraic_KernelIdeal_ReferenceIdeal := by
  intro m g m' g' _ hagree
  refine ⟨resY m, resC m, resN3 m, resM m, Cert.KernelIdeal.Mlstm.run m g, ?_⟩
  refine (θ_run Cert.ReferenceIdeal.defs _ _).mono (fun r h c => ?_) (Cert.ReferenceIdeal.Value.run (F := Ideal) m' g')
  obtain ⟨h0, h1, h2, h3, h4, h5, h6⟩ := hagree c
  obtain ⟨r0, r1, r2, r3, ra⟩ := h c
  refine ⟨r0.trans ?_, r1.trans ?_, r2.trans ?_, r3.trans ?_, ra⟩
  · refine (val_main_v127_eq (StableHlo.launchContents m' c)).trans ?_
    simp only [StableHlo.launchContents_devRef, h0, h1, h2, h3, h4, h5, h6]
    funext i
    obtain ⟨t, e, rfl⟩ : ∃ (t : Fin 1024) (e : Fin 2048), i = ix2 t e := ⟨i 0, i 1, by funext a; fin_cases a <;> rfl⟩
    exact y_ref _ _ _ _ _ _ _ t e
  · refine (val_main_v98_eq (StableHlo.launchContents m' c)).trans ?_
    simp only [StableHlo.launchContents_devRef, h0, h1, h2, h4, h6]
    funext i
    obtain ⟨b, h, x, e, rfl⟩ : ∃ (b : Fin 32) (h : Fin 8) (x : Fin 128) (e : Fin 256), i = ix4 b h x e :=
      ⟨i 0, i 1, i 2, i 3, by funext a; fin_cases a <;> rfl⟩
    exact C_ref _ _ _ (m ((c.tc : Thread Cert.KernelIdeal.nD Cert.KernelIdeal.τ).loc Cert.KernelIdeal.main_arg3)) _ (m ((c.tc : Thread Cert.KernelIdeal.nD Cert.KernelIdeal.τ).loc Cert.KernelIdeal.main_arg5)) _ b h x e
  · refine (val_main_v103_eq (StableHlo.launchContents m' c)).trans ?_
    simp only [StableHlo.launchContents_devRef, h0, h1, h2, h5, h6]
    funext i
    obtain ⟨b, h, x, rfl⟩ : ∃ (b : Fin 32) (h : Fin 8) (x : Fin 128), i = ix3 b h x :=
      ⟨i 0, i 1, i 2, by funext a; fin_cases a <;> rfl⟩
    exact n_ref _ _ _ (m ((c.tc : Thread Cert.KernelIdeal.nD Cert.KernelIdeal.τ).loc Cert.KernelIdeal.main_arg3)) (m ((c.tc : Thread Cert.KernelIdeal.nD Cert.KernelIdeal.τ).loc Cert.KernelIdeal.main_arg4)) _ _ b h x
  · refine (val_main_v76_eq (StableHlo.launchContents m' c)).trans ?_
    simp only [StableHlo.launchContents_devRef, h1, h2, h6]
    funext i
    obtain ⟨b, h, rfl⟩ : ∃ (b : Fin 32) (h : Fin 8), i = ix2 b h := ⟨i 0, i 1, by funext a; fin_cases a <;> rfl⟩
    exact m_ref (m ((c.tc : Thread Cert.KernelIdeal.nD Cert.KernelIdeal.τ).loc Cert.KernelIdeal.main_arg0)) _ _ (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) _ b h

end Cert.Proof

end
-- ==== Proof.Experts.BodyI.lean ====
module

public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Claim

/-! # The body of `experts`: what one tile leaves -/

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A table as the body is handed it: its whole buffer. -/
abbrev tb0 : Memref sig .tc .smem S160 .i32 := Memref.whole main_arg2
abbrev tb1 : Memref sig .tc .smem S160 .i32 := Memref.whole main_arg3
abbrev tb2 : Memref sig .tc .smem S160 .i32 := Memref.whole main_arg4
abbrev htb0 : tb0.IsWhole := Memref.isWhole_whole _
abbrev htb1 : tb1.IsWhole := Memref.isWhole_whole _
abbrev htb2 : tb2.IsWhole := Memref.isWhole_whole _

/-- A table's buffer on core `c`, and it held at half the full share. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The word of the third table at the tile's number. -/
def tword (c : Dev nD) (i : grid0.Coords) (t : TbBuf (F := F) c tb2) : Elt F .i32 :=
  t (show S160.Idx from fun a => ⟨k0_off1 i a, by
    have h := k0_off1_inb i a
    have h1 : S1.size a = 1 := by match a with | ⟨0, _⟩ => rfl
    omega⟩)

theorem word_of_load (c : Dev nD) (i : grid0.Coords) (t : TbBuf (F := F) c tb2) (off : Fin 1 → ℕ)
    (ib : ∀ a, off a + (![1] : Fin 1 → ℕ) a ≤ S160.size a) (hp) (ho : off = k0_off1 i) :
    View.readAt (Elt F) tb2.view (Rect.unit (s := S160) off ![1] ib).toLoadRect t (Shape.Idx.first hp) = tword c i t := by
  subst ho
  rw [View.readAt_apply]
  refine congrArg t (funext fun a => Fin.ext ?_)
  match a with
  | ⟨0, _⟩ => rfl

/-- The column of lane `o` of a `256 × 128` block. -/
def lane (o : ℕ) (ib : ∀ a, (![0, o] : Fin 2 → ℕ) a + S256x1.size a ≤ S256x128.size a) (x : Vec F S256x128 .f32) : Vec F S256x1 .f32 :=
  fun y => x (fun a => ⟨(![0, o] : Fin 2 → ℕ) a + (y a).val, Nat.lt_of_lt_of_le (Nat.add_lt_add_left (y a).isLt _) (ib a)⟩)

theorem lane_of_load {M : Memref sig .tc .vmem S256x128 .f32} (hM : M.IsWhole) (o : ℕ)
    (ib : ∀ a, (![0, o] : Fin 2 → ℕ) a + S256x1.size a ≤ S256x128.size a) (x : Vec F S256x128 .f32) :
    View.readAt (Elt F) M.view (Rect.unit (s := S256x128) ![0, o] S256x1.size ib).toLoadRect (hM.unread x) = lane o ib x := by
  funext y
  rw [View.readAt_apply, hM.read_unread]
  refine congrArg x (funext fun a => Fin.ext ?_)
  show (![0, o] : Fin 2 → ℕ) a + 1 * (y a).val = (![0, o] : Fin 2 → ℕ) a + (y a).val
  omega

theorem full2 {M : Memref sig .tc .vmem S256x2048 .f32} (hM : M.IsWhole) (ib) (x : Vec F S256x2048 .f32) :
    View.readAt (Elt F) M.view (Rect.unit (s := S256x2048) ![0, 0] S256x2048.size ib).toLoadRect (hM.unread x) = x :=
  (View.readAt_full _ _ _).trans (hM.read_unread _)
theorem full3 {M : Memref sig .tc .vmem S1x2048x512 .bf16} (hM : M.IsWhole) (ib) (x : Vec F S1x2048x512 .bf16) :
    View.readAt (Elt F) M.view (Rect.unit (s := S1x2048x512) ![0, 0, 0] S1x2048x512.size ib).toLoadRect (hM.unread x) = x :=
  (View.readAt_full _ _ _).trans (hM.read_unread _)
theorem full3' {M : Memref sig .tc .vmem S1x512x2048 .bf16} (hM : M.IsWhole) (ib) (x : Vec F S1x512x2048 .bf16) :
    View.readAt (Elt F) M.view (Rect.unit (s := S1x512x2048) ![0, 0, 0] S1x512x2048.size ib).toLoadRect (hM.unread x) = x :=
  (View.readAt_full _ _ _).trans (hM.read_unread _)

/-- What the body leaves of a tile whose word is `v`: zeros if the word is zero, the two experts' sum otherwise. -/
def bout (v : Elt F .i32) (x0 : Vec F S256x2048 .f32) (x1 : Vec F S256x128 .f32) (x2 : Vec F S1x2048x512 .bf16) (x3 : Vec F S1x2048x512 .bf16) (x4 : Vec F S1x512x2048 .bf16) (x5 : Vec F S1x2048x512 .bf16) (x6 : Vec F S1x2048x512 .bf16) (x7 : Vec F S1x512x2048 .bf16) : Vec F S256x2048 .f32 :=
  if k0_cond1 v = 1#1 then k0_pay1 (F := F) else
    k0_pay2 (lane 64 inb_S256x128_S256x1_0_64 x1) (k0_pay4 x0 (lane 0 inb_S256x128_S256x1_0_0 x1) x2 x3 x4)
      (k0_pay5 x0 x5 x6) (k0_pay6 x7)

theorem k0_cond1_iff (v : BitVec 32) : k0_cond1 v = 1#1 ↔ v = 0#32 := by
  unfold k0_cond1
  by_cases h : v = 0#32
  · subst h; decide
  · have h' : (v == 0#32) = false := by simpa using h
    simp [Scalar.cmpi, Scalar.extui, IntOp.cmpi, bne, h', h]
theorem k0_cond2_iff (v : BitVec 32) : k0_cond2 v = 1#1 ↔ ¬ v = 0#32 := by
  unfold k0_cond2
  by_cases h : v = 0#32
  · subst h; decide
  · have h' : (v == 0#32) = false := by simpa using h
    simp [Scalar.cmpi, Scalar.extui, IntOp.cmpi, bne, h', h]
theorem cond2_of_cond1 (v : Elt F .i32) (h : k0_cond1 v = 1#1) : ¬ k0_cond2 v = 1#1 := by
  rw [k0_cond1_iff] at h; rw [k0_cond2_iff]; exact not_not.mpr h
theorem cond2_of_not_cond1 (v : Elt F .i32) (h : ¬ k0_cond1 v = 1#1) : k0_cond2 v = 1#1 := by
  rw [k0_cond1_iff] at h; rw [k0_cond2_iff]; exact h

set_option maxHeartbeats 1000000 in
/-- The body on whole staging buffers: the inputs come back as they were, the output holds `bout`. -/
theorem kernelRun (c : Dev nD) (i : grid0.Coords) (a0 : Memref sig .tc .vmem S256x2048 .f32) (h0 : a0.IsWhole) (a1 : Memref sig .tc .vmem S256x128 .f32) (h1 : a1.IsWhole) (a2 : Memref sig .tc .vmem S1x2048x512 .bf16) (h2 : a2.IsWhole) (a3 : Memref sig .tc .vmem S1x2048x512 .bf16) (h3 : a3.IsWhole) (a4 : Memref sig .tc .vmem S1x512x2048 .bf16) (h4 : a4.IsWhole) (a5 : Memref sig .tc .vmem S1x2048x512 .bf16) (h5 : a5.IsWhole) (a6 : Memref sig .tc .vmem S1x2048x512 .bf16) (h6 : a6.IsWhole) (a7 : Memref sig .tc .vmem S1x512x2048 .bf16) (h7 : a7.IsWhole) (a8 : Memref sig .tc .vmem S256x2048 .f32) (h8 : a8.IsWhole)
    (x0 : Vec F S256x2048 .f32) (x1 : Vec F S256x128 .f32) (x2 : Vec F S1x2048x512 .bf16) (x3 : Vec F S1x2048x512 .bf16) (x4 : Vec F S1x512x2048 .bf16) (x5 : Vec F S1x2048x512 .bf16) (x6 : Vec F S1x2048x512 .bf16) (x7 : Vec F S1x512x2048 .bf16) (t0 : TbBuf (F := F) c tb0) (t1 : TbBuf (F := F) c tb1) (t2 : TbBuf (F := F) c tb2) :
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ tbPt c tb0 t0 ∗ tbPt c tb1 t1 ∗ tbPt c tb2 t2
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (bout (F := F) (tword c i t2) x0 x1 x2 x3 x4 x5 x6 x7) ∗ tbPt c tb0 t0 ∗ tbPt c tb1 t1 ∗ tbPt c tb2 t2) -∗ K ⟨⟩))
          ⊢ wp frame (wpE (defs₀ (F := F)) Variants.none c none) E (cc0_experts i tb0 htb0 tb1 htb1 tb2 htb2 a0 h0 a1 h1 a2 h2 a3 h3 a4 h4 a5 h5 a6 h6 a7 h7 a8 h8) K := by
    intro E K
    simp only [cc0_experts_eq_skeleton]; unfold cc0_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, HT0, HT1, HT2, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7
    sl_exec
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr
      swap; · iexact H8
      ipureintro
      rw [show kernelRun.sl.r_1 c i t2 = tword c i t2 from by unfold kernelRun.sl.r_1; exact word_of_load c i t2 _ _ _ rfl,
        show kernelRun.sl.r c i t2 = tword c i t2 from by unfold kernelRun.sl.r; exact word_of_load c i t2 _ _ _ rfl]
      unfold bout kernelRun.sl.r_2 kernelRun.sl.r_3 kernelRun.sl.r_4 kernelRun.sl.r_5
      by_cases hc : k0_cond1 (tword c i t2) = 1#1
      · rw [dif_neg (cond2_of_cond1 _ hc), dif_pos hc, if_pos hc]
        exact View.read_writes_full _ _ _ _ _
      · rw [dif_pos (cond2_of_not_cond1 _ hc), if_neg hc]
        refine (View.read_writes_full _ _ _ _ _).trans ?_
        rw [full2 h0, full3 h2, full3 h3, full3' h4, full3 h5, full3 h6, full3' h7, lane_of_load h1 0 inb_S256x128_S256x1_0_0,
          lane_of_load h1 64 inb_S256x128_S256x1_0_64]
    isplitl [HT0]; · iexact HT0
    isplitl [HT1]; · iexact HT1
    iexact HT2

end Cert.ExpertsIdeal.Hand

end
-- ==== Proof.Experts.FrameI.lean ====
module

public import proofs.«01_k».proof.Proof.Experts.BodyI
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Claim

/-! # The frame of `experts` -/

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables and the pipeline at them -/

/-- Core `c`'s buffers when the region is entered: as launched. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The three tables as launched. -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl
/-- Every block a table names lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem PhiT_eq (c : Dev nD) : (Pipeline.ΦT pre0 (tbl m) c : sProp 𝕄)
    = iprop(tbPt c tb0 (tbl m 0) ∗ tbPt c tb1 (tbl m 1) ∗ tbPt c tb2 (tbl m 2)) := by
  unfold Pipeline.ΦT Pipeline.prefHeld
  exact (bigSep_univ_eq_bigSepL [(0 : Fin 3), (1 : Fin 3), (2 : Fin 3)] (by decide) (by decide) _)

/-- Window `w`'s block at point `t`, as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
abbrev ms0 (hO : Ok m) (t : Fin (cfgM m hO).N) : Memref sig .tc .vmem S256x2048 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S256x128 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x2048x512 .bf16 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x2048x512 .bf16 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x512x2048 .bf16 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1x2048x512 .bf16 := spec0_5.stage ((cfgM m hO).slots t 5)
abbrev hs5 (hO : Ok m) (t : Fin (cfgM m hO).N) : (ms5 m hO t).IsWhole := hstage0_5 (((cfgM m hO).slots t 5).cast nbuf0_5)
abbrev ms6 (hO : Ok m) (t : Fin (cfgM m hO).N) : Memref sig .tc .vmem S1x2048x512 .bf16 := spec0_6.stage ((cfgM m hO).slots t 6)
abbrev hs6 (hO : Ok m) (t : Fin (cfgM m hO).N) : (ms6 m hO t).IsWhole := hstage0_6 (((cfgM m hO).slots t 6).cast nbuf0_6)
abbrev ms7 (hO : Ok m) (t : Fin (cfgM m hO).N) : Memref sig .tc .vmem S1x512x2048 .bf16 := spec0_7.stage ((cfgM m hO).slots t 7)
abbrev hs7 (hO : Ok m) (t : Fin (cfgM m hO).N) : (ms7 m hO t).IsWhole := hstage0_7 (((cfgM m hO).slots t 7).cast nbuf0_7)
abbrev ms8 (hO : Ok m) (t : Fin (cfgM m hO).N) : Memref sig .tc .vmem S256x2048 .f32 := spec0_8.stage ((cfgM m hO).slots t 8)
abbrev hs8 (hO : Ok m) (t : Fin (cfgM m hO).N) : (ms8 m hO t).IsWhole := hstage0_8 (((cfgM m hO).slots t 8).cast nbuf0_8)

/-- The body at point `t`, on what the pipeline calls it with. -/
abbrev bodyAt (hO : Ok m) (t : Fin (cfgM m hO).N) : Prog (TpuEff nD τ sig (Elt F) Λ₀ .tc) PUnit :=
  cc0_experts (grid0.coords t) tb0 htb0 tb1 htb1 tb2 htb2 (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t)

/-- Tables naming experts below 16 name blocks inside the stacks, and such a block is whole words. -/
theorem ok_of_lt (pf : pre0.Contents (Elt F)) (h0 : ∀ x, BitVec.toNat (w := 32) (pf 0 x) < 16) (h1 : ∀ x, BitVec.toNat (w := 32) (pf 1 x) < 16) : ok0 (F := F) pf := by
  have hu : ∀ (n : Nat), n < 16 → ∃ h : (∀ a, ((![n, 0, 0] : Fin 3 → Nat) a + 1) * S1x2048x512.size a ≤ S16x2048x512.size a), EltTy.bits .bf16 = 32 ∨ (Rect.block (s := S16x2048x512) S1x2048x512.size ![n, 0, 0] h).WholeWords (EltTy.packing .bf16) := by
    intro n hn
    have hb : ∀ a, ((![n, 0, 0] : Fin 3 → Nat) a + 1) * S1x2048x512.size a ≤ S16x2048x512.size a := by
      intro a; fin_cases a
      · show (n + 1) * 1 ≤ 16; omega
      · exact Nat.le_of_eq rfl
      · exact Nat.le_of_eq rfl
    exact ⟨hb, Or.inr (Or.inr ⟨by decide, rfl, rfl, rfl⟩)⟩
  have hd : ∀ (n : Nat), n < 16 → ∃ h : (∀ a, ((![n, 0, 0] : Fin 3 → Nat) a + 1) * S1x512x2048.size a ≤ S16x512x2048.size a), EltTy.bits .bf16 = 32 ∨ (Rect.block (s := S16x512x2048) S1x512x2048.size ![n, 0, 0] h).WholeWords (EltTy.packing .bf16) := by
    intro n hn
    have hb : ∀ a, ((![n, 0, 0] : Fin 3 → Nat) a + 1) * S1x512x2048.size a ≤ S16x512x2048.size a := by
      intro a; fin_cases a
      · show (n + 1) * 1 ≤ 16; omega
      · exact Nat.le_of_eq rfl
      · exact Nat.le_of_eq rfl
    exact ⟨hb, Or.inr (Or.inr ⟨by decide, rfl, rfl, rfl⟩)⟩
  unfold ok0
  exact ⟨fun i => hu _ (h0 _), fun i => hu _ (h0 _), fun i => hd _ (h0 _), fun i => hu _ (h1 _), fun i => hu _ (h1 _), fun i => hd _ (h1 _)⟩

/-! ## The proof data -/

/-- What the body leaves in the output's buffer at point `t`. -/
def outAt (hO : Ok m) (c : Dev nD) (t : Fin (cfgM m hO).N) : Vec F S256x2048 .f32 :=
  bout (tword c (grid0.coords t) (tbl m 2)) (iblk m hO c 0 t) (iblk m hO c 1 t) (iblk m hO c 2 t) (iblk m hO c 3 t) (iblk m hO c 4 t) (iblk m hO c 5 t) (iblk m hO c 6 t) (iblk m hO c 7 t)

/-- The arrays as the region finds them; after a point each input's buffer at its block, the output's at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => outAt m hO c t
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]
theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = iblk m hO c 4 t := by dsimp only [dats]; try rfl
theorem after5 (hO : Ok m) (c : Dev nD) (t : Fin (cfgM m hO).N) : (dats m hO 0 c).after 5 t = iblk m hO c 5 t := by dsimp only [dats]; try rfl
theorem after6 (hO : Ok m) (c : Dev nD) (t : Fin (cfgM m hO).N) : (dats m hO 0 c).after 6 t = iblk m hO c 6 t := by dsimp only [dats]; try rfl
theorem after7 (hO : Ok m) (c : Dev nD) (t : Fin (cfgM m hO).N) : (dats m hO 0 c).after 7 t = iblk m hO c 7 t := by dsimp only [dats]; try rfl
theorem after8 (hO : Ok m) (c : Dev nD) (t : Fin (cfgM m hO).N) : (dats m hO 0 c).after 8 t = outAt m hO c t := by dsimp only [dats]; try rfl
theorem before0 (hO : Ok m) (c : Dev nD) (t : Fin (cfgM m hO).N) (d) : (dats m hO 0 c).before 0 t d = iblk m hO c 0 t :=
  before0_of m hO (dats m hO 0 c) (A_eq m hO c 0) (after0 m hO c) t d
theorem before1 (hO : Ok m) (c : Dev nD) (t : Fin (cfgM m hO).N) (d) : (dats m hO 0 c).before 1 t d = iblk m hO c 1 t :=
  before1_of m hO (dats m hO 0 c) (A_eq m hO c 1) (after1 m hO c) t d
theorem before2 (hO : Ok m) (c : Dev nD) (t : Fin (cfgM m hO).N) (d) : (dats m hO 0 c).before 2 t d = iblk m hO c 2 t :=
  before2_of m hO (dats m hO 0 c) (A_eq m hO c 2) (after2 m hO c) t d
theorem before3 (hO : Ok m) (c : Dev nD) (t : Fin (cfgM m hO).N) (d) : (dats m hO 0 c).before 3 t d = iblk m hO c 3 t :=
  before3_of m hO (dats m hO 0 c) (A_eq m hO c 3) (after3 m hO c) t d
theorem before4 (hO : Ok m) (c : Dev nD) (t : Fin (cfgM m hO).N) (d) : (dats m hO 0 c).before 4 t d = iblk m hO c 4 t :=
  before4_of m hO (dats m hO 0 c) (A_eq m hO c 4) (after4 m hO c) t d
theorem before5 (hO : Ok m) (c : Dev nD) (t : Fin (cfgM m hO).N) (d) : (dats m hO 0 c).before 5 t d = iblk m hO c 5 t :=
  before5_of m hO (dats m hO 0 c) (A_eq m hO c 5) (after5 m hO c) t d
theorem before6 (hO : Ok m) (c : Dev nD) (t : Fin (cfgM m hO).N) (d) : (dats m hO 0 c).before 6 t d = iblk m hO c 6 t :=
  before6_of m hO (dats m hO 0 c) (A_eq m hO c 6) (after6 m hO c) t d
theorem before7 (hO : Ok m) (c : Dev nD) (t : Fin (cfgM m hO).N) (d) : (dats m hO 0 c).before 7 t d = iblk m hO c 7 t :=
  before7_of m hO (dats m hO 0 c) (A_eq m hO c 7) (after7 m hO c) t d

/-- The output is stored at every point: the two conditions are opposite. -/
theorem live8 (hO : Ok m) (t : Fin (cfgM m hO).N) : (cfgM m hO).idle 8 ((cfgM m hO).grid.coords t) = false := by
  show (!(k0_cond1 ((tbl m).atD 2 (k0_off1 (grid0.coords t))) == 1#1) && !(k0_cond2 ((tbl m).atD 2 (k0_off2 (grid0.coords t))) == 1#1)) = false
  by_cases h : k0_cond1 ((tbl m).atD 2 (k0_off1 (grid0.coords t))) = 1#1
  · rw [h]; rfl
  · rw [show k0_off2 (grid0.coords t) = k0_off1 (grid0.coords t) from rfl, cond2_of_not_cond1 _ h]; exact Bool.and_false _

/-- What the body is called with at point `t`, and what it returns. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d)) ∗ (∃ d, owns (c : Thread nD τ) (ms1 m hO t) fullShare ((dats m hO 0 c).before 1 t d)) ∗ (∃ d, owns (c : Thread nD τ) (ms2 m hO t) fullShare ((dats m hO 0 c).before 2 t d)) ∗ (∃ d, owns (c : Thread nD τ) (ms3 m hO t) fullShare ((dats m hO 0 c).before 3 t d)) ∗ (∃ d, owns (c : Thread nD τ) (ms4 m hO t) fullShare ((dats m hO 0 c).before 4 t d)) ∗ (∃ d, owns (c : Thread nD τ) (ms5 m hO t) fullShare ((dats m hO 0 c).before 5 t d)) ∗ (∃ d, owns (c : Thread nD τ) (ms6 m hO t) fullShare ((dats m hO 0 c).before 6 t d)) ∗ (∃ d, owns (c : Thread nD τ) (ms7 m hO t) fullShare ((dats m hO 0 c).before 7 t d)) ∗ (∃ d, owns (c : Thread nD τ) (ms8 m hO t) fullShare ((dats m hO 0 c).before 8 t d)))
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t ∗ (dats m hO 0 c).leavesExact 1 t ∗ (dats m hO 0 c).leavesExact 2 t ∗ (dats m hO 0 c).leavesExact 3 t ∗ (dats m hO 0 c).leavesExact 4 t ∗ (dats m hO 0 c).leavesExact 5 t ∗ (dats m hO 0 c).leavesExact 6 t ∗ (dats m hO 0 c).leavesExact 7 t ∗ (dats m hO 0 c).leavesExact 8 t)

theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3, before4, before5, before6, before7]
  rw [show (dats m hO 0 c).Φ t.succ = (dats m hO 0 c).Φ t.castSucc from rfl,
    show (dats m hO 0 c).owesAt () t.succ = (dats m hO 0 c).owesAt () t.castSucc from rfl]
  rw [show (dats m hO 0 c).leavesExact 0 t = owns (c : Thread nD τ) (ms0 m hO t) fullShare ((dats m hO 0 c).after 0 t) from by
      unfold Dat.leavesExact; rfl, after0]
  rw [show (dats m hO 0 c).leavesExact 1 t = owns (c : Thread nD τ) (ms1 m hO t) fullShare ((dats m hO 0 c).after 1 t) from by
      unfold Dat.leavesExact; rfl, after1]
  rw [show (dats m hO 0 c).leavesExact 2 t = owns (c : Thread nD τ) (ms2 m hO t) fullShare ((dats m hO 0 c).after 2 t) from by
      unfold Dat.leavesExact; rfl, after2]
  rw [show (dats m hO 0 c).leavesExact 3 t = owns (c : Thread nD τ) (ms3 m hO t) fullShare ((dats m hO 0 c).after 3 t) from by
      unfold Dat.leavesExact; rfl, after3]
  rw [show (dats m hO 0 c).leavesExact 4 t = owns (c : Thread nD τ) (ms4 m hO t) fullShare ((dats m hO 0 c).after 4 t) from by
      unfold Dat.leavesExact; rfl, after4]
  rw [show (dats m hO 0 c).leavesExact 5 t = owns (c : Thread nD τ) (ms5 m hO t) fullShare ((dats m hO 0 c).after 5 t) from by
      unfold Dat.leavesExact; rfl, after5]
  rw [show (dats m hO 0 c).leavesExact 6 t = owns (c : Thread nD τ) (ms6 m hO t) fullShare ((dats m hO 0 c).after 6 t) from by
      unfold Dat.leavesExact; rfl, after6]
  rw [show (dats m hO 0 c).leavesExact 7 t = owns (c : Thread nD τ) (ms7 m hO t) fullShare ((dats m hO 0 c).after 7 t) from by
      unfold Dat.leavesExact; rfl, after7]
  rw [show (dats m hO 0 c).leavesExact 8 t = owns (c : Thread nD τ) (ms8 m hO t) fullShare ((dats m hO 0 c).after 8 t) from by
      unfold Dat.leavesExact; rw [live8 m hO t]; rfl, after8]
  rw [show (dats m hO 0 c).Φ t.castSucc = iprop(Pipeline.ΦA spec0 c ∗ Pipeline.ΦT pre0 (tbl m) c) from rfl, PhiT_eq]
  iintro ⟨⟨HΦ, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun c (grid0.coords t) _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) (tbl m 1) (tbl m 2)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HT0]; · iexact HT0
  isplitl [HT1]; · iexact HT1
  isplitl [HT2]; · iexact HT2
  iintro ⟨H0, H1, H2, H3, H4, H5, H6, H7, H8, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

set_option backward.isDefEq.respectTransparency.types false in
set_option maxHeartbeats 800000 in
/-- Every weakly fair execution ends with the arrays at what the proof data say and every counter at zero. -/
theorem run_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m) (hΦ := fun _ _ => rfl)

/-- The run: the output array at its write-backs, the arguments unchanged, every counter at zero. -/
theorem run (hO : Ok m) : θ_run defs (onTc (τ := τ) (main (F := F))) ⟨m, fun _ => 0, ρ⟩ (fun r => (∀ c : Dev nD,
      r.2.mem ((c.tc : Thread nD τ).loc (Pipeline.arrRef spec0 8)) = (dats m hO 0 c).arrAt 8 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (run_quiescent m ρ hO).mono fun r h => ⟨fun c => ⟨(h.1 c).1 8,
    ((h.1 c).1 0).trans (((dats m hO 0 c).arrAt_in 0 rfl _).trans (A_eq m hO c 0)),
    ((h.1 c).1 1).trans (((dats m hO 0 c).arrAt_in 1 rfl _).trans (A_eq m hO c 1)),
    (h.1 c).2 main_arg2 (show main_arg2 ∈ Pipeline.restRefs sig spec0 by decide),
    (h.1 c).2 main_arg3 (show main_arg3 ∈ Pipeline.restRefs sig spec0 by decide),
    (h.1 c).2 main_arg4 (show main_arg4 ∈ Pipeline.restRefs sig spec0 by decide),
    ((h.1 c).1 2).trans (((dats m hO 0 c).arrAt_in 2 rfl _).trans (A_eq m hO c 2)),
    ((h.1 c).1 3).trans (((dats m hO 0 c).arrAt_in 3 rfl _).trans (A_eq m hO c 3)),
    ((h.1 c).1 4).trans (((dats m hO 0 c).arrAt_in 4 rfl _).trans (A_eq m hO c 4))⟩, h.2⟩
end Cert.ExpertsIdeal.Hand

end
-- ==== Proof.Experts.Math.lean ====
/- Two gated experts of one row, as extended-real sums. -/
module

public import Idealize.ShloMosaic.PureOps.Ideal.Laws
public import Idealize.ShloMosaic.Lib.ValueIdx

@[expose] public section

noncomputable section

namespace Cert.ExpertsMath

open Idealize.ShloMosaic

/-- A row times a matrix. -/
def proj (x : Fin 2048 → EReal) (w : Fin 2048 → Fin 512 → EReal) (f : Fin 512) : EReal := ∑ k, x k * w k f
/-- The hidden row of one expert. -/
def hid (x : Fin 2048 → EReal) (g u : Fin 2048 → Fin 512 → EReal) (f : Fin 512) : EReal :=
  (proj x g f * Ideal.logistic (proj x g f)) * proj x u f
/-- One expert's output for one row. -/
def ffn (x : Fin 2048 → EReal) (g u : Fin 2048 → Fin 512 → EReal) (d : Fin 512 → Fin 2048 → EReal) (j : Fin 2048) : EReal :=
  ∑ f, hid x g u f * d f j

/-- Gates that are one weight at `a`, another at `b` and nothing elsewhere pick out two experts. -/
theorem gates_sum (a b : Fin 16) (hab : a ≠ b) (wa wb : EReal) (y : Fin 16 → EReal) :
    ∑ e : Fin 16, ((if e = a then wa else 0) + (if e = b then wb else 0)) * y e = wa * y a + wb * y b := by
  rw [Fintype.sum_eq_add a b hab fun e he => by rw [if_neg he.1, if_neg he.2, add_zero, zero_mul],
    if_pos rfl, if_neg hab, add_zero, if_neg hab.symm, if_pos rfl, zero_add]

/-- The tile of a row. -/
abbrev tile (r : Fin 40960) : Fin 160 := ⟨r.val / 256, by omega⟩
/-- The expert a word names. -/
abbrev ex (w : BitVec 32) : Fin 16 := ⟨w.toNat % 16, Nat.mod_lt _ (by decide)⟩

/-- One row of the result: two experts of its tile, by its two weights; nothing where the tile is not valid. -/
def out (x : Fin 40960 → Fin 2048 → EReal) (w : Fin 40960 → Fin 128 → EReal) (ea eb v : Fin 160 → BitVec 32)
    (g u : Fin 16 → Fin 2048 → Fin 512 → EReal) (d : Fin 16 → Fin 512 → Fin 2048 → EReal) (r : Fin 40960) (j : Fin 2048) : EReal :=
  if v (tile r) = 0#32 then 0 else
    w r 0 * ffn (x r) (g (ex (ea (tile r)))) (u (ex (ea (tile r)))) (d (ex (ea (tile r)))) j
    + w r 64 * ffn (x r) (g (ex (eb (tile r)))) (u (ex (eb (tile r)))) (d (ex (eb (tile r)))) j

end Cert.ExpertsMath

end
-- ==== Proof.Experts.Out.lean ====
/- What one grid point of `experts` leaves in its output block, element by element. -/
module

public import proofs.«01_k».proof.Proof.Experts.FrameI
public import proofs.«01_k».proof.Proof.Experts.Math
public import Idealize.ShloMosaic.Lib.Pointwise

@[expose] public section

set_option maxRecDepth 16384
set_option synthInstance.maxSize 4096

noncomputable section

namespace Cert.ExpertsIdeal.Hand

open Idealize.ShloMosaic Idealize.ShloMosaic.TcCoe Idealize.ShloMosaic.Tactic
open Idealize.ShloMosaic.Pointwise Idealize.SL.Sem
open Cert.ExpertsIdeal Cert.ExpertsIdeal.Gen Cert.ExpertsMath

theorem pay6_apply (x7 : Vec Ideal S1x512x2048 .bf16) (f : Fin 512) (j : Fin 2048) :
    k0_pay6 (F := Ideal) x7 (ix2 f j) = x7 (ix3 0 f j) := by
  pointwise [k0_pay6]

theorem pay5_apply (x0 : Vec Ideal S256x2048 .f32) (x5 x6 : Vec Ideal S1x2048x512 .bf16) (p : Fin 256) (f : Fin 512) :
    k0_pay5 (F := Ideal) x0 x5 x6 (ix2 p f)
      = hid (fun k => x0 (ix2 p k)) (fun k f => x5 (ix3 0 k f)) (fun k f => x6 (ix3 0 k f)) f := by
  pointwise [k0_pay5, k0_pay3]
  unfold hid proj
  rfl

theorem pay4_apply (x0 : Vec Ideal S256x2048 .f32) (w : Vec Ideal S256x1 .f32) (x2 x3 : Vec Ideal S1x2048x512 .bf16) (x4 : Vec Ideal S1x512x2048 .bf16) (p : Fin 256) (j : Fin 2048) :
    k0_pay4 (F := Ideal) x0 w x2 x3 x4 (ix2 p j)
      = w (ix2 p 0) * ffn (fun k => x0 (ix2 p k)) (fun k f => x2 (ix3 0 k f)) (fun k f => x3 (ix3 0 k f)) (fun f j => x4 (ix3 0 f j)) j := by
  pointwise [k0_pay4, k0_pay3]
  unfold ffn hid proj
  rfl

theorem pay2_apply (w : Vec Ideal S256x1 .f32) (a : FVec Ideal S256x2048 .f32) (h : FVec Ideal S256x512 .bf16) (d : FVec Ideal S512x2048 .bf16) (p : Fin 256) (j : Fin 2048) :
    k0_pay2 (F := Ideal) w a h d (ix2 p j) = a (ix2 p j) + w (ix2 p 0) * ∑ f : Fin 512, h (ix2 p f) * d (ix2 f j) := by
  pointwise [k0_pay2]

theorem lane_apply (o : ℕ) (ho : o < 128) (ib) (x : Vec Ideal S256x128 .f32) (p : Fin 256) :
    lane (F := Ideal) o ib x (ix2 p 0) = x (ix2 p ⟨o, ho⟩) := by
  unfold lane
  congr 1
  funext a
  match a with
  | ⟨0, _⟩ => exact Fin.ext (Nat.zero_add _)
  | ⟨1, _⟩ => rfl

theorem pay1_apply (i : S256x2048.Idx) : k0_pay1 (F := Ideal) i = 0 := by
  pointwise [k0_pay1]

theorem bout_apply (v : BitVec 32) (x0 : Vec Ideal S256x2048 .f32) (x1 : Vec Ideal S256x128 .f32) (x2 x3 : Vec Ideal S1x2048x512 .bf16) (x4 : Vec Ideal S1x512x2048 .bf16)
    (x5 x6 : Vec Ideal S1x2048x512 .bf16) (x7 : Vec Ideal S1x512x2048 .bf16) (p : Fin 256) (j : Fin 2048) :
    bout (F := Ideal) v x0 x1 x2 x3 x4 x5 x6 x7 (ix2 p j) = if v = 0#32 then (0 : EReal) else
      x1 (ix2 p 0) * ffn (fun k => x0 (ix2 p k)) (fun k f => x2 (ix3 0 k f)) (fun k f => x3 (ix3 0 k f)) (fun f j => x4 (ix3 0 f j)) j
      + x1 (ix2 p 64) * ffn (fun k => x0 (ix2 p k)) (fun k f => x5 (ix3 0 k f)) (fun k f => x6 (ix3 0 k f)) (fun f j => x7 (ix3 0 f j)) j := by
  unfold bout
  by_cases h : v = 0#32
  · rw [if_pos ((k0_cond1_iff v).mpr h), if_pos h, pay1_apply]
  · rw [if_neg (fun h' => h ((k0_cond1_iff v).mp h')), if_neg h, pay2_apply, pay4_apply, lane_apply 0 (by decide), lane_apply 64 (by decide)]
    simp only [pay5_apply, pay6_apply]
    rfl

end Cert.ExpertsIdeal.Hand

end
-- ==== Proof.Experts.Arrays.lean ====
/- The result array of `experts`, row by row. -/
module

public import proofs.«01_k».proof.Proof.Experts.Out
public import Idealize.ShloMosaic.Lib.Pipeline.ValueKit
public import Idealize.ShloMosaic.Lib.Claim

@[expose] public section

set_option maxRecDepth 16384
set_option synthInstance.maxSize 4096

noncomputable section

namespace Cert.ExpertsIdeal.Hand

open Idealize.ShloMosaic Idealize.ShloMosaic.TcCoe Idealize.ShloMosaic.Tactic
open Idealize.ShloMosaic.Pointwise Idealize.SL.Sem
open Cert.ExpertsIdeal Cert.ExpertsIdeal.Gen Cert.ExpertsMath
open Idealize.ShloMosaic.Pipeline (Dat)

variable (m : (ℓ : Loc nD τ sig) → Buf (Elt Ideal) ℓ) (hO : Ok m) (c : Dev nD)

/-- The tile of a grid point. -/
abbrev tl (t : Fin (cfgM m hO).N) : Fin 160 := ⟨t.val, t.isLt⟩
/-- Row `p` of a tile. -/
abbrev row (t : Fin 160) (p : Fin 256) : Fin 40960 := ⟨256 * t.val + p.val, by omega⟩

theorem off1 : ∀ t : Fin grid0.N, k0_off1 (grid0.coords t) = ![t.val] := by decide +kernel
theorem ix_rows : ∀ t : Fin grid0.N, cc0_transform_0 (grid0.coords t) = ![t.val, 0] ∧ cc0_transform_1 (grid0.coords t) = ![t.val, 0]
    ∧ cc0_transform_8 (grid0.coords t) = ![t.val, 0] := by decide +kernel

theorem word_at (t : Fin (cfgM m hO).N) (x : S160.Idx) (hx : ∀ a, (x a).val = k0_off1 (grid0.coords t) a) : x = ix1 (tl m hO t) := by
  funext a
  match a with
  | ⟨0, _⟩ => exact Fin.ext ((hx 0).trans (congrFun (off1 t) 0))

theorem ix0 (t : Fin (cfgM m hO).N) : (pcfg0.win (adm m hO) 0).index t = ![t.val, 0] := (ix_rows t).1
theorem ix1' (t : Fin (cfgM m hO).N) : (pcfg0.win (adm m hO) 1).index t = ![t.val, 0] := (ix_rows t).2.1
theorem ix8 (t : Fin (cfgM m hO).N) : (pcfg0.win (adm m hO) 8).index t = ![t.val, 0] := (ix_rows t).2.2
theorem ix2' (t : Fin (cfgM m hO).N) : (pcfg0.win (adm m hO) 2).index t = ![BitVec.toNat (w := 32) (tbl m 0 (ix1 (tl m hO t))), 0, 0] := by
  show cc0_transform_2 k0_off1_inb numel1_S1 (tbl m) (grid0.coords t) = _
  unfold cc0_transform_2
  have e := word_at m hO t ((Rect.unit (s := S160) (k0_off1 (grid0.coords t)) S1.size (k0_off1_inb (grid0.coords t))).emb (Shape.Idx.first (numel1_S1.symm ▸ Nat.one_pos))) (fun a => by rw [Rect.emb_apply]; rfl)
  rw [← e]
  rfl
theorem ix3' (t : Fin (cfgM m hO).N) : (pcfg0.win (adm m hO) 3).index t = ![BitVec.toNat (w := 32) (tbl m 0 (ix1 (tl m hO t))), 0, 0] := by
  show cc0_transform_3 k0_off1_inb numel1_S1 (tbl m) (grid0.coords t) = _
  unfold cc0_transform_3
  have e := word_at m hO t ((Rect.unit (s := S160) (k0_off1 (grid0.coords t)) S1.size (k0_off1_inb (grid0.coords t))).emb (Shape.Idx.first (numel1_S1.symm ▸ Nat.one_pos))) (fun a => by rw [Rect.emb_apply]; rfl)
  rw [← e]
  rfl
theorem ix4' (t : Fin (cfgM m hO).N) : (pcfg0.win (adm m hO) 4).index t = ![BitVec.toNat (w := 32) (tbl m 0 (ix1 (tl m hO t))), 0, 0] := by
  show cc0_transform_4 k0_off1_inb numel1_S1 (tbl m) (grid0.coords t) = _
  unfold cc0_transform_4
  have e := word_at m hO t ((Rect.unit (s := S160) (k0_off1 (grid0.coords t)) S1.size (k0_off1_inb (grid0.coords t))).emb (Shape.Idx.first (numel1_S1.symm ▸ Nat.one_pos))) (fun a => by rw [Rect.emb_apply]; rfl)
  rw [← e]
  rfl
theorem ix5' (t : Fin (cfgM m hO).N) : (pcfg0.win (adm m hO) 5).index t = ![BitVec.toNat (w := 32) (tbl m 1 (ix1 (tl m hO t))), 0, 0] := by
  show cc0_transform_5 k0_off1_inb numel1_S1 (tbl m) (grid0.coords t) = _
  unfold cc0_transform_5
  have e := word_at m hO t ((Rect.unit (s := S160) (k0_off1 (grid0.coords t)) S1.size (k0_off1_inb (grid0.coords t))).emb (Shape.Idx.first (numel1_S1.symm ▸ Nat.one_pos))) (fun a => by rw [Rect.emb_apply]; rfl)
  rw [← e]
  rfl
theorem ix6' (t : Fin (cfgM m hO).N) : (pcfg0.win (adm m hO) 6).index t = ![BitVec.toNat (w := 32) (tbl m 1 (ix1 (tl m hO t))), 0, 0] := by
  show cc0_transform_6 k0_off1_inb numel1_S1 (tbl m) (grid0.coords t) = _
  unfold cc0_transform_6
  have e := word_at m hO t ((Rect.unit (s := S160) (k0_off1 (grid0.coords t)) S1.size (k0_off1_inb (grid0.coords t))).emb (Shape.Idx.first (numel1_S1.symm ▸ Nat.one_pos))) (fun a => by rw [Rect.emb_apply]; rfl)
  rw [← e]
  rfl
theorem ix7' (t : Fin (cfgM m hO).N) : (pcfg0.win (adm m hO) 7).index t = ![BitVec.toNat (w := 32) (tbl m 1 (ix1 (tl m hO t))), 0, 0] := by
  show cc0_transform_7 k0_off1_inb numel1_S1 (tbl m) (grid0.coords t) = _
  unfold cc0_transform_7
  have e := word_at m hO t ((Rect.unit (s := S160) (k0_off1 (grid0.coords t)) S1.size (k0_off1_inb (grid0.coords t))).emb (Shape.Idx.first (numel1_S1.symm ▸ Nat.one_pos))) (fun a => by rw [Rect.emb_apply]; rfl)
  rw [← e]
  rfl
theorem blk0 (t : Fin (cfgM m hO).N) (p : Fin 256) (k : Fin 2048) :
    iblk m hO c 0 t (ix2 p k) = m ((c : Thread nD τ).loc main_arg0) (ix2 (row (tl m hO t) p) k) := by
  have e := ix0 m hO t
  blk_ext [iblk, tl, row]
  · refine (congrArg (fun n => n * 256 + p.val) (congrFun e 0)).trans ?_
    show t.val * 256 + p.val = 256 * t.val + p.val
    omega
  · refine (congrArg (fun n => n * 2048 + k.val) (congrFun e 1)).trans ?_
    show 0 * 2048 + k.val = k.val
    omega
theorem blk1 (t : Fin (cfgM m hO).N) (p : Fin 256) (k : Fin 128) :
    iblk m hO c 1 t (ix2 p k) = m ((c : Thread nD τ).loc main_arg1) (ix2 (row (tl m hO t) p) k) := by
  have e := ix1' m hO t
  blk_ext [iblk, tl, row]
  · refine (congrArg (fun n => n * 256 + p.val) (congrFun e 0)).trans ?_
    show t.val * 256 + p.val = 256 * t.val + p.val
    omega
  · refine (congrArg (fun n => n * 128 + k.val) (congrFun e 1)).trans ?_
    show 0 * 128 + k.val = k.val
    omega
theorem blk2 (t : Fin (cfgM m hO).N) (k : Fin 2048) (f : Fin 512) (e : Fin 16) (he : BitVec.toNat (w := 32) (tbl m 0 (ix1 (tl m hO t))) = e.val) :
    iblk m hO c 2 t (ix3 0 k f) = m ((c : Thread nD τ).loc main_arg5) (ix3 e k f) := by
  have e' := ix2' m hO t
  blk_ext [iblk, tl]
  · exact (congrFun e' 0).trans he
  · refine (congrArg (fun n => n * 2048 + k.val) (congrFun e' 1)).trans ?_
    show 0 * 2048 + k.val = k.val
    omega
  · refine (congrArg (fun n => n * 512 + f.val) (congrFun e' 2)).trans ?_
    show 0 * 512 + f.val = f.val
    omega
theorem blk3 (t : Fin (cfgM m hO).N) (k : Fin 2048) (f : Fin 512) (e : Fin 16) (he : BitVec.toNat (w := 32) (tbl m 0 (ix1 (tl m hO t))) = e.val) :
    iblk m hO c 3 t (ix3 0 k f) = m ((c : Thread nD τ).loc main_arg6) (ix3 e k f) := by
  have e' := ix3' m hO t
  blk_ext [iblk, tl]
  · exact (congrFun e' 0).trans he
  · refine (congrArg (fun n => n * 2048 + k.val) (congrFun e' 1)).trans ?_
    show 0 * 2048 + k.val = k.val
    omega
  · refine (congrArg (fun n => n * 512 + f.val) (congrFun e' 2)).trans ?_
    show 0 * 512 + f.val = f.val
    omega
theorem blk4 (t : Fin (cfgM m hO).N) (k : Fin 512) (f : Fin 2048) (e : Fin 16) (he : BitVec.toNat (w := 32) (tbl m 0 (ix1 (tl m hO t))) = e.val) :
    iblk m hO c 4 t (ix3 0 k f) = m ((c : Thread nD τ).loc main_arg7) (ix3 e k f) := by
  have e' := ix4' m hO t
  blk_ext [iblk, tl]
  · exact (congrFun e' 0).trans he
  · refine (congrArg (fun n => n * 512 + k.val) (congrFun e' 1)).trans ?_
    show 0 * 512 + k.val = k.val
    omega
  · refine (congrArg (fun n => n * 2048 + f.val) (congrFun e' 2)).trans ?_
    show 0 * 2048 + f.val = f.val
    omega
theorem blk5 (t : Fin (cfgM m hO).N) (k : Fin 2048) (f : Fin 512) (e : Fin 16) (he : BitVec.toNat (w := 32) (tbl m 1 (ix1 (tl m hO t))) = e.val) :
    iblk m hO c 5 t (ix3 0 k f) = m ((c : Thread nD τ).loc main_arg5) (ix3 e k f) := by
  have e' := ix5' m hO t
  blk_ext [iblk, tl]
  · exact (congrFun e' 0).trans he
  · refine (congrArg (fun n => n * 2048 + k.val) (congrFun e' 1)).trans ?_
    show 0 * 2048 + k.val = k.val
    omega
  · refine (congrArg (fun n => n * 512 + f.val) (congrFun e' 2)).trans ?_
    show 0 * 512 + f.val = f.val
    omega
theorem blk6 (t : Fin (cfgM m hO).N) (k : Fin 2048) (f : Fin 512) (e : Fin 16) (he : BitVec.toNat (w := 32) (tbl m 1 (ix1 (tl m hO t))) = e.val) :
    iblk m hO c 6 t (ix3 0 k f) = m ((c : Thread nD τ).loc main_arg6) (ix3 e k f) := by
  have e' := ix6' m hO t
  blk_ext [iblk, tl]
  · exact (congrFun e' 0).trans he
  · refine (congrArg (fun n => n * 2048 + k.val) (congrFun e' 1)).trans ?_
    show 0 * 2048 + k.val = k.val
    omega
  · refine (congrArg (fun n => n * 512 + f.val) (congrFun e' 2)).trans ?_
    show 0 * 512 + f.val = f.val
    omega
theorem blk7 (t : Fin (cfgM m hO).N) (k : Fin 512) (f : Fin 2048) (e : Fin 16) (he : BitVec.toNat (w := 32) (tbl m 1 (ix1 (tl m hO t))) = e.val) :
    iblk m hO c 7 t (ix3 0 k f) = m ((c : Thread nD τ).loc main_arg7) (ix3 e k f) := by
  have e' := ix7' m hO t
  blk_ext [iblk, tl]
  · exact (congrFun e' 0).trans he
  · refine (congrArg (fun n => n * 512 + k.val) (congrFun e' 1)).trans ?_
    show 0 * 512 + k.val = k.val
    omega
  · refine (congrArg (fun n => n * 2048 + f.val) (congrFun e' 2)).trans ?_
    show 0 * 2048 + f.val = f.val
    omega
theorem flush8 (t : Fin (cfgM m hO).N) : ((cfgM m hO).win 8).flush t = true := by
  unfold Pipeline.Window.flush
  refine Bool.and_eq_true_iff.mpr ⟨rfl, ?_⟩
  rw [Bool.or_eq_true, decide_eq_true_eq, decide_eq_true_eq]
  by_cases h : t.val + 1 < (cfgM m hO).N
  · refine Or.inr ⟨h, fun e => ?_⟩
    have e' := (ix8 m hO ⟨t.val + 1, h⟩).symm.trans (e.trans (ix8 m hO t))
    have := congrFun e' 0
    change t.val + 1 = t.val at this
    omega
  · exact Or.inl (Nat.le_antisymm t.isLt (not_lt.mp h))

theorem nblk8_0 : ((cfgM m hO).win 8).nblk (0 : Fin 2) = 160 := (by decide : (40960 + 256 - 1) / 256 = 160)
theorem nblk8_1 : ((cfgM m hO).win 8).nblk (1 : Fin 2) = 1 := (by decide : (2048 + 2048 - 1) / 2048 = 1)

theorem covers8 : ((cfgM m hO).win 8).Covers := by
  refine ⟨fun a => ?_, fun β => ?_⟩
  · match a with
    | ⟨0, _⟩ => exact (by decide : 0 < 256)
    | ⟨1, _⟩ => exact (by decide : 0 < 2048)
  have b0 : (β (0 : Fin 2)).val < (cfgM m hO).N := Nat.lt_of_lt_of_eq (β (0 : Fin 2)).isLt ((nblk8_0 m hO).trans N_0.symm)
  have b1 : (β (1 : Fin 2)).val = 0 := Nat.lt_one_iff.mp (Nat.lt_of_lt_of_eq (β (1 : Fin 2)).isLt (nblk8_1 m hO))
  refine ⟨⟨(β (0 : Fin 2)).val, b0⟩, flush8 m hO _, fun a => ⟨?_, Or.inl ?_⟩⟩
  · match a with
    | ⟨0, _⟩ => exact congrFun (ix8 m hO ⟨(β (0 : Fin 2)).val, b0⟩) 0
    | ⟨1, _⟩ => exact (congrFun (ix8 m hO ⟨(β (0 : Fin 2)).val, b0⟩) 1).trans b1.symm
  · rfl

/-- The result array of device `c`, from its argument arrays. -/
def resE : S40960x2048.Idx → EReal := fun i =>
  out (fun r k => m ((c : Thread nD τ).loc main_arg0) (ix2 r k)) (fun r k => m ((c : Thread nD τ).loc main_arg1) (ix2 r k))
    (fun t => m ((c : Thread nD τ).loc main_arg2) (ix1 t)) (fun t => m ((c : Thread nD τ).loc main_arg3) (ix1 t))
    (fun t => m ((c : Thread nD τ).loc main_arg4) (ix1 t))
    (fun e k f => m ((c : Thread nD τ).loc main_arg5) (ix3 e k f)) (fun e k f => m ((c : Thread nD τ).loc main_arg6) (ix3 e k f))
    (fun e f j => m ((c : Thread nD τ).loc main_arg7) (ix3 e f j)) (i 0) (i 1)

theorem arr8 (h0 : ∀ x, BitVec.toNat (w := 32) (tbl m 0 x) < 16) (h1 : ∀ x, BitVec.toNat (w := 32) (tbl m 1 x) < 16) :
    (dats (F := Ideal) m hO 0 c).arrAt 8 (cfgM m hO).N = resE m c := by
  refine (dats m hO 0 c).arrAt_eq_of_covers 8 _ (covers8 m hO) fun t hf y => ?_
  obtain ⟨p, j, rfl⟩ : ∃ (p : Fin 256) (j : Fin 2048), y = ix2 p j := ⟨y (0 : Fin 2), y (1 : Fin 2), by funext a; match a with | ⟨0, _⟩ => rfl | ⟨1, _⟩ => rfl⟩
  have eA := (Nat.mod_eq_of_lt (h0 (ix1 (tl m hO t)))).symm
  have eB := (Nat.mod_eq_of_lt (h1 (ix1 (tl m hO t)))).symm
  have hy : ((((cfgM m hO).win 8).blk t).view.emb (ix2 p j)) = ix2 (row (tl m hO t) p) j := by
    have e := ix8 m hO t
    blk_ext [tl, row]
    · refine (congrArg (fun n => n * 256 + p.val) (congrFun e 0)).trans ?_
      show t.val * 256 + p.val = 256 * t.val + p.val
      omega
    · refine (congrArg (fun n => n * 2048 + j.val) (congrFun e 1)).trans ?_
      show 0 * 2048 + j.val = j.val
      omega
  rw [hy]
  blk_simp
  rw [after8]
  unfold outAt
  refine (bout_apply _ _ _ _ _ _ _ _ _ p j).trans ?_
  have hv : tword (F := Ideal) c (grid0.coords t) (tbl m 2) = tbl m 2 (ix1 (tl m hO t)) := congrArg (tbl m 2) (word_at m hO t _ fun a => rfl)
  have ht : tile (row (tl m hO t) p) = tl m hO t := Fin.ext (by show (256 * t.val + p.val) / 256 = t.val; omega)
  rw [hv]
  simp only [blk0, blk1, blk2 m hO c t _ _ (ex (tbl m 0 (ix1 (tl m hO t)))) eA, blk3 m hO c t _ _ (ex (tbl m 0 (ix1 (tl m hO t)))) eA,
    blk4 m hO c t _ _ (ex (tbl m 0 (ix1 (tl m hO t)))) eA, blk5 m hO c t _ _ (ex (tbl m 1 (ix1 (tl m hO t)))) eB,
    blk6 m hO c t _ _ (ex (tbl m 1 (ix1 (tl m hO t)))) eB, blk7 m hO c t _ _ (ex (tbl m 1 (ix1 (tl m hO t)))) eB]
  obtain rfl : c = 0 := Subsingleton.elim _ _
  unfold resE out
  show _ = if _ then _ else _
  rw [show tile ((ix2 (row (tl m hO t) p) j : S40960x2048.Idx) 0) = tl m hO t from ht]
  rfl

end Cert.ExpertsIdeal.Hand

end
-- ==== Proof.Experts.Pre.lean ====
/- The precondition of `experts`, read word by word. -/
module

public import proofs.«01_k».proof.Proof.Gen.Pre_tiles_name_two_experts
public import Idealize.ShloMosaic.Lib.StableHlo.Predicate

@[expose] public section

noncomputable section

namespace Cert.Pre_tiles_name_two_experts.Hand

open Idealize.ShloMosaic Cert.Pre_tiles_name_two_experts

attribute [local instance] Cert.Pre_tiles_name_two_experts.Gen.facts

theorem and_eq_one (a b : BitVec 1) : a &&& b = 1#1 ↔ a = 1#1 ∧ b = 1#1 := by
  revert a b; decide

theorem ge_zero_lt (w : BitVec 32) (h0 : IntOp.cmpi .sge w 0#32 = 1#1) (h1 : IntOp.cmpi .slt w 16#32 = 1#1) : w.toNat < 16 := by
  have a0 : (0#32).sle w = true := (StableHlo.Predicate.ofBool_eq_one_iff _).mp h0
  have a1 : w.slt 16#32 = true := (StableHlo.Predicate.ofBool_eq_one_iff _).mp h1
  simp only [BitVec.sle, BitVec.slt, decide_eq_true_eq] at a0 a1
  have e0 : (0#32).toInt = 0 := by decide
  have e1 : (16#32).toInt = 16 := by decide
  rw [e0] at a0; rw [e1] at a1
  rw [BitVec.toInt_eq_toNat_cond] at a0 a1
  split at a0 <;> split at a1 <;> omega

/-- What the predicate says: at every tile two different experts below 16. -/
theorem words {F : FTy → Type} [FloatOps F] (x0 : FVec F S40960x2048 .f32) (x1 : FVec F S40960x128 .f32) (x2 x3 x4 : IVec S160 32)
    (x5 x6 : FVec F S16x2048x512 .bf16) (x7 : FVec F S16x512x2048 .bf16)
    (h : fn (F := F) x0 x1 x2 x3 x4 x5 x6 x7 = fun _ => 1#1) (x : S160.Idx) :
    (x2 x).toNat < 16 ∧ (x3 x).toNat < 16 ∧ x2 x ≠ x3 x := by
  have e := congrFun h x
  have e' : ((IntOp.cmpi .sge (x2 x) 0#32 &&& IntOp.cmpi .slt (x2 x) 16#32) &&& (IntOp.cmpi .sge (x3 x) 0#32 &&& IntOp.cmpi .slt (x3 x) 16#32))
      &&& IntOp.cmpi .ne (x2 x) (x3 x) = 1#1 := e
  rw [and_eq_one, and_eq_one, and_eq_one, and_eq_one] at e'
  obtain ⟨⟨⟨a, b⟩, c, d⟩, n⟩ := e'
  refine ⟨ge_zero_lt _ a b, ge_zero_lt _ c d, ?_⟩
  intro hn
  rw [hn] at n
  have := (StableHlo.Predicate.ofBool_eq_one_iff _).mp n
  simp at this

end Cert.Pre_tiles_name_two_experts.Hand

end
-- ==== Proof.Experts.Ref.lean ====
module

public import proofs.«01_k».proof.Proof.Gen.ExpertsReferenceIdeal.Run
public import proofs.«01_k».proof.Proof.Gen.ExpertsReferenceIdeal.Read

@[expose] public section

end
-- ==== Proof.Experts.RefValue.lean ====
/- The reference of `experts`, element by element. -/
module

public import proofs.«01_k».proof.Proof.Experts.Ref
public import proofs.«01_k».proof.Proof.Experts.Math
public import Idealize.ShloMosaic.Lib.Pointwise
public import Idealize.ShloMosaic.Lib.StableHlo.Predicate

@[expose] public section

set_option maxRecDepth 16384
set_option synthInstance.maxSize 4096

noncomputable section

namespace Cert.ExpertsReferenceIdeal.Hand

open Idealize.ShloMosaic Idealize.ShloMosaic.TcCoe Idealize.ShloMosaic.Tactic
open Idealize.ShloMosaic.Pointwise Idealize.SL.Sem
open Cert.ExpertsReferenceIdeal Cert.ExpertsReferenceIdeal.Gen Cert.ExpertsReferenceIdeal.Read Cert.ExpertsMath

variable (x0 : (⟨S40960x2048, .f32⟩ : BufTy).Contents (Elt Ideal)) (x1 : (⟨S40960x128, .f32⟩ : BufTy).Contents (Elt Ideal))
  (x2 x3 x4 : (⟨S160, .i32⟩ : BufTy).Contents (Elt Ideal))
  (x5 x6 : (⟨S16x2048x512, .bf16⟩ : BufTy).Contents (Elt Ideal)) (x7 : (⟨S16x512x2048, .bf16⟩ : BufTy).Contents (Elt Ideal))

theorem word_ref (x : (⟨S160, .i32⟩ : BufTy).Contents (Elt Ideal)) (r : Fin 40960) :
    val_main_v1 (F := Ideal) x (ix1 r) = x (ix1 (tile r)) := by
  rw [val_main_v1_apply, val_main_v0_apply]
  congr 1
  funext a
  match a with
  | ⟨0, _⟩ => rfl

theorem word_ref' (x : (⟨S160, .i32⟩ : BufTy).Contents (Elt Ideal)) (r : Fin 40960) :
    val_main_v3 (F := Ideal) x (ix1 r) = x (ix1 (tile r)) := word_ref x r

/-- A truth value as a number. -/
theorem bit (a b : BitVec 32) : FloatOps.uitofp (F := Ideal) FTy.f32 (IntOp.cmpi CmpIPredicate.eq a b) = (if a = b then 1 else 0 : EReal) := by
  by_cases h : a = b
  · rw [if_pos h, StableHlo.Predicate.cmpi_eq_iff.mpr h]
    exact (by simp : (((1#1 : BitVec 1).toNat : ℝ) : EReal) = 1)
  · rw [if_neg h, show IntOp.cmpi CmpIPredicate.eq a b = 0#1 from by
      have := mt (StableHlo.Predicate.cmpi_eq_iff (a := a) (b := b)).mp h
      revert this; generalize IntOp.cmpi CmpIPredicate.eq a b = z; revert z; decide]
    exact (by simp : (((0#1 : BitVec 1).toNat : ℝ) : EReal) = 0)

theorem ofNat_eq (w : BitVec 32) (h : w.toNat < 16) (e : Fin 16) : (w = BitVec.ofNat 32 e.val) ↔ e = ex w := by
  constructor
  · rintro rfl
    apply Fin.ext
    show e.val = (BitVec.ofNat 32 e.val).toNat % 16
    rw [BitVec.toNat_ofNat]; omega
  · rintro rfl
    apply BitVec.eq_of_toNat_eq
    show w.toNat = (BitVec.ofNat 32 (w.toNat % 16)).toNat
    rw [BitVec.toNat_ofNat]; omega

theorem gates_ref (h2 : ∀ x, BitVec.toNat (w := 32) (x2 x) < 16) (h3 : ∀ x, BitVec.toNat (w := 32) (x3 x) < 16) (r : Fin 40960) (e : Fin 16) :
    val_main_v18 (F := Ideal) x1 x2 x3 (ix2 r e)
      = (if e = ex (x2 (ix1 (tile r))) then x1 (ix2 r 0) else (0 : EReal)) + (if e = ex (x3 (ix1 (tile r))) then x1 (ix2 r 64) else 0) := by
  pointwise [val_main_v18, val_main_v17, val_main_v14, val_main_v16, val_main_v15, val_main_v13, val_main_v12, val_main_v11, val_main_v10, val_main_v9, val_main_v8, val_main_v7, val_main_call0_v4, val_main_call0_v3, val_main_call0_v2, val_main_call0_v1, val_main_call0_v0, val_main_v6, val_main_v4, val_main_v5, val_main_cst]
  rw [word_ref, word_ref', bit, bit]
  have s1 : ∀ z : EReal, (∑ _x : Fin 1, z) = z := fun z => by simp
  refine congrArg₂ (· + ·) ((s1 _).trans ?_) ((s1 _).trans ?_)
  · simp only [ofNat_eq _ (h2 _)]
    split_ifs
    · exact one_mul _
    · exact zero_mul _
  · simp only [ofNat_eq _ (h3 _)]
    split_ifs
    · exact one_mul _
    · exact zero_mul _

theorem hid_ref (e : Fin 16) (r : Fin 40960) (f : Fin 512) :
    val_main_v24 (F := Ideal) x0 x5 x6 (ix3 e r f) = hid (fun k => x0 (ix2 r k)) (fun k f => x5 (ix3 e k f)) (fun k f => x6 (ix3 e k f)) f := by
  pointwise [val_main_v24, val_main_v23, val_main_v22, val_main_v21, val_main_v20, val_main_v19, val_main_call1_v0, val_main_call1_v1, val_main_call1_cst, val_main_call1_v2, val_main_call1_v3, val_main_call1_cst_0, val_main_call1_v4, val_main_call1_v5]
  have hc : ∀ w : (⟨S16x2048x512, .bf16⟩ : BufTy).Contents (Elt Ideal), (∑ x : Fin 2048, (w (ix3 e x f) : EReal) * x0 (ix2 r x)) = proj (fun k => x0 (ix2 r k)) (fun k f => w (ix3 e k f)) f :=
    fun w => Finset.sum_congr rfl fun _ _ => mul_comm _ _
  exact congrArg₂ (fun a b : EReal => a * Ideal.logistic a * b) (hc x5) (hc x6)

theorem sum_ref (h2 : ∀ x, BitVec.toNat (w := 32) (x2 x) < 16) (h3 : ∀ x, BitVec.toNat (w := 32) (x3 x) < 16) (h23 : ∀ x, x2 x ≠ x3 x)
    (r : Fin 40960) (j : Fin 2048) :
    val_main_v30 (F := Ideal) x0 x1 x2 x3 x5 x6 x7 (ix2 r j)
      = x1 (ix2 r 0) * ffn (fun k => x0 (ix2 r k)) (fun k f => x5 (ix3 (ex (x2 (ix1 (tile r)))) k f)) (fun k f => x6 (ix3 (ex (x2 (ix1 (tile r)))) k f)) (fun f j => x7 (ix3 (ex (x2 (ix1 (tile r)))) f j)) j
      + x1 (ix2 r 64) * ffn (fun k => x0 (ix2 r k)) (fun k f => x5 (ix3 (ex (x3 (ix1 (tile r)))) k f)) (fun k f => x6 (ix3 (ex (x3 (ix1 (tile r)))) k f)) (fun f j => x7 (ix3 (ex (x3 (ix1 (tile r)))) f j)) j := by
  pointwise [val_main_v30, val_main_v29, val_main_v28, val_main_v27, val_main_v26, val_main_v25, val_main_cst_0]
  simp only [gates_ref x1 x2 x3 h2 h3, hid_ref]
  refine gates_sum (ex (x2 (ix1 (tile r)))) (ex (x3 (ix1 (tile r)))) (fun h => h23 (ix1 (tile r)) (BitVec.eq_of_toNat_eq ?_)) _ _
    (fun e => ffn (fun k => x0 (ix2 r k)) (fun k f => x5 (ix3 e k f)) (fun k f => x6 (ix3 e k f)) (fun f j => x7 (ix3 e f j)) j)
  have a := h2 (ix1 (tile r))
  have b := h3 (ix1 (tile r))
  have := congrArg Fin.val h
  change BitVec.toNat _ % 16 = BitVec.toNat _ % 16 at this
  omega

theorem out_ref (h2 : ∀ x, BitVec.toNat (w := 32) (x2 x) < 16) (h3 : ∀ x, BitVec.toNat (w := 32) (x3 x) < 16) (h23 : ∀ x, x2 x ≠ x3 x)
    (r : Fin 40960) (j : Fin 2048) :
    val_main_v36 (F := Ideal) x0 x1 x2 x3 x4 x5 x6 x7 (ix2 r j)
      = out (fun r k => x0 (ix2 r k)) (fun r k => x1 (ix2 r k)) (fun t => x2 (ix1 t)) (fun t => x3 (ix1 t)) (fun t => x4 (ix1 t))
          (fun e k f => x5 (ix3 e k f)) (fun e k f => x6 (ix3 e k f)) (fun e f j => x7 (ix3 e f j)) r j := by
  have hs := sum_ref x0 x1 x2 x3 x5 x6 x7 h2 h3 h23 r j
  rw [val_main_v36_apply, hs]
  pointwise [val_main_call2_v1, val_main_call2_v2, val_main_call2_v0, val_main_cst_1, val_main_v35, val_main_v34, val_main_v33, val_main_c]
  rw [show val_main_v32 (F := Ideal) x4 (ix1 r) = x4 (ix1 (tile r)) from word_ref x4 r,
    show (id (constant (F := Ideal) S_ FTy.f32 0#32) ix0 : EReal) = 0 from by rw [id]; pointwise]
  unfold out
  by_cases h : x4 (ix1 (tile r)) = 0#32
  · rw [if_pos h, h]; rfl
  · rw [if_neg h, show IntOp.cmpi CmpIPredicate.ne (x4 (ix1 (tile r))) 0#32 = 1#1 from
      (StableHlo.Predicate.ofBool_eq_one_iff _).mpr (by simpa [bne] using h)]
    rfl

end Cert.ExpertsReferenceIdeal.Hand

end
-- ==== Proof.Experts.Claim.lean ====
/- The claims about `experts`. -/
module

public import proofs.«01_k».proof.Defs
public import proofs.«01_k».proof.Proof.Experts.Arrays
public import proofs.«01_k».proof.Proof.Gen.Experts
public import proofs.«01_k».proof.Proof.Experts.Pre
public import proofs.«01_k».proof.Proof.Experts.RefValue
public import Idealize.ShloMosaic.Lib.Claim

@[expose] public section

noncomputable section

namespace Cert.Proof

open Idealize Idealize.ShloMosaic Idealize.SL.Sem

attribute [local instance] Cert.Pre_tiles_name_two_experts.Gen.facts

/-- What the precondition says of the two tables the pipeline reads. -/
theorem experts_words (m : (ℓ : Loc Cert.ExpertsIdeal.nD Cert.ExpertsIdeal.τ Cert.ExpertsIdeal.sig) → Buf (Elt Ideal) ℓ) (h : Cert.Pre_ExpertsIdeal m)
    (x : Cert.ExpertsIdeal.S160.Idx) :
    BitVec.toNat (w := 32) (Cert.ExpertsIdeal.Hand.tbl m 0 x) < 16 ∧ BitVec.toNat (w := 32) (Cert.ExpertsIdeal.Hand.tbl m 1 x) < 16
      ∧ (Cert.ExpertsIdeal.Hand.tbl m 0 x : BitVec 32) ≠ Cert.ExpertsIdeal.Hand.tbl m 1 x :=
  Cert.Pre_tiles_name_two_experts.Hand.words _ _ _ _ _ _ _ _ (h 0) x

/-- So every block the tables name lies inside its array. -/
theorem expertsIdeal_ok (m : (ℓ : Loc Cert.ExpertsIdeal.nD Cert.ExpertsIdeal.τ Cert.ExpertsIdeal.sig) → Buf (Elt Ideal) ℓ) (h : Cert.Pre_ExpertsIdeal m) :
    Cert.ExpertsIdeal.Hand.Ok (F := Ideal) m :=
  Cert.ExpertsIdeal.Hand.ok_of_lt _ (fun x => (experts_words m h x).1) (fun x => (experts_words m h x).2.1)

/-- The program as printed has the same text: its body table is the same one. -/
theorem experts_defs₀ : Cert.Experts.defs₀ (F := Bits) = Cert.ExpertsIdeal.defs₀ (F := Bits) := by
  unfold Cert.Experts.defs₀ Cert.ExpertsIdeal.defs₀
  refine congrArg Defs.onTc ?_
  funext l a
  match l, a with
  | ⟨0, _⟩, (t, s) => rfl

theorem experts_defs : Cert.Experts.defs (F := Bits) = Cert.ExpertsIdeal.defs (F := Bits) :=
  congrArg (Pipeline.defs (Cert.ExpertsIdeal.pcfgs (F := Bits))) experts_defs₀

/-- So its run is the same one, at the machine's floats. -/
theorem frame_experts : Cert.quiescent_Experts := fun m ρ h => by
  have hw := Cert.Pre_tiles_name_two_experts.Hand.words _ _ _ _ _ _ _ _ (h 0)
  rw [experts_defs]
  exact (θ_run Cert.ExpertsIdeal.defs _ _).mono (fun _ hr => ⟨fun c => (hr.1 c).2, hr.2⟩)
    (Cert.ExpertsIdeal.Hand.run (F := Bits) m ρ (Cert.ExpertsIdeal.Hand.ok_of_lt _ (fun x => (hw x).1) (fun x => (hw x).2.1)))

theorem frame_expertsIdeal : Cert.quiescent_ExpertsIdeal := fun m ρ h =>
  (θ_run Cert.ExpertsIdeal.defs _ _).mono (fun _ hr => ⟨fun c => (hr.1 c).2, hr.2⟩) (Cert.ExpertsIdeal.Hand.run m ρ (expertsIdeal_ok m h))

theorem frame_expertsReference : Cert.quiescent_ExpertsReferenceIdeal := fun m ρ _ =>
  (θ_run Cert.ExpertsReferenceIdeal.defs _ _).mono (fun r h => ⟨fun c => (h c).2,
      Idealize.ShloMosaic.sem_eq_zero_of_no_sems (by decide) r.2⟩)
    (Cert.ExpertsReferenceIdeal.Value.run (F := Ideal) m ρ)

theorem frame_expertsReference_pre : Cert.quiescent_ExpertsReferenceIdeal_pre_tiles_name_two_experts := fun m ρ _ =>
  frame_expertsReference m ρ trivial

theorem algebraic_experts : Cert.algebraic_ExpertsIdeal_ExpertsReferenceIdeal := by
  intro m g m' g' hpre hagree
  have hw := experts_words m hpre
  refine ⟨Cert.ExpertsIdeal.Hand.resE m, ?_, ?_⟩
  · refine (θ_run Cert.ExpertsIdeal.defs _ _).mono (fun _ hr c => ?_) (Cert.ExpertsIdeal.Hand.run m g (expertsIdeal_ok m hpre))
    exact ⟨(hr.1 c).1.trans (Cert.ExpertsIdeal.Hand.arr8 m _ c (fun x => (hw x).1) (fun x => (hw x).2.1)), (hr.1 c).2⟩
  refine (θ_run Cert.ExpertsReferenceIdeal.defs _ _).mono (fun r h c => ?_) (Cert.ExpertsReferenceIdeal.Value.run (F := Ideal) m' g')
  obtain rfl : c = 0 := Subsingleton.elim _ _
  obtain ⟨h0, h1, h2, h3, h4, h5, h6, h7⟩ := hagree 0
  obtain ⟨r0, ra⟩ := h 0
  refine ⟨r0.trans ?_, ra⟩
  refine (Cert.ExpertsReferenceIdeal.Read.val_main_v36_eq (F := Ideal) _ _ _ _ _ _ _ _).trans ?_
  rw [h0, h1, h2, h3, h4, h5, h6, h7]
  funext i
  obtain ⟨t, e, rfl⟩ : ∃ (t : Fin 40960) (e : Fin 2048), i = ix2 t e := ⟨i 0, i 1, by funext a; match a with | ⟨0, _⟩ => rfl | ⟨1, _⟩ => rfl⟩
  exact Cert.ExpertsReferenceIdeal.Hand.out_ref _ _ _ _ _ _ _ _ (fun x => (hw x).1) (fun x => (hw x).2.1) (fun x => (hw x).2.2) t e

end Cert.Proof

end
-- ==== Proof.Project.Stage.lean ====
/- What the body leaves at a grid point. -/
module

public import proofs.«01_k».proof.Proof.Gen.ProjectIdeal.Frame
public import Idealize.ShloMosaic.Lib.Pointwise
public import Idealize.ShloMosaic.Lib.Pipeline.ReadBack
public import Idealize.ShloMosaic.Lib.Pipeline.ValueKit
public import Idealize.ShloMosaic.Lib.ValueIdx
public import Idealize.ShloMosaic.PureOps.Ideal.Laws

@[expose] public section

set_option maxRecDepth 16384
set_option synthInstance.maxSize 4096

noncomputable section

namespace Cert.ProjectIdeal.Hand

open Idealize.ShloMosaic Idealize.ShloMosaic.TcCoe Idealize.ShloMosaic.Tactic
open Idealize.ShloMosaic.Pointwise Idealize.SL.Sem
open Cert.ProjectIdeal Cert.ProjectIdeal.Gen
open Idealize.ShloMosaic.Pipeline (Dat)

variable {F : FTy → Type} [FloatOps F]

/-- A load of a whole block reads the block. -/
theorem load_x {r : Memref sig .tc .vmem S1536x2048 .bf16} (hr : r.IsWhole) (i₀ : ∀ a, (![0, 0] : Fin 2 → ℕ) a + S1536x2048.size a ≤ S1536x2048.size a) (x : Vec F S1536x2048 .bf16) :
    View.readAt (Elt F) r.view (Rect.unit (s := S1536x2048) ![0, 0] ![1536, 2048] i₀).toLoadRect (hr.unread x) = x := by
  rw [View.readAt_eq_ld, hr.read_unread]
  exact View.ld_unit_zero (S := S1536x2048) (funext fun a => by fin_cases a <;> rfl) _ x
theorem load_w {r : Memref sig .tc .vmem S1x2048x1024 .f32} (hr : r.IsWhole) (i₀ : ∀ a, (![0, 0, 0] : Fin 3 → ℕ) a + S1x2048x1024.size a ≤ S1x2048x1024.size a) (x : Vec F S1x2048x1024 .f32) :
    View.readAt (Elt F) r.view (Rect.unit (s := S1x2048x1024) ![0, 0, 0] ![1, 2048, 1024] i₀).toLoadRect (hr.unread x) = x := by
  rw [View.readAt_eq_ld, hr.read_unread]
  exact View.ld_unit_zero (S := S1x2048x1024) (funext fun a => by fin_cases a <;> rfl) _ x
theorem load_s {r : Memref sig .tc .vmem S2048x1024 .bf16} (hr : r.IsWhole) (i₀ : ∀ a, (![0, 0] : Fin 2 → ℕ) a + S2048x1024.size a ≤ S2048x1024.size a) (x : Vec F S2048x1024 .bf16) :
    View.readAt (Elt F) r.view (Rect.unit (s := S2048x1024) ![0, 0] ![2048, 1024] i₀).toLoadRect (hr.unread x) = x := by
  rw [View.readAt_eq_ld, hr.read_unread]
  exact View.ld_unit_zero (S := S2048x1024) (funext fun a => by fin_cases a <;> rfl) _ x

theorem scratch_A (c : Dev nD) (arg3 : Memref sig .tc .vmem S1x2048x1024 .f32) (harg3 : arg3.IsWhole) (x1 : Vec F S1x2048x1024 .f32) :
    View.canon (kernelRun0_A.sl.HS0_1 (F := F) c arg3 harg3 x1) = k0_pay1 x1 := by
  unfold kernelRun0_A.sl.HS0_1
  simp only [load_w]
  exact View.canon_unit_zero (funext fun a => by fin_cases a <;> rfl) _ _

theorem v4_A (c : Dev nD) (arg3 : Memref sig .tc .vmem S1x2048x1024 .f32) (harg3 : arg3.IsWhole) (arg5 : Memref sig .tc .vmem S2048x1024 .bf16) (x1 : Vec F S1x2048x1024 .f32) :
    kernelRun0_A.sl.v4 (F := F) c arg3 harg3 arg5 x1 = k0_pay1 x1 := by
  unfold kernelRun0_A.sl.v4 kernelRun0_A.sl.HS0_1
  simp only [load_w]
  exact View.readCov_unit_zero (S := S2048x1024) _ (by funext a; fin_cases a <;> rfl) _ _

/-- At the first row block of a column block the scratch takes the column block of the weights. -/
theorem sout_A (c : Dev nD) (i : grid0.Coords) (arg2 : Memref sig .tc .vmem S1536x2048 .bf16) (harg2 : arg2.IsWhole) (arg3 : Memref sig .tc .vmem S1x2048x1024 .f32) (harg3 : arg3.IsWhole) (arg4 : Memref sig .tc .vmem S1536x1024 .bf16) (harg4 : arg4.IsWhole) (arg5 : Memref sig .tc .vmem S2048x1024 .bf16) (harg5 : arg5.IsWhole) (hc0 : cond0_0 i)
    (x0 : Vec F S1536x2048 .bf16) (x1 : Vec F S1x2048x1024 .f32) :
    sout0_A_0 c i arg2 harg2 arg3 harg3 arg4 harg4 arg5 harg5 hc0 x0 x1 = k0_pay1 x1 := by
  unfold sout0_A_0
  rw [View.read_writes_junk_eq_canon]
  unfold kernelRun0_A
  dsimp only
  exact scratch_A c arg3 harg3 x1

theorem out_A (c : Dev nD) (i : grid0.Coords) (arg2 : Memref sig .tc .vmem S1536x2048 .bf16) (harg2 : arg2.IsWhole) (arg3 : Memref sig .tc .vmem S1x2048x1024 .f32) (harg3 : arg3.IsWhole) (arg4 : Memref sig .tc .vmem S1536x1024 .bf16) (harg4 : arg4.IsWhole) (arg5 : Memref sig .tc .vmem S2048x1024 .bf16) (harg5 : arg5.IsWhole) (hc0 : cond0_0 i)
    (x0 : Vec F S1536x2048 .bf16) (x1 : Vec F S1x2048x1024 .f32) :
    out0_A_2 c i arg2 harg2 arg3 harg3 arg4 harg4 arg5 harg5 hc0 x0 x1 = k0_pay2 x0 (k0_pay1 x1) := by
  unfold out0_A_2
  rw [View.read_writes_junk_eq_canon]
  unfold kernelRun0_A
  dsimp only
  rw [load_x, v4_A]
  exact View.canon_unit_zero (funext fun a => by fin_cases a <;> rfl) _ _

theorem out_B (c : Dev nD) (i : grid0.Coords) (arg2 : Memref sig .tc .vmem S1536x2048 .bf16) (harg2 : arg2.IsWhole) (arg3 : Memref sig .tc .vmem S1x2048x1024 .f32) (harg3 : arg3.IsWhole) (arg4 : Memref sig .tc .vmem S1536x1024 .bf16) (harg4 : arg4.IsWhole) (arg5 : Memref sig .tc .vmem S2048x1024 .bf16) (harg5 : arg5.IsWhole) (hc0 : ¬cond0_0 i)
    (x0 : Vec F S1536x2048 .bf16) (x1 : Vec F S1x2048x1024 .f32) (xs : Vec F S2048x1024 .bf16) :
    out0_B_2 c i arg2 harg2 arg3 harg3 arg4 harg4 arg5 harg5 hc0 x0 x1 xs = k0_pay2 x0 xs := by
  unfold out0_B_2
  rw [View.read_writes_junk_eq_canon]
  unfold kernelRun0_B
  dsimp only
  rw [load_x, load_s]
  exact View.canon_unit_zero (funext fun a => by fin_cases a <;> rfl) _ _

end Cert.ProjectIdeal.Hand

end
-- ==== Proof.Project.Value.lean ====
/- What the projection's call leaves in its result. -/
module

public import proofs.«01_k».proof.Proof.Project.Stage
public import Idealize.ShloMosaic.Lib.Pointwise
public import Idealize.ShloMosaic.Lib.Pipeline.ReadBack
public import Idealize.ShloMosaic.Lib.Pipeline.ValueKit
public import Idealize.ShloMosaic.Lib.ValueIdx
public import Idealize.ShloMosaic.PureOps.Ideal.Laws

@[expose] public section

set_option maxRecDepth 16384
set_option synthInstance.maxSize 4096

noncomputable section

namespace Cert.ProjectIdeal.Hand

open Idealize.ShloMosaic Idealize.ShloMosaic.TcCoe Idealize.ShloMosaic.Tactic
open Idealize.ShloMosaic.Pointwise Idealize.SL.Sem
open Cert.ProjectIdeal Cert.ProjectIdeal.Gen
open Idealize.ShloMosaic.Pipeline (Dat)

variable {F : FTy → Type} [FloatOps F]

variable (m : (ℓ : Loc nD τ sig) → Buf (Elt F) ℓ) (c : Dev nD)

theorem ix : ∀ t : Fin grid0.N, cc0_transform_0 (grid0.coords t) = ![t.val % 22, 0] ∧ cc0_transform_1 (grid0.coords t) = ![0, 0, t.val / 22]
    ∧ cc0_transform_2 (grid0.coords t) = ![t.val % 22, t.val / 22] := by decide +kernel

/-- Row `p` of row block `i`, and column `n` of column block `j`. -/
abbrev row (t : Fin cfg0.N) (p : Fin 1536) : Fin 33792 := ⟨1536 * (t.val % 22) + p.val, by omega⟩
abbrev col (t : Fin cfg0.N) (n : Fin 1024) : Fin 6160 := ⟨1024 * (t.val / 22) + n.val, by
  have ht : t.val < 132 := Nat.lt_of_lt_of_eq t.isLt N_0
  omega⟩

theorem blk_x (t : Fin cfg0.N) (p : Fin 1536) (k : Fin 2048) :
    iblk m c 0 t (ix2 p k) = m ((c : Thread nD τ).loc main_arg0) (ix2 (row t p) k) := by
  have e : win0_0.index t = ![t.val % 22, 0] := (ix t).1
  blk_ext [iblk, row] <;> rw [e]
  · show t.val % 22 * 1536 + p.val = _
    omega
  · show 0 * 2048 + k.val = _
    omega

theorem blk_w (t : Fin cfg0.N) (k : Fin 2048) (n : Fin 1024) :
    X0_1 m c t (ix3 0 k n) = m ((c : Thread nD τ).loc main_arg1) (ix3 0 k (col t n)) := by
  have e : win0_1.index t = ![0, 0, t.val / 22] := (ix t).2.1
  unfold X0_1 Pipeline.Window.fill
  rw [dif_pos (moved0_1 t _)]
  blk_ext [iblk, col] <;> rw [e]
  · rfl
  · show 0 * 2048 + k.val = _
    omega
  · show t.val / 22 * 1024 + n.val = _
    omega

/-- A column block's weights stay for all its row blocks. -/
theorem X_pred (t t' : Fin cfg0.N) (h : t.val / 22 = t'.val / 22) : X0_1 m c t = X0_1 m c t' := by
  funext j
  obtain ⟨z, k, n, rfl⟩ : ∃ (z : Fin 1) (k : Fin 2048) (n : Fin 1024), j = ix3 z k n := ⟨j 0, j 1, j 2, by funext a; fin_cases a <;> rfl⟩
  obtain rfl : z = 0 := Subsingleton.elim _ _
  rw [blk_w, blk_w]
  have e : col t n = col t' n := Fin.ext (by show 1024 * _ + _ = 1024 * _ + _; rw [h])
  rw [e]

theorem scratch_first (t : Fin cfg0.N) (h0 : t.val % 22 = 0) : (outsAt0 m c t.val t.isLt).2 = k0_pay1 (X0_1 m c t) := by
  have e := outsAt0_A m c t h0
  generalize outsAt0 m c t.val t.isLt = o at e ⊢
  subst e
  dsimp only
  rw [sout_A]
theorem scratch_next (t : Fin cfg0.N) (h0 : ¬t.val % 22 = 0) :
    (outsAt0 m c t.val t.isLt).2 = (outsAt0 m c (t.val - 1) (Nat.lt_of_le_of_lt (Nat.sub_le _ _) t.isLt)).2 := by
  have e := outsAt0_B m c t h0
  generalize outsAt0 m c t.val t.isLt = o at e ⊢
  subst e
  dsimp only
  unfold sout0_B_0
  rfl
theorem out_first (t : Fin cfg0.N) (h0 : t.val % 22 = 0) : (outsAt0 m c t.val t.isLt).1 = k0_pay2 (iblk m c 0 t) (k0_pay1 (X0_1 m c t)) := by
  have e := outsAt0_A m c t h0
  generalize outsAt0 m c t.val t.isLt = o at e ⊢
  subst e
  dsimp only
  rw [out_A]
theorem out_next (t : Fin cfg0.N) (h0 : ¬t.val % 22 = 0) : (outsAt0 m c t.val t.isLt).1 =
    k0_pay2 (iblk m c 0 t) (outsAt0 m c (t.val - 1) (Nat.lt_of_le_of_lt (Nat.sub_le _ _) t.isLt)).2 := by
  have e := outsAt0_B m c t h0
  generalize outsAt0 m c t.val t.isLt = o at e ⊢
  subst e
  dsimp only
  rw [out_B]

/-- After every point the scratch holds the weights the point's window holds. -/
theorem scratch_at (n : ℕ) : ∀ t : Fin cfg0.N, t.val = n → (outsAt0 m c t.val t.isLt).2 = k0_pay1 (X0_1 m c t) := by
  induction n with
  | zero => exact fun t ht => scratch_first m c t (by rw [ht])
  | succ n ih =>
    intro t ht
    by_cases h0 : t.val % 22 = 0
    · exact scratch_first m c t h0
    · refine (scratch_next m c t h0).trans ((ih ⟨t.val - 1, Nat.lt_of_le_of_lt (Nat.sub_le _ _) t.isLt⟩ (by show t.val - 1 = n; omega)).trans ?_)
      rw [X_pred m c ⟨t.val - 1, Nat.lt_of_le_of_lt (Nat.sub_le _ _) t.isLt⟩ t (by show (t.val - 1) / 22 = t.val / 22; omega)]

theorem out_at (t : Fin cfg0.N) : (outsAt0 m c t.val t.isLt).1 = k0_pay2 (iblk m c 0 t) (k0_pay1 (X0_1 m c t)) := by
  by_cases h0 : t.val % 22 = 0
  · exact out_first m c t h0
  · rw [out_next m c t h0, ← scratch_next m c t h0, scratch_at m c t.val t rfl]

end Cert.ProjectIdeal.Hand

namespace Cert.ProjectIdeal.Hand

open Idealize.ShloMosaic Idealize.ShloMosaic.TcCoe Idealize.ShloMosaic.Tactic
open Idealize.ShloMosaic.Pointwise Idealize.SL.Sem
open Cert.ProjectIdeal Cert.ProjectIdeal.Gen
open Idealize.ShloMosaic.Pipeline (Dat)

variable (m : (ℓ : Loc nD τ sig) → Buf (Elt Ideal) ℓ) (c : Dev nD)

theorem pay1_apply (x : Vec Ideal S1x2048x1024 .f32) (k : Fin 2048) (n : Fin 1024) : k0_pay1 (F := Ideal) x (ix2 k n) = x (ix3 0 k n) := by
  pointwise [k0_pay1]
theorem pay2_apply (x : Vec Ideal S1536x2048 .bf16) (w : Vec Ideal S2048x1024 .bf16) (p : Fin 1536) (n : Fin 1024) :
    k0_pay2 (F := Ideal) x w (ix2 p n) = ∑ k : Fin 2048, x (ix2 p k) * w (ix2 k n) := by
  pointwise [k0_pay2]

/-- A row of the first array times a column of the second's first matrix. -/
def dot (x : S33792x2048.Idx → EReal) (w : S2x2048x6160.Idx → EReal) (r : Fin 33792) (n : Fin 6160) : EReal :=
  ∑ k : Fin 2048, x (ix2 r k) * w (ix3 0 k n)
/-- Every row times every column of the first layer's weights, but for the gates' columns. -/
def res : S33792x6144.Idx → EReal := fun i =>
  dot (m ((c : Thread nD τ).loc main_arg0)) (m ((c : Thread nD τ).loc main_arg1)) (i 0) ⟨(i 1).val, lt_of_lt_of_le (i 1).isLt (by decide)⟩

theorem arr2 : (dats (F := Ideal) m 0 c).arrAt 2 cfg0.N = res m c := by
  refine (dats m 0 c).arrAt_eq_of_covers 2 _ (by decide +kernel) fun t hf y => ?_
  blk_simp
  rw [after0_2, out_at]
  obtain ⟨p, n, rfl⟩ : ∃ (p : Fin 1536) (n : Fin 1024), y = ix2 p n := ⟨y 0, y 1, by funext a; fin_cases a <;> rfl⟩
  have e : ((cfg0.win 2).blk t).view.emb (ix2 p n) = (ix2 (row t p) ⟨(col t n).val, by
      have ht : t.val < 132 := Nat.lt_of_lt_of_eq t.isLt N_0
      show 1024 * (t.val / 22) + n.val < 6144
      omega⟩ : S33792x6144.Idx) := by
    have e' : win0_2.index t = ![t.val % 22, t.val / 22] := (ix t).2.2
    blk_ext [row, col] <;> rw [e']
    · show t.val % 22 * 1536 + p.val = _
      omega
    · show t.val / 22 * 1024 + n.val = _
      omega
  rw [e]
  refine (pay2_apply _ _ p n).trans ?_
  unfold res dot
  refine Finset.sum_congr rfl fun k _ => ?_
  rw [pay1_apply, blk_x, blk_w]
  rfl

theorem run (g : Dev nD → PrngReg) : θ_run defs (onTc (τ := τ) (main (F := Ideal))) ⟨m, fun _ => 0, g⟩ (fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from run_main m g & unchanged m g
  · exact arr2 m c

end Cert.ProjectIdeal.Hand

end
-- ==== Proof.Project.Claim.lean ====
/- The claims about the projection. -/
module

public import proofs.«01_k».proof.Defs
public import proofs.«01_k».proof.Proof.Project.Value
public import proofs.«01_k».proof.Proof.Gen.Project
public import proofs.«01_k».proof.Proof.Gen.ProjectReferenceIdeal.Run
public import proofs.«01_k».proof.Proof.Gen.ProjectReferenceIdeal.Read
public import Idealize.ShloMosaic.Lib.Claim

@[expose] public section

noncomputable section

namespace Cert.Proof

open Idealize Idealize.ShloMosaic Idealize.SL.Sem

/-- The program as printed has the same text: its body table is the same one. -/
theorem project_defs₀ : Cert.Project.defs₀ (F := Bits) = Cert.ProjectIdeal.defs₀ (F := Bits) := by
  unfold Cert.Project.defs₀ Cert.ProjectIdeal.defs₀
  refine congrArg Defs.onTc ?_
  funext l a
  match l, a with
  | ⟨0, _⟩, (t, s) => rfl

theorem project_defs : Cert.Project.defs (F := Bits) = Cert.ProjectIdeal.defs (F := Bits) :=
  congrArg (Pipeline.defs _) project_defs₀

/-- So its run is the same one, at the machine's floats. -/
theorem frame_project : Cert.quiescent_Project := fun m ρ _ => by
  rw [project_defs]
  exact Cert.ProjectIdeal.Gen.frame (F := Bits) m ρ

theorem frame_projectIdeal : Cert.quiescent_ProjectIdeal := fun m ρ _ => Cert.ProjectIdeal.Gen.frame m ρ

theorem frame_projectReference : Cert.quiescent_ProjectReferenceIdeal := fun m ρ _ =>
  (θ_run Cert.ProjectReferenceIdeal.defs _ _).mono (fun r h => ⟨fun c => (h c).2,
      Idealize.ShloMosaic.sem_eq_zero_of_no_sems (by decide) r.2⟩)
    (Cert.ProjectReferenceIdeal.Value.run (F := Ideal) m ρ)

theorem algebraic_project : Cert.algebraic_ProjectIdeal_ProjectReferenceIdeal := by
  intro m g m' g' _ hagree
  refine ⟨Cert.ProjectIdeal.Hand.res m, Cert.ProjectIdeal.Hand.run m g, ?_⟩
  refine (θ_run Cert.ProjectReferenceIdeal.defs _ _).mono (fun r h c => ?_) (Cert.ProjectReferenceIdeal.Value.run (F := Ideal) m' g')
  obtain ⟨h0, h1⟩ := hagree c
  obtain ⟨r0, ra⟩ := h c
  refine ⟨r0.trans ?_, ra⟩
  refine (Cert.ProjectReferenceIdeal.Read.val_main_v5_eq (F := Ideal) _ _).trans ?_
  rw [h0, h1]
  funext i
  obtain ⟨t, e, rfl⟩ : ∃ (t : Fin 33792) (e : Fin 6144), i = ix2 t e := ⟨i 0, i 1, by funext a; match a with | ⟨0, _⟩ => rfl | ⟨1, _⟩ => rfl⟩
  rw [Cert.ProjectReferenceIdeal.Read.val_main_v5_apply, Cert.ProjectReferenceIdeal.Read.val_main_v4_apply,
    Cert.ProjectReferenceIdeal.Read.val_main_v3_apply]
  show (_ : EReal) = Cert.ProjectIdeal.Hand.dot _ _ _ _
  unfold Cert.ProjectIdeal.Hand.dot
  refine Finset.sum_congr rfl fun (k : Fin 2048) _ => ?_
  rw [Cert.ProjectReferenceIdeal.Read.val_main_v0_apply, Cert.ProjectReferenceIdeal.Read.val_main_v2_apply,
    Cert.ProjectReferenceIdeal.Read.val_main_v1_apply]
  have hk : k.val < 2048 := k.isLt
  have he : e.val < 6144 := e.isLt
  refine congr (congrArg HMul.hMul ?_) ?_
  · show m _ _ = m _ _
    refine congrArg (m _) (funext fun a => ?_)
    match a with
    | ⟨0, _⟩ => rfl
    | ⟨1, _⟩ => rfl
  · refine congrArg (m _) (funext fun a => ?_)
    match a with
    | ⟨0, _⟩ => rfl
    | ⟨1, _⟩ => exact Fin.ext (show (k.val * 6160 + e.val) / 6160 % 2048 = k.val by omega)
    | ⟨2, _⟩ => exact Fin.ext (show (k.val * 6160 + e.val) % 6160 = e.val by omega)

end Cert.Proof

end
-- ==== Proof.ProjectQkv.Stage.lean ====
/- What the body leaves at a grid point. -/
module

public import proofs.«01_k».proof.Proof.Gen.ProjectQkvIdeal.Frame
public import Idealize.ShloMosaic.Lib.Pointwise
public import Idealize.ShloMosaic.Lib.Pipeline.ReadBack
public import Idealize.ShloMosaic.Lib.Pipeline.ValueKit
public import Idealize.ShloMosaic.Lib.ValueIdx
public import Idealize.ShloMosaic.PureOps.Ideal.Laws

@[expose] public section

set_option maxRecDepth 16384
set_option synthInstance.maxSize 4096

noncomputable section

namespace Cert.ProjectQkvIdeal.Hand

open Idealize.ShloMosaic Idealize.ShloMosaic.TcCoe Idealize.ShloMosaic.Tactic
open Idealize.ShloMosaic.Pointwise Idealize.SL.Sem
open Cert.ProjectQkvIdeal Cert.ProjectQkvIdeal.Gen
open Idealize.ShloMosaic.Pipeline (Dat)

variable {F : FTy → Type} [FloatOps F]

/-- A load of a whole block reads the block. -/
theorem load_x {r : Memref sig .tc .vmem S1536x2048 .bf16} (hr : r.IsWhole) (i₀ : ∀ a, (![0, 0] : Fin 2 → ℕ) a + S1536x2048.size a ≤ S1536x2048.size a) (x : Vec F S1536x2048 .bf16) :
    View.readAt (Elt F) r.view (Rect.unit (s := S1536x2048) ![0, 0] ![1536, 2048] i₀).toLoadRect (hr.unread x) = x := by
  rw [View.readAt_eq_ld, hr.read_unread]
  exact View.ld_unit_zero (S := S1536x2048) (funext fun a => by fin_cases a <;> rfl) _ x
theorem load_w {r : Memref sig .tc .vmem S1x2048x1024 .f32} (hr : r.IsWhole) (i₀ : ∀ a, (![0, 0, 0] : Fin 3 → ℕ) a + S1x2048x1024.size a ≤ S1x2048x1024.size a) (x : Vec F S1x2048x1024 .f32) :
    View.readAt (Elt F) r.view (Rect.unit (s := S1x2048x1024) ![0, 0, 0] ![1, 2048, 1024] i₀).toLoadRect (hr.unread x) = x := by
  rw [View.readAt_eq_ld, hr.read_unread]
  exact View.ld_unit_zero (S := S1x2048x1024) (funext fun a => by fin_cases a <;> rfl) _ x
theorem load_s {r : Memref sig .tc .vmem S2048x1024 .bf16} (hr : r.IsWhole) (i₀ : ∀ a, (![0, 0] : Fin 2 → ℕ) a + S2048x1024.size a ≤ S2048x1024.size a) (x : Vec F S2048x1024 .bf16) :
    View.readAt (Elt F) r.view (Rect.unit (s := S2048x1024) ![0, 0] ![2048, 1024] i₀).toLoadRect (hr.unread x) = x := by
  rw [View.readAt_eq_ld, hr.read_unread]
  exact View.ld_unit_zero (S := S2048x1024) (funext fun a => by fin_cases a <;> rfl) _ x

theorem scratch_A (c : Dev nD) (arg3 : Memref sig .tc .vmem S1x2048x1024 .f32) (harg3 : arg3.IsWhole) (x1 : Vec F S1x2048x1024 .f32) :
    View.canon (kernelRun0_A.sl.HS0_1 (F := F) c arg3 harg3 x1) = k0_pay1 x1 := by
  unfold kernelRun0_A.sl.HS0_1
  simp only [load_w]
  exact View.canon_unit_zero (funext fun a => by fin_cases a <;> rfl) _ _

theorem v4_A (c : Dev nD) (arg3 : Memref sig .tc .vmem S1x2048x1024 .f32) (harg3 : arg3.IsWhole) (arg5 : Memref sig .tc .vmem S2048x1024 .bf16) (x1 : Vec F S1x2048x1024 .f32) :
    kernelRun0_A.sl.v4 (F := F) c arg3 harg3 arg5 x1 = k0_pay1 x1 := by
  unfold kernelRun0_A.sl.v4 kernelRun0_A.sl.HS0_1
  simp only [load_w]
  exact View.readCov_unit_zero (S := S2048x1024) _ (by funext a; fin_cases a <;> rfl) _ _

/-- At the first row block of a column block the scratch takes the column block of the weights. -/
theorem sout_A (c : Dev nD) (i : grid0.Coords) (arg2 : Memref sig .tc .vmem S1536x2048 .bf16) (harg2 : arg2.IsWhole) (arg3 : Memref sig .tc .vmem S1x2048x1024 .f32) (harg3 : arg3.IsWhole) (arg4 : Memref sig .tc .vmem S1536x1024 .bf16) (harg4 : arg4.IsWhole) (arg5 : Memref sig .tc .vmem S2048x1024 .bf16) (harg5 : arg5.IsWhole) (hc0 : cond0_0 i)
    (x0 : Vec F S1536x2048 .bf16) (x1 : Vec F S1x2048x1024 .f32) :
    sout0_A_0 c i arg2 harg2 arg3 harg3 arg4 harg4 arg5 harg5 hc0 x0 x1 = k0_pay1 x1 := by
  unfold sout0_A_0
  rw [View.read_writes_junk_eq_canon]
  unfold kernelRun0_A
  dsimp only
  exact scratch_A c arg3 harg3 x1

theorem out_A (c : Dev nD) (i : grid0.Coords) (arg2 : Memref sig .tc .vmem S1536x2048 .bf16) (harg2 : arg2.IsWhole) (arg3 : Memref sig .tc .vmem S1x2048x1024 .f32) (harg3 : arg3.IsWhole) (arg4 : Memref sig .tc .vmem S1536x1024 .bf16) (harg4 : arg4.IsWhole) (arg5 : Memref sig .tc .vmem S2048x1024 .bf16) (harg5 : arg5.IsWhole) (hc0 : cond0_0 i)
    (x0 : Vec F S1536x2048 .bf16) (x1 : Vec F S1x2048x1024 .f32) :
    out0_A_2 c i arg2 harg2 arg3 harg3 arg4 harg4 arg5 harg5 hc0 x0 x1 = k0_pay2 x0 (k0_pay1 x1) := by
  unfold out0_A_2
  rw [View.read_writes_junk_eq_canon]
  unfold kernelRun0_A
  dsimp only
  rw [load_x, v4_A]
  exact View.canon_unit_zero (funext fun a => by fin_cases a <;> rfl) _ _

theorem out_B (c : Dev nD) (i : grid0.Coords) (arg2 : Memref sig .tc .vmem S1536x2048 .bf16) (harg2 : arg2.IsWhole) (arg3 : Memref sig .tc .vmem S1x2048x1024 .f32) (harg3 : arg3.IsWhole) (arg4 : Memref sig .tc .vmem S1536x1024 .bf16) (harg4 : arg4.IsWhole) (arg5 : Memref sig .tc .vmem S2048x1024 .bf16) (harg5 : arg5.IsWhole) (hc0 : ¬cond0_0 i)
    (x0 : Vec F S1536x2048 .bf16) (x1 : Vec F S1x2048x1024 .f32) (xs : Vec F S2048x1024 .bf16) :
    out0_B_2 c i arg2 harg2 arg3 harg3 arg4 harg4 arg5 harg5 hc0 x0 x1 xs = k0_pay2 x0 xs := by
  unfold out0_B_2
  rw [View.read_writes_junk_eq_canon]
  unfold kernelRun0_B
  dsimp only
  rw [load_x, load_s]
  exact View.canon_unit_zero (funext fun a => by fin_cases a <;> rfl) _ _

end Cert.ProjectQkvIdeal.Hand

end
-- ==== Proof.ProjectQkv.Value.lean ====
/- What the projection's call leaves in its result. -/
module

public import proofs.«01_k».proof.Proof.ProjectQkv.Stage
public import Idealize.ShloMosaic.Lib.Pointwise
public import Idealize.ShloMosaic.Lib.Pipeline.ReadBack
public import Idealize.ShloMosaic.Lib.Pipeline.ValueKit
public import Idealize.ShloMosaic.Lib.ValueIdx
public import Idealize.ShloMosaic.PureOps.Ideal.Laws

@[expose] public section

set_option maxRecDepth 16384
set_option synthInstance.maxSize 4096

noncomputable section

namespace Cert.ProjectQkvIdeal.Hand

open Idealize.ShloMosaic Idealize.ShloMosaic.TcCoe Idealize.ShloMosaic.Tactic
open Idealize.ShloMosaic.Pointwise Idealize.SL.Sem
open Cert.ProjectQkvIdeal Cert.ProjectQkvIdeal.Gen
open Idealize.ShloMosaic.Pipeline (Dat)

variable {F : FTy → Type} [FloatOps F]

variable (m : (ℓ : Loc nD τ sig) → Buf (Elt F) ℓ) (c : Dev nD)

theorem ix : ∀ t : Fin grid0.N, cc0_transform_0 (grid0.coords t) = ![t.val % 22, 0] ∧ cc0_transform_1 (grid0.coords t) = ![0, 0, t.val / 22]
    ∧ cc0_transform_2 (grid0.coords t) = ![t.val % 22, t.val / 22] := by decide +kernel

/-- Row `p` of row block `i`, and column `n` of column block `j`. -/
abbrev row (t : Fin cfg0.N) (p : Fin 1536) : Fin 33792 := ⟨1536 * (t.val % 22) + p.val, by omega⟩
abbrev col (t : Fin cfg0.N) (n : Fin 1024) : Fin 6144 := ⟨1024 * (t.val / 22) + n.val, by
  have ht : t.val < 132 := Nat.lt_of_lt_of_eq t.isLt N_0
  omega⟩

theorem blk_x (t : Fin cfg0.N) (p : Fin 1536) (k : Fin 2048) :
    iblk m c 0 t (ix2 p k) = m ((c : Thread nD τ).loc main_arg0) (ix2 (row t p) k) := by
  have e : win0_0.index t = ![t.val % 22, 0] := (ix t).1
  blk_ext [iblk, row] <;> rw [e]
  · show t.val % 22 * 1536 + p.val = _
    omega
  · show 0 * 2048 + k.val = _
    omega

theorem blk_w (t : Fin cfg0.N) (k : Fin 2048) (n : Fin 1024) :
    iblk m c 1 t (ix3 0 k n) = m ((c : Thread nD τ).loc main_arg1) (ix3 0 k (col t n)) := by
  have e : win0_1.index t = ![0, 0, t.val / 22] := (ix t).2.1
  blk_ext [iblk, col] <;> rw [e]
  · rfl
  · show 0 * 2048 + k.val = _
    omega
  · show t.val / 22 * 1024 + n.val = _
    omega

/-- A column block's weights stay for all its row blocks. -/
theorem X_pred (t t' : Fin cfg0.N) (h : t.val / 22 = t'.val / 22) : iblk m c 1 t = iblk m c 1 t' := by
  funext j
  obtain ⟨z, k, n, rfl⟩ : ∃ (z : Fin 1) (k : Fin 2048) (n : Fin 1024), j = ix3 z k n := ⟨j 0, j 1, j 2, by funext a; fin_cases a <;> rfl⟩
  obtain rfl : z = 0 := Subsingleton.elim _ _
  rw [blk_w, blk_w]
  have e : col t n = col t' n := Fin.ext (by show 1024 * _ + _ = 1024 * _ + _; rw [h])
  rw [e]

theorem scratch_first (t : Fin cfg0.N) (h0 : t.val % 22 = 0) : (outsAt0 m c t.val t.isLt).2 = k0_pay1 (iblk m c 1 t) := by
  have e := outsAt0_A m c t h0
  generalize outsAt0 m c t.val t.isLt = o at e ⊢
  subst e
  dsimp only
  rw [sout_A]
theorem scratch_next (t : Fin cfg0.N) (h0 : ¬t.val % 22 = 0) :
    (outsAt0 m c t.val t.isLt).2 = (outsAt0 m c (t.val - 1) (Nat.lt_of_le_of_lt (Nat.sub_le _ _) t.isLt)).2 := by
  have e := outsAt0_B m c t h0
  generalize outsAt0 m c t.val t.isLt = o at e ⊢
  subst e
  dsimp only
  unfold sout0_B_0
  rfl
theorem out_first (t : Fin cfg0.N) (h0 : t.val % 22 = 0) : (outsAt0 m c t.val t.isLt).1 = k0_pay2 (iblk m c 0 t) (k0_pay1 (iblk m c 1 t)) := by
  have e := outsAt0_A m c t h0
  generalize outsAt0 m c t.val t.isLt = o at e ⊢
  subst e
  dsimp only
  rw [out_A]
theorem out_next (t : Fin cfg0.N) (h0 : ¬t.val % 22 = 0) : (outsAt0 m c t.val t.isLt).1 =
    k0_pay2 (iblk m c 0 t) (outsAt0 m c (t.val - 1) (Nat.lt_of_le_of_lt (Nat.sub_le _ _) t.isLt)).2 := by
  have e := outsAt0_B m c t h0
  generalize outsAt0 m c t.val t.isLt = o at e ⊢
  subst e
  dsimp only
  rw [out_B]

/-- After every point the scratch holds the weights the point's window holds. -/
theorem scratch_at (n : ℕ) : ∀ t : Fin cfg0.N, t.val = n → (outsAt0 m c t.val t.isLt).2 = k0_pay1 (iblk m c 1 t) := by
  induction n with
  | zero => exact fun t ht => scratch_first m c t (by rw [ht])
  | succ n ih =>
    intro t ht
    by_cases h0 : t.val % 22 = 0
    · exact scratch_first m c t h0
    · refine (scratch_next m c t h0).trans ((ih ⟨t.val - 1, Nat.lt_of_le_of_lt (Nat.sub_le _ _) t.isLt⟩ (by show t.val - 1 = n; omega)).trans ?_)
      rw [X_pred m c ⟨t.val - 1, Nat.lt_of_le_of_lt (Nat.sub_le _ _) t.isLt⟩ t (by show (t.val - 1) / 22 = t.val / 22; omega)]

theorem out_at (t : Fin cfg0.N) : (outsAt0 m c t.val t.isLt).1 = k0_pay2 (iblk m c 0 t) (k0_pay1 (iblk m c 1 t)) := by
  by_cases h0 : t.val % 22 = 0
  · exact out_first m c t h0
  · rw [out_next m c t h0, ← scratch_next m c t h0, scratch_at m c t.val t rfl]

end Cert.ProjectQkvIdeal.Hand

namespace Cert.ProjectQkvIdeal.Hand

open Idealize.ShloMosaic Idealize.ShloMosaic.TcCoe Idealize.ShloMosaic.Tactic
open Idealize.ShloMosaic.Pointwise Idealize.SL.Sem
open Cert.ProjectQkvIdeal Cert.ProjectQkvIdeal.Gen
open Idealize.ShloMosaic.Pipeline (Dat)

variable (m : (ℓ : Loc nD τ sig) → Buf (Elt Ideal) ℓ) (c : Dev nD)

theorem pay1_apply (x : Vec Ideal S1x2048x1024 .f32) (k : Fin 2048) (n : Fin 1024) : k0_pay1 (F := Ideal) x (ix2 k n) = x (ix3 0 k n) := by
  pointwise [k0_pay1]
theorem pay2_apply (x : Vec Ideal S1536x2048 .bf16) (w : Vec Ideal S2048x1024 .bf16) (p : Fin 1536) (n : Fin 1024) :
    k0_pay2 (F := Ideal) x w (ix2 p n) = ∑ k : Fin 2048, x (ix2 p k) * w (ix2 k n) := by
  pointwise [k0_pay2]

/-- A row of the first array times a column of the second's first matrix. -/
def dot (x : S33792x2048.Idx → EReal) (w : S2x2048x6144.Idx → EReal) (r : Fin 33792) (n : Fin 6144) : EReal :=
  ∑ k : Fin 2048, x (ix2 r k) * w (ix3 0 k n)
/-- Every row times every column of the first layer's weights. -/
def res : S33792x6144.Idx → EReal := fun i =>
  dot (m ((c : Thread nD τ).loc main_arg0)) (m ((c : Thread nD τ).loc main_arg1)) (i 0) ⟨(i 1).val, lt_of_lt_of_le (i 1).isLt (by decide)⟩

theorem arr2 : (dats (F := Ideal) m 0 c).arrAt 2 cfg0.N = res m c := by
  refine (dats m 0 c).arrAt_eq_of_covers 2 _ (by decide +kernel) fun t hf y => ?_
  blk_simp
  rw [after0_2, out_at]
  obtain ⟨p, n, rfl⟩ : ∃ (p : Fin 1536) (n : Fin 1024), y = ix2 p n := ⟨y 0, y 1, by funext a; fin_cases a <;> rfl⟩
  have e : ((cfg0.win 2).blk t).view.emb (ix2 p n) = (ix2 (row t p) ⟨(col t n).val, by
      have ht : t.val < 132 := Nat.lt_of_lt_of_eq t.isLt N_0
      show 1024 * (t.val / 22) + n.val < 6144
      omega⟩ : S33792x6144.Idx) := by
    have e' : win0_2.index t = ![t.val % 22, t.val / 22] := (ix t).2.2
    blk_ext [row, col] <;> rw [e']
    · show t.val % 22 * 1536 + p.val = _
      omega
    · show t.val / 22 * 1024 + n.val = _
      omega
  rw [e]
  refine (pay2_apply _ _ p n).trans ?_
  unfold res dot
  refine Finset.sum_congr rfl fun k _ => ?_
  rw [pay1_apply, blk_x, blk_w]
  rfl

theorem run (g : Dev nD → PrngReg) : θ_run defs (onTc (τ := τ) (main (F := Ideal))) ⟨m, fun _ => 0, g⟩ (fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from run_main m g & unchanged m g
  · exact arr2 m c

end Cert.ProjectQkvIdeal.Hand

end
-- ==== Proof.ProjectQkv.Claim.lean ====
/- The claims about the attention layers' projection. -/
module

public import proofs.«01_k».proof.Defs
public import proofs.«01_k».proof.Proof.ProjectQkv.Value
public import proofs.«01_k».proof.Proof.Gen.ProjectQkv
public import proofs.«01_k».proof.Proof.Gen.ProjectQkvReferenceIdeal.Run
public import proofs.«01_k».proof.Proof.Gen.ProjectQkvReferenceIdeal.Read
public import Idealize.ShloMosaic.Lib.Claim

@[expose] public section

noncomputable section

namespace Cert.Proof

open Idealize Idealize.ShloMosaic Idealize.SL.Sem

/-- The program as printed has the same text: its body table is the same one. -/
theorem projectQkv_defs₀ : Cert.ProjectQkv.defs₀ (F := Bits) = Cert.ProjectQkvIdeal.defs₀ (F := Bits) := by
  unfold Cert.ProjectQkv.defs₀ Cert.ProjectQkvIdeal.defs₀
  refine congrArg Defs.onTc ?_
  funext l a
  match l, a with
  | ⟨0, _⟩, (t, s) => rfl

theorem projectQkv_defs : Cert.ProjectQkv.defs (F := Bits) = Cert.ProjectQkvIdeal.defs (F := Bits) :=
  congrArg (Pipeline.defs _) projectQkv_defs₀

/-- So its run is the same one, at the machine's floats. -/
theorem frame_projectQkv : Cert.quiescent_ProjectQkv := fun m ρ _ => by
  rw [projectQkv_defs]
  exact Cert.ProjectQkvIdeal.Gen.frame (F := Bits) m ρ

theorem frame_projectQkvIdeal : Cert.quiescent_ProjectQkvIdeal := fun m ρ _ => Cert.ProjectQkvIdeal.Gen.frame m ρ

theorem frame_projectQkvReference : Cert.quiescent_ProjectQkvReferenceIdeal := fun m ρ _ =>
  (θ_run Cert.ProjectQkvReferenceIdeal.defs _ _).mono (fun r h => ⟨fun c => (h c).2,
      Idealize.ShloMosaic.sem_eq_zero_of_no_sems (by decide) r.2⟩)
    (Cert.ProjectQkvReferenceIdeal.Value.run (F := Ideal) m ρ)

theorem algebraic_projectQkv : Cert.algebraic_ProjectQkvIdeal_ProjectQkvReferenceIdeal := by
  intro m g m' g' _ hagree
  refine ⟨Cert.ProjectQkvIdeal.Hand.res m, Cert.ProjectQkvIdeal.Hand.run m g, ?_⟩
  refine (θ_run Cert.ProjectQkvReferenceIdeal.defs _ _).mono (fun r h c => ?_) (Cert.ProjectQkvReferenceIdeal.Value.run (F := Ideal) m' g')
  obtain ⟨h0, h1⟩ := hagree c
  obtain ⟨r0, ra⟩ := h c
  refine ⟨r0.trans ?_, ra⟩
  refine (Cert.ProjectQkvReferenceIdeal.Read.val_main_v4_eq (F := Ideal) _ _).trans ?_
  rw [h0, h1]
  funext i
  obtain ⟨t, e, rfl⟩ : ∃ (t : Fin 33792) (e : Fin 6144), i = ix2 t e := ⟨i 0, i 1, by funext a; match a with | ⟨0, _⟩ => rfl | ⟨1, _⟩ => rfl⟩
  rw [Cert.ProjectQkvReferenceIdeal.Read.val_main_v4_apply,
    Cert.ProjectQkvReferenceIdeal.Read.val_main_v3_apply]
  show (_ : EReal) = Cert.ProjectQkvIdeal.Hand.dot _ _ _ _
  unfold Cert.ProjectQkvIdeal.Hand.dot
  refine Finset.sum_congr rfl fun (k : Fin 2048) _ => ?_
  rw [Cert.ProjectQkvReferenceIdeal.Read.val_main_v0_apply, Cert.ProjectQkvReferenceIdeal.Read.val_main_v2_apply,
    Cert.ProjectQkvReferenceIdeal.Read.val_main_v1_apply]
  have hk : k.val < 2048 := k.isLt
  have he : e.val < 6144 := e.isLt
  refine congr (congrArg HMul.hMul ?_) ?_
  · show m _ _ = m _ _
    refine congrArg (m _) (funext fun a => ?_)
    match a with
    | ⟨0, _⟩ => rfl
    | ⟨1, _⟩ => rfl
  · refine congrArg (m _) (funext fun a => ?_)
    match a with
    | ⟨0, _⟩ => rfl
    | ⟨1, _⟩ => exact Fin.ext (show (k.val * 6144 + e.val) / 6144 % 2048 = k.val by omega)
    | ⟨2, _⟩ => exact Fin.ext (show (k.val * 6144 + e.val) % 6144 = e.val by omega)

end Cert.Proof

end
-- ==== Proof.MixerOut.Value.lean ====
/- What the output projection's call leaves in its two results. -/
module

public import proofs.«01_k».proof.Proof.Gen.MixerOutIdeal.Value
public import Idealize.ShloMosaic.Lib.Pointwise
public import Idealize.ShloMosaic.Lib.Pipeline.ReadBack
public import Idealize.ShloMosaic.Lib.Pipeline.ValueKit
public import Idealize.ShloMosaic.Lib.ValueIdx
public import Idealize.ShloMosaic.PureOps.Ideal.Laws

@[expose] public section

set_option maxRecDepth 16384
set_option synthInstance.maxSize 4096

noncomputable section

namespace Cert.MixerOutIdeal.Hand

open Idealize.ShloMosaic Idealize.ShloMosaic.TcCoe Idealize.ShloMosaic.Tactic
open Idealize.ShloMosaic.Pointwise Idealize.SL.Sem
open Cert.MixerOutIdeal Cert.MixerOutIdeal.Gen
open Idealize.ShloMosaic.Pipeline (Dat)

/-- The layer norm of a row `z`, at its column `d`, with gain `g` and offset `b` there. -/
def rowNorm (z : Fin 2048 → EReal) (g b : EReal) (d : Fin 2048) : EReal :=
  (z d - Ideal.div (∑ k, z k) (Ideal.ofBits FTy.f32 0x45000000#32))
    * Ideal.rsqrt (Ideal.div (∑ j, (z j - Ideal.div (∑ k, z k) (Ideal.ofBits FTy.f32 0x45000000#32))
        * (z j - Ideal.div (∑ k, z k) (Ideal.ofBits FTy.f32 0x45000000#32))) (Ideal.ofBits FTy.f32 0x45000000#32)
      + Ideal.ofBits FTy.f32 0x3727C5AC#32) * g + b
/-- A row's residual and its product with the output weights, at column `d`. -/
def mix (x h : Fin 2048 → EReal) (w : S2048x2048.Idx → EReal) (d : Fin 2048) : EReal :=
  Ideal.ofBits FTy.f32 0x3FD744FD#32 * x d + ∑ k : Fin 2048, h k * w (ix2 k d)

theorem pay1_apply (h : Vec Ideal S256x2048 .bf16) (w : Vec Ideal S2048x2048 .bf16) (x : Vec Ideal S256x2048 .f32) (g b : Vec Ideal S1x2048 .f32)
    (p : Fin 256) (d : Fin 2048) : k0_pay1 (F := Ideal) h w x g b (ix2 p d)
      = rowNorm (mix (fun k => x (ix2 p k)) (fun k => h (ix2 p k)) w) (g (ix2 0 d)) (b (ix2 0 d)) d := by
  unfold rowNorm mix
  pointwise [k0_pay1]
theorem pay2_apply (h : Vec Ideal S256x2048 .bf16) (w : Vec Ideal S2048x2048 .bf16) (x : Vec Ideal S256x2048 .f32) (g b : Vec Ideal S1x2048 .f32)
    (p : Fin 256) (d : Fin 2048) : k0_pay2 (F := Ideal) h w x g b (ix2 p d)
      = rowNorm (mix (fun k => x (ix2 p k)) (fun k => h (ix2 p k)) w) (g (ix2 0 d)) (b (ix2 0 d)) d :=
  pay1_apply h w x g b p d

variable (m : (ℓ : Loc nD τ sig) → Buf (Elt Ideal) ℓ) (c : Dev nD)

theorem ix : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] :=
  (by decide +kernel : ∀ t : Fin grid0.N, _)

/-- Row `p` of row block `t`. -/
abbrev row (t : Fin cfg0.N) (p : Fin 256) : Fin 33792 := ⟨256 * t.val + p.val, by
  have ht : t.val < 132 := Nat.lt_of_lt_of_eq t.isLt N_0
  omega⟩

theorem V_w (k d : Fin 2048) : (V m c main_v0 : S2048x2048.Idx → EReal) (ix2 k d)
    = (m ((c : Thread nD τ).loc main_arg1) : S2048x2048.Idx → EReal) (ix2 k d) := by
  dsimp only [V, hostOps0, List.flatten_cons, List.flatten_nil, List.append_nil, List.cons_append, List.nil_append]
  after_results
  pointwise
theorem V_g (d : Fin 2048) : (V m c main_v1 : S1x2048.Idx → EReal) (ix2 0 d)
    = (m ((c : Thread nD τ).loc main_arg3) : S2048.Idx → EReal) (ix1 d) := by
  dsimp only [V, hostOps0, List.flatten_cons, List.flatten_nil, List.append_nil, List.cons_append, List.nil_append]
  after_results
  pointwise
theorem V_b (d : Fin 2048) : (V m c main_v2 : S1x2048.Idx → EReal) (ix2 0 d)
    = (m ((c : Thread nD τ).loc main_arg4) : S2048.Idx → EReal) (ix1 d) := by
  dsimp only [V, hostOps0, List.flatten_cons, List.flatten_nil, List.append_nil, List.cons_append, List.nil_append]
  after_results
  pointwise

theorem blk_h (t : Fin cfg0.N) (p : Fin 256) (k : Fin 2048) :
    iblk m c 0 t (ix2 p k) = m ((c : Thread nD τ).loc main_arg0) (ix2 (row t p) k) := by
  rw [← V_main_arg0 m c]
  have e : win0_0.index t = ![t.val, 0] := (ix t).1
  blk_ext [iblk, row] <;> rw [e]
  · show t.val * 256 + p.val = _
    omega
  · show 0 * 2048 + k.val = _
    omega
theorem blk_w (t : Fin cfg0.N) : iblk m c 1 t = fun j => V m c main_v0 j := by
  have e : win0_1.index t = ![0, 0] := (ix t).2.1
  funext j
  blk_ext [iblk, e]
theorem blk_x (t : Fin cfg0.N) (p : Fin 256) (k : Fin 2048) :
    iblk m c 2 t (ix2 p k) = m ((c : Thread nD τ).loc main_arg2) (ix2 (row t p) k) := by
  rw [← V_main_arg2 m c]
  have e : win0_2.index t = ![t.val, 0] := (ix t).2.2.1
  blk_ext [iblk, row] <;> rw [e]
  · show t.val * 256 + p.val = _
    omega
  · show 0 * 2048 + k.val = _
    omega
theorem blk_g (t : Fin cfg0.N) : iblk m c 3 t = fun j => V m c main_v1 j := by
  have e : win0_3.index t = ![0, 0] := (ix t).2.2.2.1
  funext j
  blk_ext [iblk, e]
theorem blk_b (t : Fin cfg0.N) : iblk m c 4 t = fun j => V m c main_v2 j := by
  have e : win0_4.index t = ![0, 0] := (ix t).2.2.2.2.1
  funext j
  blk_ext [iblk, e]

/-- A result's element, from the arguments. -/
def resAt (r : Fin 33792) (d : Fin 2048) : EReal :=
  rowNorm (mix (fun k => m ((c : Thread nD τ).loc main_arg2) (ix2 r k)) (fun k => m ((c : Thread nD τ).loc main_arg0) (ix2 r k))
    (m ((c : Thread nD τ).loc main_arg1))) (m ((c : Thread nD τ).loc main_arg3) (ix1 d)) (m ((c : Thread nD τ).loc main_arg4) (ix1 d)) d
def res : S33792x2048.Idx → EReal := fun i => resAt m c (i 0) (i 1)

theorem V_wF : (V m c main_v0 : S2048x2048.Idx → EReal) = m ((c : Thread nD τ).loc main_arg1) := by
  funext j
  obtain ⟨k, d, rfl⟩ : ∃ (k : Fin 2048) (d : Fin 2048), j = ix2 k d := ⟨j 0, j 1, by funext a; fin_cases a <;> rfl⟩
  exact V_w m c k d

theorem norm_blk (t : Fin cfg0.N) (p : Fin 256) (d : Fin 2048) :
    rowNorm (mix (fun k => iblk m c 2 t (ix2 p k)) (fun k => iblk m c 0 t (ix2 p k)) (iblk m c 1 t)) (iblk m c 3 t (ix2 0 d)) (iblk m c 4 t (ix2 0 d)) d
      = resAt m c (row t p) d := by
  have hx : (fun k : Fin 2048 => (iblk m c 2 t (ix2 p k) : EReal)) = fun k => m ((c : Thread nD τ).loc main_arg2) (ix2 (row t p) k) :=
    funext fun k => blk_x m c t p k
  have hh : (fun k : Fin 2048 => (iblk m c 0 t (ix2 p k) : EReal)) = fun k => m ((c : Thread nD τ).loc main_arg0) (ix2 (row t p) k) :=
    funext fun k => blk_h m c t p k
  have hw : (iblk m c 1 t : S2048x2048.Idx → EReal) = m ((c : Thread nD τ).loc main_arg1) := (blk_w m c t).trans (V_wF m c)
  have hg : (iblk m c 3 t (ix2 0 d) : EReal) = m ((c : Thread nD τ).loc main_arg3) (ix1 d) := (congrFun (blk_g m c t) _).trans (V_g m c d)
  have hb : (iblk m c 4 t (ix2 0 d) : EReal) = m ((c : Thread nD τ).loc main_arg4) (ix1 d) := (congrFun (blk_b m c t) _).trans (V_b m c d)
  unfold resAt
  exact congr (congr (congr (congrArg rowNorm (congr (congr (congrArg mix hx) hh) hw)) hg) hb) rfl

section
variable {F : FTy → Type} [FloatOps F]
theorem ld_r0 {e : EltTy} (x : Vec F S256x2048 e) : View.ld x r0_0 = x := View.ld_unit_zero (S := S256x2048) (funext fun a => by fin_cases a <;> rfl) _ x
theorem ld_r1 {e : EltTy} (x : Vec F S2048x2048 e) : View.ld x r0_1 = x := View.ld_unit_zero (S := S2048x2048) (funext fun a => by fin_cases a <;> rfl) _ x
theorem ld_r2 {e : EltTy} (x : Vec F S1x2048 e) : View.ld x r0_2 = x := View.ld_unit_zero (S := S1x2048) (funext fun a => by fin_cases a <;> rfl) _ x
theorem out5 (h : Vec F S256x2048 .bf16) (w : Vec F S2048x2048 .bf16) (x : Vec F S256x2048 .f32) (g b : Vec F S1x2048 .f32) :
    out0_5 h w x g b = k0_pay1 h w x g b := by
  unfold out0_5
  rw [ld_r0, ld_r0, ld_r1, ld_r2, ld_r2]
  exact View.canon_unit_zero (funext fun a => by fin_cases a <;> rfl) _ _
theorem out6 (h : Vec F S256x2048 .bf16) (w : Vec F S2048x2048 .bf16) (x : Vec F S256x2048 .f32) (g b : Vec F S1x2048 .f32) :
    out0_6 h w x g b = k0_pay2 h w x g b := by
  unfold out0_6
  rw [ld_r0, ld_r0, ld_r1, ld_r2, ld_r2]
  exact View.canon_unit_zero (funext fun a => by fin_cases a <;> rfl) _ _
end

theorem arr5 : (dats (F := Ideal) m 0 c).arrAt 5 cfg0.N = res m c := by
  refine (dats m 0 c).arrAt_eq_of_covers 5 _ (by decide +kernel) fun t hf y => ?_
  blk_simp
  rw [after0_5, out5]
  obtain ⟨p, d, rfl⟩ : ∃ (p : Fin 256) (d : Fin 2048), y = ix2 p d := ⟨y 0, y 1, by funext a; fin_cases a <;> rfl⟩
  have e : ((cfg0.win 5).blk t).view.emb (ix2 p d) = (ix2 (row t p) d : S33792x2048.Idx) := by
    have e' : win0_5.index t = ![t.val, 0] := (ix t).2.2.2.2.2.1
    blk_ext [row] <;> rw [e']
    · show t.val * 256 + p.val = _
      omega
    · show 0 * 2048 + d.val = _
      omega
  rw [e]
  refine (pay1_apply _ _ _ _ _ p d).trans ?_
  exact norm_blk m c t p d

theorem arr6 : (dats (F := Ideal) m 0 c).arrAt 6 cfg0.N = res m c := by
  refine (dats m 0 c).arrAt_eq_of_covers 6 _ (by decide +kernel) fun t hf y => ?_
  blk_simp
  rw [after0_6, out6]
  obtain ⟨p, d, rfl⟩ : ∃ (p : Fin 256) (d : Fin 2048), y = ix2 p d := ⟨y 0, y 1, by funext a; fin_cases a <;> rfl⟩
  have e : ((cfg0.win 6).blk t).view.emb (ix2 p d) = (ix2 (row t p) d : S33792x2048.Idx) := by
    have e' : win0_6.index t = ![t.val, 0] := (ix t).2.2.2.2.2.2
    blk_ext [row] <;> rw [e']
    · show t.val * 256 + p.val = _
      omega
    · show 0 * 2048 + d.val = _
      omega
  rw [e]
  refine (pay2_apply _ _ _ _ _ p d).trans ?_
  exact norm_blk m c t p d

theorem run (g : Dev nD → PrngReg) : θ_run defs (onTc (τ := τ) (main (F := Ideal))) ⟨m, fun _ => 0, g⟩ (fun r => ∀ c : Dev nD,
      r.2.mem ((c.tc : Thread nD τ).loc main_v3_0) = res m c
      ∧ r.2.mem ((c.tc : Thread nD τ).loc main_v3_1) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (arr5 m c), (h c).2.1.trans (arr6 m c), (h c).2.2⟩)
    (Cert.MixerOutIdeal.Value.run_blocks m g)

end Cert.MixerOutIdeal.Hand

end
-- ==== Proof.MixerOut.RefValue.lean ====
/- The reference's layer norm of the mixer's output, element by element. -/
module

public import proofs.«01_k».proof.Proof.Gen.MixerOutReferenceIdeal.Read
public import proofs.«01_k».proof.Proof.MixerOut.Value

@[expose] public section

set_option maxRecDepth 16384

noncomputable section

namespace Cert.MixerOutReferenceIdeal.Hand

open Idealize.ShloMosaic
open Cert.MixerOutReferenceIdeal Cert.MixerOutReferenceIdeal.Read
open Cert.MixerOutIdeal.Hand (rowNorm mix)

variable (x0 : S33792x2048.Idx → EReal) (x1 : S2048x2048.Idx → EReal) (x2 : S33792x2048.Idx → EReal) (x3 x4 : S2048.Idx → EReal)

/-- The reference's row before its norm. -/
abbrev z (r : Fin 33792) : Fin 2048 → EReal := mix (fun k => x2 (ix2 r k)) (fun k => x0 (ix2 r k)) x1

theorem v4_at (r : Fin 33792) (d : Fin 2048) : val_main_v4 (F := Ideal) x0 x1 x2 (ix2 r d) = z x0 x1 x2 r d := by
  rw [val_main_v4_apply, val_main_v1_apply, val_main_v0_apply, val_main_cst_apply, val_main_v3_apply]
  unfold z mix
  refine congrArg₂ (fun a b : EReal => a + b) rfl (Finset.sum_congr rfl fun k _ => ?_)
  rw [val_main_v2_apply]
  refine congrArg₂ (fun a b : EReal => a * b) ?_ ?_
  · show x0 _ = x0 _
    refine congrArg x0 (funext fun a => ?_)
    match a with
    | ⟨0, _⟩ => rfl
    | ⟨1, _⟩ => rfl
  · refine congrArg x1 (funext fun a => ?_)
    match a with
    | ⟨0, _⟩ => rfl
    | ⟨1, _⟩ => rfl

/-- A row's mean. -/
abbrev mean (f : Fin 2048 → EReal) : EReal := Ideal.div (∑ k, f k) (Ideal.ofBits FTy.f32 0x45000000#32)

theorem v8_at (i : S33792x1.Idx) (r : Fin 33792) (hr : (i 0).val = r.val) : val_main_v8 (F := Ideal) x0 x1 x2 i = mean (z x0 x1 x2 r) := by
  rw [val_main_v8_apply, val_main_v6_apply, val_main_v7_apply, val_main_cst_1_apply, val_main_v5_apply, val_main_cst_0_apply]
  show Ideal.div (Ideal.ofBits FTy.f32 0x00000000#32 + _) _ = _
  rw [show Ideal.ofBits FTy.f32 0x00000000#32 = (0 : EReal) from by simp, zero_add]
  refine congrArg₂ Ideal.div (Finset.sum_congr rfl fun k _ => ?_) rfl
  rw [← v4_at]
  refine congrArg _ (funext fun a => ?_)
  match a with
  | ⟨0, _⟩ => exact Fin.ext hr
  | ⟨1, _⟩ => rfl

theorem v10_at (r : Fin 33792) (d : Fin 2048) : val_main_v10 (F := Ideal) x0 x1 x2 (ix2 r d) = z x0 x1 x2 r d - mean (z x0 x1 x2 r) := by
  rw [val_main_v10_apply, v4_at, val_main_v9_apply, v8_at x0 x1 x2 _ r rfl]
  rfl
theorem v17_at (r : Fin 33792) (d : Fin 2048) : val_main_v17 (F := Ideal) x0 x1 x2 (ix2 r d) = z x0 x1 x2 r d - mean (z x0 x1 x2 r) := by
  rw [val_main_v17_apply, v4_at, val_main_v16_apply, v8_at x0 x1 x2 _ r rfl]
  rfl

theorem v15_at (i : S33792x1.Idx) (r : Fin 33792) (hr : (i 0).val = r.val) : val_main_v15 (F := Ideal) x0 x1 x2 i
    = mean (fun d => (z x0 x1 x2 r d - mean (z x0 x1 x2 r)) * (z x0 x1 x2 r d - mean (z x0 x1 x2 r))) := by
  rw [val_main_v15_apply, val_main_v13_apply, val_main_v14_apply, val_main_cst_3_apply, val_main_v12_apply, val_main_cst_2_apply]
  show Ideal.div (Ideal.ofBits FTy.f32 0x00000000#32 + _) _ = _
  rw [show Ideal.ofBits FTy.f32 0x00000000#32 = (0 : EReal) from by simp, zero_add]
  refine congrArg₂ Ideal.div (Finset.sum_congr rfl fun k _ => ?_) rfl
  rw [val_main_v11_apply, show idx_main_v12 (idx_main_v13 i) k = ix2 r k from funext fun a => by
    match a with
    | ⟨0, _⟩ => exact Fin.ext hr
    | ⟨1, _⟩ => rfl, v10_at]
  rfl

theorem v28_at (r : Fin 33792) (d : Fin 2048) : val_main_v28 (F := Ideal) x0 x1 x2 x3 x4 (ix2 r d)
    = rowNorm (z x0 x1 x2 r) (x3 (ix1 d)) (x4 (ix1 d)) d := by
  have h3 : idx_main_v23 (idx_main_v24 (ix2 r d)) = ix1 d := funext fun a => by
    match a with
    | ⟨0, _⟩ => rfl
  have h4 : idx_main_v26 (idx_main_v27 (ix2 r d)) = ix1 d := funext fun a => by
    match a with
    | ⟨0, _⟩ => rfl
  rw [val_main_v28_apply, val_main_v25_apply, val_main_v22_apply, v17_at, val_main_v21_apply, val_main_v20_apply, val_main_v19_apply,
    v15_at x0 x1 x2 _ r rfl, val_main_v18_apply, val_main_cst_4_apply, val_main_v24_apply, val_main_v23_apply, val_main_v27_apply,
    val_main_v26_apply, h3, h4]
  rfl

end Cert.MixerOutReferenceIdeal.Hand

end
-- ==== Proof.MixerOut.Claim.lean ====
/- The claims about the output projection with its layer norm. -/
module

public import proofs.«01_k».proof.Defs
public import proofs.«01_k».proof.Proof.MixerOut.Value
public import proofs.«01_k».proof.Proof.MixerOut.RefValue
public import proofs.«01_k».proof.Proof.Gen.MixerOut
public import proofs.«01_k».proof.Proof.Gen.MixerOutReferenceIdeal.Run
public import proofs.«01_k».proof.Proof.Gen.MixerOutReferenceIdeal.Read
public import Idealize.ShloMosaic.Lib.Claim

@[expose] public section

noncomputable section

namespace Cert.Proof

open Idealize Idealize.ShloMosaic Idealize.SL.Sem

/-- The program as printed has the same text: its body table is the same one. -/
theorem mixerOut_defs₀ : Cert.MixerOut.defs₀ (F := Bits) = Cert.MixerOutIdeal.defs₀ (F := Bits) := by
  unfold Cert.MixerOut.defs₀ Cert.MixerOutIdeal.defs₀
  refine congrArg Defs.onTc ?_
  funext l a
  match l, a with
  | ⟨0, _⟩, (t, s) => rfl

theorem mixerOut_defs : Cert.MixerOut.defs (F := Bits) = Cert.MixerOutIdeal.defs (F := Bits) :=
  congrArg (Pipeline.defs _) mixerOut_defs₀

/-- So its run is the same one, at the machine's floats. -/
theorem frame_mixerOut : Cert.quiescent_MixerOut := fun m ρ _ => by
  rw [mixerOut_defs]
  exact Cert.MixerOutIdeal.Gen.frame (F := Bits) m ρ

theorem frame_mixerOutIdeal : Cert.quiescent_MixerOutIdeal := fun m ρ _ => Cert.MixerOutIdeal.Gen.frame m ρ

theorem frame_mixerOutReference : Cert.quiescent_MixerOutReferenceIdeal := fun m ρ _ =>
  (θ_run Cert.MixerOutReferenceIdeal.defs _ _).mono (fun r h => ⟨fun c => (h c).2.2,
      Idealize.ShloMosaic.sem_eq_zero_of_no_sems (by decide) r.2⟩)
    (Cert.MixerOutReferenceIdeal.Value.run (F := Ideal) m ρ)

theorem algebraic_mixerOut : Cert.algebraic_MixerOutIdeal_MixerOutReferenceIdeal := by
  intro m g m' g' _ hagree
  refine ⟨Cert.MixerOutIdeal.Hand.res m, Cert.MixerOutIdeal.Hand.res m, Cert.MixerOutIdeal.Hand.run m g, ?_⟩
  refine (θ_run Cert.MixerOutReferenceIdeal.defs _ _).mono (fun r h c => ?_) (Cert.MixerOutReferenceIdeal.Value.run (F := Ideal) m' g')
  obtain ⟨h0, h1, h2, h3, h4⟩ := hagree c
  obtain ⟨r0, r1, ra⟩ := h c
  refine ⟨r0.trans ?_, r1.trans ?_, ra⟩
  · refine (Cert.MixerOutReferenceIdeal.Read.val_main_v28_eq (F := Ideal) _ _ _ _ _).trans ?_
    rw [h0, h1, h2, h3, h4]
    funext i
    obtain ⟨t, e, rfl⟩ : ∃ (t : Fin 33792) (e : Fin 2048), i = ix2 t e := ⟨i 0, i 1, by funext a; match a with | ⟨0, _⟩ => rfl | ⟨1, _⟩ => rfl⟩
    exact Cert.MixerOutReferenceIdeal.Hand.v28_at _ _ _ _ _ t e
  · refine (Cert.MixerOutReferenceIdeal.Read.val_main_v29_eq (F := Ideal) _ _ _ _ _).trans ?_
    rw [h0, h1, h2, h3, h4]
    funext i
    obtain ⟨t, e, rfl⟩ : ∃ (t : Fin 33792) (e : Fin 2048), i = ix2 t e := ⟨i 0, i 1, by funext a; match a with | ⟨0, _⟩ => rfl | ⟨1, _⟩ => rfl⟩
    rw [Cert.MixerOutReferenceIdeal.Read.val_main_v29_apply]
    exact Cert.MixerOutReferenceIdeal.Hand.v28_at _ _ _ _ _ t e

end Cert.Proof

end
-- ==== Proof.LayerOut.Value.lean ====
/- What the last layer norm's call leaves in its two results. -/
module

public import proofs.«01_k».proof.Proof.Gen.LayerOutIdeal.Value
public import proofs.«01_k».proof.Proof.MixerOut.Value
public import Idealize.ShloMosaic.Lib.Pointwise
public import Idealize.ShloMosaic.Lib.Pipeline.ReadBack
public import Idealize.ShloMosaic.Lib.Pipeline.ValueKit
public import Idealize.ShloMosaic.Lib.ValueIdx
public import Idealize.ShloMosaic.PureOps.Ideal.Laws

@[expose] public section

set_option maxRecDepth 16384
set_option synthInstance.maxSize 4096

noncomputable section

namespace Cert.LayerOutIdeal.Hand

open Idealize.ShloMosaic Idealize.ShloMosaic.TcCoe Idealize.ShloMosaic.Tactic
open Idealize.ShloMosaic.Pointwise Idealize.SL.Sem
open Cert.LayerOutIdeal Cert.LayerOutIdeal.Gen
open Idealize.ShloMosaic.Pipeline (Dat)
open Cert.MixerOutIdeal.Hand (rowNorm)

/-- A row's residual and the experts' row, at column `d`. -/
def mix (x y : Fin 2048 → EReal) (d : Fin 2048) : EReal := Ideal.ofBits FTy.f32 0x3FD744FD#32 * x d + y d

theorem pay1_apply (x y : Vec Ideal S512x2048 .f32) (g b : Vec Ideal S1x2048 .f32) (p : Fin 512) (d : Fin 2048) :
    k0_pay1 (F := Ideal) x y g b (ix2 p d) = rowNorm (mix (fun k => x (ix2 p k)) (fun k => y (ix2 p k))) (g (ix2 0 d)) (b (ix2 0 d)) d := by
  unfold rowNorm mix
  pointwise [k0_pay1]
theorem pay2_apply (x y : Vec Ideal S512x2048 .f32) (g b : Vec Ideal S1x2048 .f32) (p : Fin 512) (d : Fin 2048) :
    k0_pay2 (F := Ideal) x y g b (ix2 p d) = rowNorm (mix (fun k => x (ix2 p k)) (fun k => y (ix2 p k))) (g (ix2 0 d)) (b (ix2 0 d)) d :=
  pay1_apply x y g b p d

variable (m : (ℓ : Loc nD τ sig) → Buf (Elt Ideal) ℓ) (c : Dev nD)

theorem ix : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

/-- Row `p` of row block `t`. -/
abbrev row (t : Fin cfg0.N) (p : Fin 512) : Fin 33792 := ⟨512 * t.val + p.val, by
  have ht : t.val < 66 := Nat.lt_of_lt_of_eq t.isLt N_0
  omega⟩

theorem V_g (d : Fin 2048) : (V m c main_v0 : S1x2048.Idx → EReal) (ix2 0 d)
    = (m ((c : Thread nD τ).loc main_arg2) : S2048.Idx → EReal) (ix1 d) := by
  dsimp only [V, hostOps0, List.flatten_cons, List.flatten_nil, List.append_nil, List.cons_append, List.nil_append]
  after_results
  pointwise
theorem V_b (d : Fin 2048) : (V m c main_v1 : S1x2048.Idx → EReal) (ix2 0 d)
    = (m ((c : Thread nD τ).loc main_arg3) : S2048.Idx → EReal) (ix1 d) := by
  dsimp only [V, hostOps0, List.flatten_cons, List.flatten_nil, List.append_nil, List.cons_append, List.nil_append]
  after_results
  pointwise

theorem blk_x (t : Fin cfg0.N) (p : Fin 512) (k : Fin 2048) :
    iblk m c 0 t (ix2 p k) = m ((c : Thread nD τ).loc main_arg0) (ix2 (row t p) k) := by
  rw [← V_main_arg0 m c]
  have e : win0_0.index t = ![t.val, 0] := (ix t).1
  blk_ext [iblk, row] <;> rw [e]
  · show t.val * 512 + p.val = _
    omega
  · show 0 * 2048 + k.val = _
    omega
theorem blk_y (t : Fin cfg0.N) (p : Fin 512) (k : Fin 2048) :
    iblk m c 1 t (ix2 p k) = m ((c : Thread nD τ).loc main_arg1) (ix2 (row t p) k) := by
  rw [← V_main_arg1 m c]
  have e : win0_1.index t = ![t.val, 0] := (ix t).2.1
  blk_ext [iblk, row] <;> rw [e]
  · show t.val * 512 + p.val = _
    omega
  · show 0 * 2048 + k.val = _
    omega
theorem blk_g (t : Fin cfg0.N) : iblk m c 2 t = fun j => V m c main_v0 j := by
  have e : win0_2.index t = ![0, 0] := (ix t).2.2.1
  funext j
  blk_ext [iblk, e]
theorem blk_b (t : Fin cfg0.N) : iblk m c 3 t = fun j => V m c main_v1 j := by
  have e : win0_3.index t = ![0, 0] := (ix t).2.2.2.1
  funext j
  blk_ext [iblk, e]

/-- A result's element, from the arguments. -/
def resAt (r : Fin 33792) (d : Fin 2048) : EReal :=
  rowNorm (mix (fun k => m ((c : Thread nD τ).loc main_arg0) (ix2 r k)) (fun k => m ((c : Thread nD τ).loc main_arg1) (ix2 r k)))
    (m ((c : Thread nD τ).loc main_arg2) (ix1 d)) (m ((c : Thread nD τ).loc main_arg3) (ix1 d)) d
def res : S33792x2048.Idx → EReal := fun i => resAt m c (i 0) (i 1)

theorem norm_blk (t : Fin cfg0.N) (p : Fin 512) (d : Fin 2048) :
    rowNorm (mix (fun k => iblk m c 0 t (ix2 p k)) (fun k => iblk m c 1 t (ix2 p k))) (iblk m c 2 t (ix2 0 d)) (iblk m c 3 t (ix2 0 d)) d
      = resAt m c (row t p) d := by
  have hx : (fun k : Fin 2048 => (iblk m c 0 t (ix2 p k) : EReal)) = fun k => m ((c : Thread nD τ).loc main_arg0) (ix2 (row t p) k) :=
    funext fun k => blk_x m c t p k
  have hy : (fun k : Fin 2048 => (iblk m c 1 t (ix2 p k) : EReal)) = fun k => m ((c : Thread nD τ).loc main_arg1) (ix2 (row t p) k) :=
    funext fun k => blk_y m c t p k
  have hg : (iblk m c 2 t (ix2 0 d) : EReal) = m ((c : Thread nD τ).loc main_arg2) (ix1 d) := (congrFun (blk_g m c t) _).trans (V_g m c d)
  have hb : (iblk m c 3 t (ix2 0 d) : EReal) = m ((c : Thread nD τ).loc main_arg3) (ix1 d) := (congrFun (blk_b m c t) _).trans (V_b m c d)
  unfold resAt
  exact congr (congr (congr (congrArg rowNorm (congr (congrArg mix hx) hy)) hg) hb) rfl

section
variable {F : FTy → Type} [FloatOps F]
theorem ld_r0 {e : EltTy} (x : Vec F S512x2048 e) : View.ld x r0_0 = x := View.ld_unit_zero (S := S512x2048) (funext fun a => by fin_cases a <;> rfl) _ x
theorem ld_r1 {e : EltTy} (x : Vec F S1x2048 e) : View.ld x r0_1 = x := View.ld_unit_zero (S := S1x2048) (funext fun a => by fin_cases a <;> rfl) _ x
theorem out4 (x y : Vec F S512x2048 .f32) (g b : Vec F S1x2048 .f32) : out0_4 x y g b = k0_pay1 x y g b := by
  unfold out0_4
  rw [ld_r0, ld_r0, ld_r1, ld_r1]
  exact View.canon_unit_zero (funext fun a => by fin_cases a <;> rfl) _ _
theorem out5 (x y : Vec F S512x2048 .f32) (g b : Vec F S1x2048 .f32) : out0_5 x y g b = k0_pay2 x y g b := by
  unfold out0_5
  rw [ld_r0, ld_r0, ld_r1, ld_r1]
  exact View.canon_unit_zero (funext fun a => by fin_cases a <;> rfl) _ _
end

theorem arr4 : (dats (F := Ideal) m 0 c).arrAt 4 cfg0.N = res m c := by
  refine (dats m 0 c).arrAt_eq_of_covers 4 _ (by decide +kernel) fun t hf y => ?_
  blk_simp
  rw [after0_4, out4]
  obtain ⟨p, d, rfl⟩ : ∃ (p : Fin 512) (d : Fin 2048), y = ix2 p d := ⟨y 0, y 1, by funext a; fin_cases a <;> rfl⟩
  have e : ((cfg0.win 4).blk t).view.emb (ix2 p d) = (ix2 (row t p) d : S33792x2048.Idx) := by
    have e' : win0_4.index t = ![t.val, 0] := (ix t).2.2.2.2.1
    blk_ext [row] <;> rw [e']
    · show t.val * 512 + p.val = _
      omega
    · show 0 * 2048 + d.val = _
      omega
  rw [e]
  refine (pay1_apply _ _ _ _ p d).trans ?_
  exact norm_blk m c t p d

theorem arr5 : (dats (F := Ideal) m 0 c).arrAt 5 cfg0.N = res m c := by
  refine (dats m 0 c).arrAt_eq_of_covers 5 _ (by decide +kernel) fun t hf y => ?_
  blk_simp
  rw [after0_5, out5]
  obtain ⟨p, d, rfl⟩ : ∃ (p : Fin 512) (d : Fin 2048), y = ix2 p d := ⟨y 0, y 1, by funext a; fin_cases a <;> rfl⟩
  have e : ((cfg0.win 5).blk t).view.emb (ix2 p d) = (ix2 (row t p) d : S33792x2048.Idx) := by
    have e' : win0_5.index t = ![t.val, 0] := (ix t).2.2.2.2.2
    blk_ext [row] <;> rw [e']
    · show t.val * 512 + p.val = _
      omega
    · show 0 * 2048 + d.val = _
      omega
  rw [e]
  refine (pay2_apply _ _ _ _ p d).trans ?_
  exact norm_blk m c t p d

theorem run (g : Dev nD → PrngReg) : θ_run defs (onTc (τ := τ) (main (F := Ideal))) ⟨m, fun _ => 0, g⟩ (fun r => ∀ c : Dev nD,
      r.2.mem ((c.tc : Thread nD τ).loc main_v2_0) = res m c
      ∧ r.2.mem ((c.tc : Thread nD τ).loc main_v2_1) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (arr4 m c), (h c).2.1.trans (arr5 m c), (h c).2.2⟩)
    (Cert.LayerOutIdeal.Value.run_blocks m g)

end Cert.LayerOutIdeal.Hand

end
-- ==== Proof.LayerOut.RefValue.lean ====
/- The reference's last layer norm, element by element. -/
module

public import proofs.«01_k».proof.Proof.Gen.LayerOutReferenceIdeal.Read
public import proofs.«01_k».proof.Proof.LayerOut.Value

@[expose] public section

set_option maxRecDepth 16384

noncomputable section

namespace Cert.LayerOutReferenceIdeal.Hand

open Idealize.ShloMosaic
open Cert.LayerOutReferenceIdeal Cert.LayerOutReferenceIdeal.Read
open Cert.MixerOutIdeal.Hand (rowNorm)
open Cert.LayerOutIdeal.Hand (mix)

variable (x0 x1 : S33792x2048.Idx → EReal) (x2 x3 : S2048.Idx → EReal)

/-- The reference's row before its norm. -/
abbrev z (r : Fin 33792) : Fin 2048 → EReal := mix (fun k => x0 (ix2 r k)) (fun k => x1 (ix2 r k))

theorem v2_at (r : Fin 33792) (d : Fin 2048) : val_main_v2 (F := Ideal) x0 x1 (ix2 r d) = z x0 x1 r d := by
  rw [val_main_v2_apply, val_main_v1_apply, val_main_v0_apply, val_main_cst_apply]
  rfl

/-- A row's mean. -/
abbrev mean (f : Fin 2048 → EReal) : EReal := Ideal.div (∑ k, f k) (Ideal.ofBits FTy.f32 0x45000000#32)

theorem v6_at (i : S33792x1.Idx) (r : Fin 33792) (hr : (i 0).val = r.val) : val_main_v6 (F := Ideal) x0 x1 i = mean (z x0 x1 r) := by
  rw [val_main_v6_apply, val_main_v4_apply, val_main_v5_apply, val_main_cst_1_apply, val_main_v3_apply, val_main_cst_0_apply]
  show Ideal.div (Ideal.ofBits FTy.f32 0x00000000#32 + _) _ = _
  rw [show Ideal.ofBits FTy.f32 0x00000000#32 = (0 : EReal) from by simp, zero_add]
  refine congrArg₂ Ideal.div (Finset.sum_congr rfl fun k _ => ?_) rfl
  rw [← v2_at]
  refine congrArg _ (funext fun a => ?_)
  match a with
  | ⟨0, _⟩ => exact Fin.ext hr
  | ⟨1, _⟩ => rfl

theorem v8_at (r : Fin 33792) (d : Fin 2048) : val_main_v8 (F := Ideal) x0 x1 (ix2 r d) = z x0 x1 r d - mean (z x0 x1 r) := by
  rw [val_main_v8_apply, v2_at, val_main_v7_apply, v6_at x0 x1 _ r rfl]
  rfl
theorem v15_at (r : Fin 33792) (d : Fin 2048) : val_main_v15 (F := Ideal) x0 x1 (ix2 r d) = z x0 x1 r d - mean (z x0 x1 r) := by
  rw [val_main_v15_apply, v2_at, val_main_v14_apply, v6_at x0 x1 _ r rfl]
  rfl

theorem v13_at (i : S33792x1.Idx) (r : Fin 33792) (hr : (i 0).val = r.val) : val_main_v13 (F := Ideal) x0 x1 i
    = mean (fun d => (z x0 x1 r d - mean (z x0 x1 r)) * (z x0 x1 r d - mean (z x0 x1 r))) := by
  rw [val_main_v13_apply, val_main_v11_apply, val_main_v12_apply, val_main_cst_3_apply, val_main_v10_apply, val_main_cst_2_apply]
  show Ideal.div (Ideal.ofBits FTy.f32 0x00000000#32 + _) _ = _
  rw [show Ideal.ofBits FTy.f32 0x00000000#32 = (0 : EReal) from by simp, zero_add]
  refine congrArg₂ Ideal.div (Finset.sum_congr rfl fun k _ => ?_) rfl
  rw [val_main_v9_apply, show idx_main_v10 (idx_main_v11 i) k = ix2 r k from funext fun a => by
    match a with
    | ⟨0, _⟩ => exact Fin.ext hr
    | ⟨1, _⟩ => rfl, v8_at]
  rfl

theorem v26_at (r : Fin 33792) (d : Fin 2048) : val_main_v26 (F := Ideal) x0 x1 x2 x3 (ix2 r d)
    = rowNorm (z x0 x1 r) (x2 (ix1 d)) (x3 (ix1 d)) d := by
  have h3 : idx_main_v21 (idx_main_v22 (ix2 r d)) = ix1 d := funext fun a => by
    match a with
    | ⟨0, _⟩ => rfl
  have h4 : idx_main_v24 (idx_main_v25 (ix2 r d)) = ix1 d := funext fun a => by
    match a with
    | ⟨0, _⟩ => rfl
  rw [val_main_v26_apply, val_main_v23_apply, val_main_v20_apply, v15_at, val_main_v19_apply, val_main_v18_apply, val_main_v17_apply,
    v13_at x0 x1 _ r rfl, val_main_v16_apply, val_main_cst_4_apply, val_main_v22_apply, val_main_v21_apply, val_main_v25_apply,
    val_main_v24_apply, h3, h4]
  rfl

end Cert.LayerOutReferenceIdeal.Hand

end
-- ==== Proof.LayerOut.Claim.lean ====
/- The claims about the last layer norm. -/
module

public import proofs.«01_k».proof.Defs
public import proofs.«01_k».proof.Proof.LayerOut.Value
public import proofs.«01_k».proof.Proof.LayerOut.RefValue
public import proofs.«01_k».proof.Proof.Gen.LayerOut
public import proofs.«01_k».proof.Proof.Gen.LayerOutReferenceIdeal.Run
public import proofs.«01_k».proof.Proof.Gen.LayerOutReferenceIdeal.Read
public import Idealize.ShloMosaic.Lib.Claim

@[expose] public section

noncomputable section

namespace Cert.Proof

open Idealize Idealize.ShloMosaic Idealize.SL.Sem

/-- The program as printed has the same text: its body table is the same one. -/
theorem layerOut_defs₀ : Cert.LayerOut.defs₀ (F := Bits) = Cert.LayerOutIdeal.defs₀ (F := Bits) := by
  unfold Cert.LayerOut.defs₀ Cert.LayerOutIdeal.defs₀
  refine congrArg Defs.onTc ?_
  funext l a
  match l, a with
  | ⟨0, _⟩, (t, s) => rfl

theorem layerOut_defs : Cert.LayerOut.defs (F := Bits) = Cert.LayerOutIdeal.defs (F := Bits) :=
  congrArg (Pipeline.defs _) layerOut_defs₀

/-- So its run is the same one, at the machine's floats. -/
theorem frame_layerOut : Cert.quiescent_LayerOut := fun m ρ _ => by
  rw [layerOut_defs]
  exact Cert.LayerOutIdeal.Gen.frame (F := Bits) m ρ

theorem frame_layerOutIdeal : Cert.quiescent_LayerOutIdeal := fun m ρ _ => Cert.LayerOutIdeal.Gen.frame m ρ

theorem frame_layerOutReference : Cert.quiescent_LayerOutReferenceIdeal := fun m ρ _ =>
  (θ_run Cert.LayerOutReferenceIdeal.defs _ _).mono (fun r h => ⟨fun c => (h c).2.2,
      Idealize.ShloMosaic.sem_eq_zero_of_no_sems (by decide) r.2⟩)
    (Cert.LayerOutReferenceIdeal.Value.run (F := Ideal) m ρ)

theorem algebraic_layerOut : Cert.algebraic_LayerOutIdeal_LayerOutReferenceIdeal := by
  intro m g m' g' _ hagree
  refine ⟨Cert.LayerOutIdeal.Hand.res m, Cert.LayerOutIdeal.Hand.res m, Cert.LayerOutIdeal.Hand.run m g, ?_⟩
  refine (θ_run Cert.LayerOutReferenceIdeal.defs _ _).mono (fun r h c => ?_) (Cert.LayerOutReferenceIdeal.Value.run (F := Ideal) m' g')
  obtain ⟨h0, h1, h2, h3⟩ := hagree c
  obtain ⟨r0, r1, ra⟩ := h c
  refine ⟨r0.trans ?_, r1.trans ?_, ra⟩
  · refine (Cert.LayerOutReferenceIdeal.Read.val_main_v26_eq (F := Ideal) _ _ _ _).trans ?_
    rw [h0, h1, h2, h3]
    funext i
    obtain ⟨t, e, rfl⟩ : ∃ (t : Fin 33792) (e : Fin 2048), i = ix2 t e := ⟨i 0, i 1, by funext a; match a with | ⟨0, _⟩ => rfl | ⟨1, _⟩ => rfl⟩
    exact Cert.LayerOutReferenceIdeal.Hand.v26_at _ _ _ _ t e
  · refine (Cert.LayerOutReferenceIdeal.Read.val_main_v27_eq (F := Ideal) _ _ _ _).trans ?_
    rw [h0, h1, h2, h3]
    funext i
    obtain ⟨t, e, rfl⟩ : ∃ (t : Fin 33792) (e : Fin 2048), i = ix2 t e := ⟨i 0, i 1, by funext a; match a with | ⟨0, _⟩ => rfl | ⟨1, _⟩ => rfl⟩
    rw [Cert.LayerOutReferenceIdeal.Read.val_main_v27_apply]
    exact Cert.LayerOutReferenceIdeal.Hand.v26_at _ _ _ _ t e

end Cert.Proof

end
-- ==== Proof.AttnRows.Value.lean ====
/- What the attention layers' projection leaves, and the keys and values the host slices from it. -/
module

public import proofs.«01_k».proof.Proof.Gen.AttnRowsIdeal.Frame
public import Idealize.ShloMosaic.Lib.Pointwise
public import Idealize.ShloMosaic.Lib.Pipeline.ReadBack
public import Idealize.ShloMosaic.Lib.Pipeline.ValueKit
public import Idealize.ShloMosaic.Lib.ValueIdx
public import Idealize.ShloMosaic.PureOps.Ideal.Laws

@[expose] public section

set_option maxRecDepth 16384
set_option synthInstance.maxSize 4096

noncomputable section

namespace Cert.AttnRowsIdeal.Hand

open Idealize.ShloMosaic Idealize.ShloMosaic.TcCoe Idealize.ShloMosaic.Tactic
open Idealize.ShloMosaic.Pointwise Idealize.SL.Sem
open Cert.AttnRowsIdeal Cert.AttnRowsIdeal.Gen
open Idealize.ShloMosaic.Pipeline (Dat)

theorem pay1_apply (x : Vec Ideal S512x2048 .bf16) (w : Vec Ideal S2048x1024 .bf16) (p : Fin 512) (n : Fin 1024) :
    k0_pay1 (F := Ideal) x w (ix2 p n) = ∑ k : Fin 2048, x (ix2 p k) * w (ix2 k n) := by
  pointwise [k0_pay1]

variable (m : (ℓ : Loc nD τ sig) → Buf (Elt Ideal) ℓ) (c : Dev nD)

theorem ix : ∀ t : Fin cfg0.N, win0_0.index t = ![t.val % 66, 0] ∧ win0_1.index t = ![0, t.val / 66]
    ∧ win0_2.index t = ![t.val % 66, t.val / 66] := (by decide +kernel : ∀ t : Fin grid0.N, _)

/-- Row `p` of row block `i`, and column `n` of column block `j`. -/
abbrev row (t : Fin cfg0.N) (p : Fin 512) : Fin 33792 := ⟨512 * (t.val % 66) + p.val, by omega⟩
abbrev col (t : Fin cfg0.N) (n : Fin 1024) : Fin 6144 := ⟨1024 * (t.val / 66) + n.val, by
  have ht : t.val < 396 := Nat.lt_of_lt_of_eq t.isLt N_0
  omega⟩

theorem V_w (k : Fin 2048) (n : Fin 6144) : (V m c main_v0 : S2048x6144.Idx → EReal) (ix2 k n)
    = (m ((c : Thread nD τ).loc main_arg1) : S2048x6144.Idx → EReal) (ix2 k n) := by
  dsimp only [V, V0, hostOps0, List.flatten_cons, List.flatten_nil, List.append_nil, List.cons_append, List.nil_append]
  after_results
  pointwise

theorem blk_x (t : Fin cfg0.N) (p : Fin 512) (k : Fin 2048) :
    iblk m c 0 t (ix2 p k) = m ((c : Thread nD τ).loc main_arg0) (ix2 (row t p) k) := by
  rw [← V_main_arg0 m c]
  have e : win0_0.index t = ![t.val % 66, 0] := (ix t).1
  blk_ext [iblk, row] <;> rw [e]
  · show t.val % 66 * 512 + p.val = _
    omega
  · show 0 * 2048 + k.val = _
    omega
theorem blk_w (t : Fin cfg0.N) (k : Fin 2048) (n : Fin 1024) :
    iblk m c 1 t (ix2 k n) = V m c main_v0 (ix2 k (col t n)) := by
  have e : win0_1.index t = ![0, t.val / 66] := (ix t).2.1
  blk_ext [iblk, col] <;> rw [e]
  · show 0 * 2048 + k.val = _
    omega
  · show t.val / 66 * 1024 + n.val = _
    omega

/-- A row of the first array times a column of the second. -/
def dot (x : S33792x2048.Idx → EReal) (w : S2048x6144.Idx → EReal) (r : Fin 33792) (n : Fin 6144) : EReal :=
  ∑ k : Fin 2048, x (ix2 r k) * w (ix2 k n)
/-- Every row times every column. -/
def resAt (r : Fin 33792) (n : Fin 6144) : EReal := dot (m ((c : Thread nD τ).loc main_arg0)) (m ((c : Thread nD τ).loc main_arg1)) r n
def res : S33792x6144.Idx → EReal := fun i => resAt m c (i 0) (i 1)

section
variable {F : FTy → Type} [FloatOps F]
theorem ld_r0 {e : EltTy} (x : Vec F S512x2048 e) : View.ld x r0_0 = x := View.ld_unit_zero (S := S512x2048) (funext fun a => by fin_cases a <;> rfl) _ x
theorem ld_r1 {e : EltTy} (x : Vec F S2048x1024 e) : View.ld x r0_1 = x := View.ld_unit_zero (S := S2048x1024) (funext fun a => by fin_cases a <;> rfl) _ x
theorem out2 (x : Vec F S512x2048 .bf16) (w : Vec F S2048x1024 .bf16) : out0_2 x w = k0_pay1 x w := by
  unfold out0_2
  rw [ld_r0, ld_r1]
  exact View.canon_unit_zero (funext fun a => by fin_cases a <;> rfl) _ _
end

theorem arr2 : (dats (F := Ideal) m 0 c).arrAt 2 cfg0.N = res m c := by
  refine (dats m 0 c).arrAt_eq_of_covers 2 _ (by decide +kernel) fun t hf y => ?_
  blk_simp
  rw [after0_2, out2]
  obtain ⟨p, n, rfl⟩ : ∃ (p : Fin 512) (n : Fin 1024), y = ix2 p n := ⟨y 0, y 1, by funext a; fin_cases a <;> rfl⟩
  have e : ((cfg0.win 2).blk t).view.emb (ix2 p n) = (ix2 (row t p) (col t n) : S33792x6144.Idx) := by
    have e' : win0_2.index t = ![t.val % 66, t.val / 66] := (ix t).2.2
    blk_ext [row, col] <;> rw [e']
    · show t.val % 66 * 512 + p.val = _
      omega
    · show t.val / 66 * 1024 + n.val = _
      omega
  rw [e]
  refine (pay1_apply _ _ p n).trans ?_
  show _ = dot _ _ (row t p) (col t n)
  unfold dot
  refine Finset.sum_congr rfl fun k _ => ?_
  rw [blk_x, blk_w]
  exact congrArg (HMul.hMul _) (V_w m c k (col t n))

/-- A prompt's row among its last 512, and a stream's row; a head's column among the keys (`s = 1`) or values (`s = 2`). -/
abbrev rowP (b : Fin 8) (t : Fin 512) : Fin 33792 := ⟨4096 * b.val + 3584 + t.val, by omega⟩
abbrev rowS (b t : Fin 32) : Fin 33792 := ⟨32768 + 32 * b.val + t.val, by omega⟩
abbrev colK (h : Fin 16) (d : Fin 128) : Fin 6144 := ⟨2048 + 128 * h.val + d.val, by omega⟩
abbrev colV (h : Fin 16) (d : Fin 128) : Fin 6144 := ⟨4096 + 128 * h.val + d.val, by omega⟩

/-- The four results. -/
def resKP : S8x512x16x128.Idx → EReal := fun i => resAt m c (rowP (i 0) (i 1)) (colK (i 2) (i 3))
def resVP : S8x512x16x128.Idx → EReal := fun i => resAt m c (rowP (i 0) (i 1)) (colV (i 2) (i 3))
def resKS : S32x32x16x128.Idx → EReal := fun i => resAt m c (rowS (i 0) (i 1)) (colK (i 2) (i 3))
def resVS : S32x32x16x128.Idx → EReal := fun i => resAt m c (rowS (i 0) (i 1)) (colV (i 2) (i 3))

/-- The host's slices of a prompt's rows, and of a stream's. -/
def sliceKP (y : FVec Ideal S33792x6144 .bf16) : FVec Ideal S8x512x16x128 .f32 :=
  extf .f32 (shapeCast S8x512x16x128 (extractStridedSlice S8x512x1x16x128 ![0, 0, 1, 0, 0] (extractStridedSlice S8x512x3x16x128 ![0, 3584, 0, 0, 0]
    (shapeCast S8x4096x3x16x128 (extractStridedSlice S32768x6144 ![0, 0] y slices_S33792x6144_S32768x6144_0_0) shapeCasts_S32768x6144_S8x4096x3x16x128)
    slices_S8x4096x3x16x128_S8x512x3x16x128_0_3584_0_0_0) slices_S8x512x3x16x128_S8x512x1x16x128_0_0_1_0_0) shapeCasts_S8x512x1x16x128_S8x512x16x128) bitsLt_bf16_f32
def sliceVP (y : FVec Ideal S33792x6144 .bf16) : FVec Ideal S8x512x16x128 .f32 :=
  extf .f32 (shapeCast S8x512x16x128 (extractStridedSlice S8x512x1x16x128 ![0, 0, 2, 0, 0] (extractStridedSlice S8x512x3x16x128 ![0, 3584, 0, 0, 0]
    (shapeCast S8x4096x3x16x128 (extractStridedSlice S32768x6144 ![0, 0] y slices_S33792x6144_S32768x6144_0_0) shapeCasts_S32768x6144_S8x4096x3x16x128)
    slices_S8x4096x3x16x128_S8x512x3x16x128_0_3584_0_0_0) slices_S8x512x3x16x128_S8x512x1x16x128_0_0_2_0_0) shapeCasts_S8x512x1x16x128_S8x512x16x128) bitsLt_bf16_f32
def sliceKS (y : FVec Ideal S33792x6144 .bf16) : FVec Ideal S32x32x16x128 .f32 :=
  extf .f32 (shapeCast S32x32x16x128 (shapeCast S32x32x2048 (extractStridedSlice S1024x2048 ![0, 2048]
    (extractStridedSlice S1024x6144 ![32768, 0] y slices_S33792x6144_S1024x6144_32768_0) slices_S1024x6144_S1024x2048_0_2048)
    shapeCasts_S1024x2048_S32x32x2048) shapeCasts_S32x32x2048_S32x32x16x128) bitsLt_bf16_f32
def sliceVS (y : FVec Ideal S33792x6144 .bf16) : FVec Ideal S32x32x16x128 .f32 :=
  extf .f32 (shapeCast S32x32x16x128 (shapeCast S32x32x2048 (extractStridedSlice S1024x2048 ![0, 4096]
    (extractStridedSlice S1024x6144 ![32768, 0] y slices_S33792x6144_S1024x6144_32768_0) slices_S1024x6144_S1024x2048_0_4096)
    shapeCasts_S1024x2048_S32x32x2048) shapeCasts_S32x32x2048_S32x32x16x128) bitsLt_bf16_f32

theorem sliceKP_apply (y : FVec Ideal S33792x6144 .bf16) (b : Fin 8) (t : Fin 512) (h : Fin 16) (d : Fin 128) :
    sliceKP y (ix4 b t h d) = y (ix2 (rowP b t) (colK h d)) := by
  pointwise [sliceKP]
  refine congrArg y (funext fun a => ?_)
  match a with
  | ⟨0, _⟩ => exact Fin.ext (by simp [rowP]; omega)
  | ⟨1, _⟩ => exact Fin.ext (by simp [colK]; omega)
theorem sliceVP_apply (y : FVec Ideal S33792x6144 .bf16) (b : Fin 8) (t : Fin 512) (h : Fin 16) (d : Fin 128) :
    sliceVP y (ix4 b t h d) = y (ix2 (rowP b t) (colV h d)) := by
  pointwise [sliceVP]
  refine congrArg y (funext fun a => ?_)
  match a with
  | ⟨0, _⟩ => exact Fin.ext (by simp [rowP]; omega)
  | ⟨1, _⟩ => exact Fin.ext (by simp [colV]; omega)
theorem sliceKS_apply (y : FVec Ideal S33792x6144 .bf16) (b : Fin 32) (t : Fin 32) (h : Fin 16) (d : Fin 128) :
    sliceKS y (ix4 b t h d) = y (ix2 (rowS b t) (colK h d)) := by
  pointwise [sliceKS]
  refine congrArg y (funext fun a => ?_)
  match a with
  | ⟨0, _⟩ => exact Fin.ext (by simp [rowS]; omega)
  | ⟨1, _⟩ => exact Fin.ext (by simp [colK]; omega)
theorem sliceVS_apply (y : FVec Ideal S33792x6144 .bf16) (b : Fin 32) (t : Fin 32) (h : Fin 16) (d : Fin 128) :
    sliceVS y (ix4 b t h d) = y (ix2 (rowS b t) (colV h d)) := by
  pointwise [sliceVS]
  refine congrArg y (funext fun a => ?_)
  match a with
  | ⟨0, _⟩ => exact Fin.ext (by simp [rowS]; omega)
  | ⟨1, _⟩ => exact Fin.ext (by simp [colV]; omega)

theorem withArr : Pipeline.withArrays (cfgs 0).spec c (V0 m c) (fun w => (dats m 0 c).arrAt w (cfgs 0).N) (Proc.tc.devRef main_v1) = res m c :=
  (Pipeline.withArrays_arr_shared (cfgs 0).spec c (V0 m c) (fun w => (dats m 0 c).arrAt w (cfgs 0).N)
    ((dats m 0 c).arrAt_sharedIn (by decide) (V0 m c) (fun w => A_eq m c w) _) 2).trans (arr2 m c)

theorem tailKP : Pipeline.afterTail₀ cfgs (dats m) 0 (V0 m) [hostOps1] c main_v12 = resKP m c := by
  unfold Pipeline.afterTail₀
  dsimp only [hostOps1, List.flatten_cons, List.flatten_nil, List.append_nil, List.cons_append, List.nil_append]
  after_results
  rw [withArr m c]
  funext i
  obtain ⟨b, t, h, d, rfl⟩ : ∃ (b : Fin 8) (t : Fin 512) (h : Fin 16) (d : Fin 128), i = ix4 b t h d :=
    ⟨i 0, i 1, i 2, i 3, by funext a; fin_cases a <;> rfl⟩
  exact sliceKP_apply (res m c) b t h d
theorem tailVP : Pipeline.afterTail₀ cfgs (dats m) 0 (V0 m) [hostOps1] c main_v15 = resVP m c := by
  unfold Pipeline.afterTail₀
  dsimp only [hostOps1, List.flatten_cons, List.flatten_nil, List.append_nil, List.cons_append, List.nil_append]
  after_results
  rw [withArr m c]
  funext i
  obtain ⟨b, t, h, d, rfl⟩ : ∃ (b : Fin 8) (t : Fin 512) (h : Fin 16) (d : Fin 128), i = ix4 b t h d :=
    ⟨i 0, i 1, i 2, i 3, by funext a; fin_cases a <;> rfl⟩
  exact sliceVP_apply (res m c) b t h d
theorem tailKS : Pipeline.afterTail₀ cfgs (dats m) 0 (V0 m) [hostOps1] c main_v17 = resKS m c := by
  unfold Pipeline.afterTail₀
  dsimp only [hostOps1, List.flatten_cons, List.flatten_nil, List.append_nil, List.cons_append, List.nil_append]
  after_results
  rw [withArr m c]
  funext i
  obtain ⟨b, t, h, d, rfl⟩ : ∃ (b : Fin 32) (t : Fin 32) (h : Fin 16) (d : Fin 128), i = ix4 b t h d :=
    ⟨i 0, i 1, i 2, i 3, by funext a; fin_cases a <;> rfl⟩
  exact sliceKS_apply (res m c) b t h d
theorem tailVS : Pipeline.afterTail₀ cfgs (dats m) 0 (V0 m) [hostOps1] c main_v19 = resVS m c := by
  unfold Pipeline.afterTail₀
  dsimp only [hostOps1, List.flatten_cons, List.flatten_nil, List.append_nil, List.cons_append, List.nil_append]
  after_results
  rw [withArr m c]
  funext i
  obtain ⟨b, t, h, d, rfl⟩ : ∃ (b : Fin 32) (t : Fin 32) (h : Fin 16) (d : Fin 128), i = ix4 b t h d :=
    ⟨i 0, i 1, i 2, i 3, by funext a; fin_cases a <;> rfl⟩
  exact sliceVS_apply (res m c) b t h d

theorem run (g : Dev nD → PrngReg) : θ_run defs (onTc (τ := τ) (main (F := Ideal))) ⟨m, fun _ => 0, g⟩ (fun r => ∀ c : Dev nD,
      r.2.mem ((c.tc : Thread nD τ).loc main_v12) = resKP m c
      ∧ r.2.mem ((c.tc : Thread nD τ).loc main_v15) = resVP m c
      ∧ r.2.mem ((c.tc : Thread nD τ).loc main_v17) = resKS m c
      ∧ r.2.mem ((c.tc : Thread nD τ).loc main_v19) = resVS m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from run_main m g & unchanged m g
  · exact tailKP m c
  · exact tailVP m c
  · exact tailKS m c
  · exact tailVS m c

end Cert.AttnRowsIdeal.Hand

end
-- ==== Proof.AttnRows.Claim.lean ====
/- The claims about the attention layers' keys and values. -/
module

public import proofs.«01_k».proof.Defs
public import proofs.«01_k».proof.Proof.AttnRows.Value
public import proofs.«01_k».proof.Proof.Gen.AttnRows
public import proofs.«01_k».proof.Proof.Gen.AttnRowsReferenceIdeal.Run
public import proofs.«01_k».proof.Proof.Gen.AttnRowsReferenceIdeal.Read
public import Idealize.ShloMosaic.Lib.Claim

@[expose] public section

noncomputable section

namespace Cert.AttnRowsReferenceIdeal.Hand

open Idealize Idealize.ShloMosaic Idealize.SL.Sem
open Cert.AttnRowsReferenceIdeal Cert.AttnRowsReferenceIdeal.Read
open Cert.AttnRowsIdeal.Hand (dot rowP rowS colK colV)

variable (x0 : (⟨S33792x2048, .bf16⟩ : BufTy).Contents (Elt Ideal)) (x1 : (⟨S2048x6144, .f32⟩ : BufTy).Contents (Elt Ideal))

/-- An element of the prompts' product. -/
theorem prod_P (i : S8x4096x6144.Idx) (r : Fin 33792) (n : Fin 6144) (hr : r.val = 4096 * (i 0).val + (i 1).val) (hn : n.val = (i 2).val) :
    (val_main_v3 (F := Ideal) x0 x1 i : EReal) = dot x0 x1 r n := by
  rw [val_main_v3_apply]
  unfold dot
  refine Finset.sum_congr rfl fun (k : Fin 2048) _ => ?_
  rw [val_main_v2_apply, val_main_v1_apply, val_main_v0_apply]
  have hk : k.val < 2048 := k.isLt
  have h0 : (i 0).val < 8 := (i 0).isLt
  have h1 : (i 1).val < 4096 := (i 1).isLt
  refine congr (congrArg HMul.hMul ?_) ?_
  · show x0 _ = x0 _
    refine congrArg x0 (funext fun a => ?_)
    match a with
    | ⟨0, _⟩ => exact Fin.ext (by show (((i 0).val * 4096 + (i 1).val) * 2048 + k.val) / 2048 = r.val; omega)
    | ⟨1, _⟩ => exact Fin.ext (by show (((i 0).val * 4096 + (i 1).val) * 2048 + k.val) % 2048 = k.val; omega)
  · refine congrArg x1 (funext fun a => ?_)
    match a with
    | ⟨0, _⟩ => rfl
    | ⟨1, _⟩ => exact Fin.ext hn.symm

/-- An element of the streams' product. -/
theorem prod_S (i : S32x32x6144.Idx) (r : Fin 33792) (n : Fin 6144) (hr : r.val = 32768 + 32 * (i 0).val + (i 1).val) (hn : n.val = (i 2).val) :
    (val_main_v13 (F := Ideal) x0 x1 i : EReal) = dot x0 x1 r n := by
  rw [val_main_v13_apply]
  unfold dot
  refine Finset.sum_congr rfl fun (k : Fin 2048) _ => ?_
  rw [val_main_v12_apply, val_main_v11_apply, val_main_v0_apply]
  have hk : k.val < 2048 := k.isLt
  have h0 : (i 0).val < 32 := (i 0).isLt
  have h1 : (i 1).val < 32 := (i 1).isLt
  refine congr (congrArg HMul.hMul ?_) ?_
  · show x0 _ = x0 _
    refine congrArg x0 (funext fun a => ?_)
    match a with
    | ⟨0, _⟩ => exact Fin.ext (by show 32768 + (((i 0).val * 32 + (i 1).val) * 2048 + k.val) / 2048 = r.val; omega)
    | ⟨1, _⟩ => exact Fin.ext (by show (((i 0).val * 32 + (i 1).val) * 2048 + k.val) % 2048 = k.val; omega)
  · refine congrArg x1 (funext fun a => ?_)
    match a with
    | ⟨0, _⟩ => rfl
    | ⟨1, _⟩ => exact Fin.ext hn.symm

theorem at_KP (b : Fin 8) (t : Fin 512) (h : Fin 16) (d : Fin 128) :
    (val_main_v21 (F := Ideal) x0 x1 (ix4 b t h d) : EReal) = dot x0 x1 (rowP b t) (colK h d) := by
  rw [val_main_v21_apply, val_main_v8_apply, val_main_v7_apply, val_main_v4_apply]
  have hb : b.val < 8 := b.isLt
  have ht : t.val < 512 := t.isLt
  have hh : h.val < 16 := h.isLt
  have hd : d.val < 128 := d.isLt
  refine prod_P x0 x1 _ _ _ ?_ ?_
  · dsimp [rowP, rowS, colK, colV]; omega
  · dsimp [rowP, rowS, colK, colV]; omega
theorem at_VP (b : Fin 8) (t : Fin 512) (h : Fin 16) (d : Fin 128) :
    (val_main_v22 (F := Ideal) x0 x1 (ix4 b t h d) : EReal) = dot x0 x1 (rowP b t) (colV h d) := by
  rw [val_main_v22_apply, val_main_v10_apply, val_main_v9_apply, val_main_v4_apply]
  have hb : b.val < 8 := b.isLt
  have ht : t.val < 512 := t.isLt
  have hh : h.val < 16 := h.isLt
  have hd : d.val < 128 := d.isLt
  refine prod_P x0 x1 _ _ _ ?_ ?_
  · dsimp [rowP, rowS, colK, colV]; omega
  · dsimp [rowP, rowS, colK, colV]; omega
theorem at_KS (b : Fin 32) (t : Fin 32) (h : Fin 16) (d : Fin 128) :
    (val_main_v18 (F := Ideal) x0 x1 (ix4 b t h d) : EReal) = dot x0 x1 (rowS b t) (colK h d) := by
  rw [val_main_v18_apply, val_main_v17_apply, val_main_v14_apply]
  have hb : b.val < 32 := b.isLt
  have ht : t.val < 32 := t.isLt
  have hh : h.val < 16 := h.isLt
  have hd : d.val < 128 := d.isLt
  refine prod_S x0 x1 _ _ _ ?_ ?_
  · dsimp [rowP, rowS, colK, colV]; omega
  · dsimp [rowP, rowS, colK, colV]; omega
theorem at_VS (b : Fin 32) (t : Fin 32) (h : Fin 16) (d : Fin 128) :
    (val_main_v20 (F := Ideal) x0 x1 (ix4 b t h d) : EReal) = dot x0 x1 (rowS b t) (colV h d) := by
  rw [val_main_v20_apply, val_main_v19_apply, val_main_v14_apply]
  have hb : b.val < 32 := b.isLt
  have ht : t.val < 32 := t.isLt
  have hh : h.val < 16 := h.isLt
  have hd : d.val < 128 := d.isLt
  refine prod_S x0 x1 _ _ _ ?_ ?_
  · dsimp [rowP, rowS, colK, colV]; omega
  · dsimp [rowP, rowS, colK, colV]; omega

end Cert.AttnRowsReferenceIdeal.Hand

namespace Cert.Proof

open Idealize Idealize.ShloMosaic Idealize.SL.Sem

/-- The program as printed has the same text: its body table is the same one. -/
theorem attnRows_defs₀ : Cert.AttnRows.defs₀ (F := Bits) = Cert.AttnRowsIdeal.defs₀ (F := Bits) := by
  unfold Cert.AttnRows.defs₀ Cert.AttnRowsIdeal.defs₀
  refine congrArg Defs.onTc ?_
  funext l a
  match l, a with
  | ⟨0, _⟩, (t, s) => rfl

theorem attnRows_defs : Cert.AttnRows.defs (F := Bits) = Cert.AttnRowsIdeal.defs (F := Bits) :=
  congrArg (Pipeline.defs _) attnRows_defs₀

/-- So its run is the same one, at the machine's floats. -/
theorem frame_attnRows : Cert.quiescent_AttnRows := fun m ρ _ => by
  rw [attnRows_defs]
  exact Cert.AttnRowsIdeal.Gen.frame (F := Bits) m ρ

theorem frame_attnRowsIdeal : Cert.quiescent_AttnRowsIdeal := fun m ρ _ => Cert.AttnRowsIdeal.Gen.frame m ρ

theorem frame_attnRowsReference : Cert.quiescent_AttnRowsReferenceIdeal := fun m ρ _ =>
  (θ_run Cert.AttnRowsReferenceIdeal.defs _ _).mono (fun r h => ⟨fun c => (h c).2.2.2.2,
      Idealize.ShloMosaic.sem_eq_zero_of_no_sems (by decide) r.2⟩)
    (Cert.AttnRowsReferenceIdeal.Value.run (F := Ideal) m ρ)

theorem algebraic_attnRows : Cert.algebraic_AttnRowsIdeal_AttnRowsReferenceIdeal := by
  intro m g m' g' _ hagree
  refine ⟨Cert.AttnRowsIdeal.Hand.resKP m, Cert.AttnRowsIdeal.Hand.resVP m, Cert.AttnRowsIdeal.Hand.resKS m, Cert.AttnRowsIdeal.Hand.resVS m,
    Cert.AttnRowsIdeal.Hand.run m g, ?_⟩
  refine (θ_run Cert.AttnRowsReferenceIdeal.defs _ _).mono (fun r h c => ?_) (Cert.AttnRowsReferenceIdeal.Value.run (F := Ideal) m' g')
  obtain ⟨h0, h1⟩ := hagree c
  obtain ⟨r0, r1, r2, r3, ra⟩ := h c
  refine ⟨r0.trans ?_, r1.trans ?_, r2.trans ?_, r3.trans ?_, ra⟩
  · refine (Cert.AttnRowsReferenceIdeal.Read.val_main_v21_eq (F := Ideal) _ _).trans ?_
    rw [h0, h1]
    funext i
    obtain ⟨b, t, h, d, rfl⟩ : ∃ (b : Fin 8) (t : Fin 512) (h : Fin 16) (d : Fin 128), i = ix4 b t h d :=
      ⟨i 0, i 1, i 2, i 3, by funext a; match a with | ⟨0, _⟩ => rfl | ⟨1, _⟩ => rfl | ⟨2, _⟩ => rfl | ⟨3, _⟩ => rfl⟩
    exact Cert.AttnRowsReferenceIdeal.Hand.at_KP _ _ b t h d
  · refine (Cert.AttnRowsReferenceIdeal.Read.val_main_v22_eq (F := Ideal) _ _).trans ?_
    rw [h0, h1]
    funext i
    obtain ⟨b, t, h, d, rfl⟩ : ∃ (b : Fin 8) (t : Fin 512) (h : Fin 16) (d : Fin 128), i = ix4 b t h d :=
      ⟨i 0, i 1, i 2, i 3, by funext a; match a with | ⟨0, _⟩ => rfl | ⟨1, _⟩ => rfl | ⟨2, _⟩ => rfl | ⟨3, _⟩ => rfl⟩
    exact Cert.AttnRowsReferenceIdeal.Hand.at_VP _ _ b t h d
  · refine (Cert.AttnRowsReferenceIdeal.Read.val_main_v18_eq (F := Ideal) _ _).trans ?_
    rw [h0, h1]
    funext i
    obtain ⟨b, t, h, d, rfl⟩ : ∃ (b : Fin 32) (t : Fin 32) (h : Fin 16) (d : Fin 128), i = ix4 b t h d :=
      ⟨i 0, i 1, i 2, i 3, by funext a; match a with | ⟨0, _⟩ => rfl | ⟨1, _⟩ => rfl | ⟨2, _⟩ => rfl | ⟨3, _⟩ => rfl⟩
    exact Cert.AttnRowsReferenceIdeal.Hand.at_KS _ _ b t h d
  · refine (Cert.AttnRowsReferenceIdeal.Read.val_main_v20_eq (F := Ideal) _ _).trans ?_
    rw [h0, h1]
    funext i
    obtain ⟨b, t, h, d, rfl⟩ : ∃ (b : Fin 32) (t : Fin 32) (h : Fin 16) (d : Fin 128), i = ix4 b t h d :=
      ⟨i 0, i 1, i 2, i 3, by funext a; match a with | ⟨0, _⟩ => rfl | ⟨1, _⟩ => rfl | ⟨2, _⟩ => rfl | ⟨3, _⟩ => rfl⟩
    exact Cert.AttnRowsReferenceIdeal.Hand.at_VS _ _ b t h d

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Read
public import proofs.«01_k».proof.Proof.Gen.ReferenceIdeal.Run
public import proofs.«01_k».proof.Proof.Mlstm.Claim
public import proofs.«01_k».proof.Proof.Experts.Claim
public import proofs.«01_k».proof.Proof.Project.Claim
public import proofs.«01_k».proof.Proof.ProjectQkv.Claim
public import proofs.«01_k».proof.Proof.MixerOut.Claim
public import proofs.«01_k».proof.Proof.LayerOut.Claim
public import proofs.«01_k».proof.Proof.AttnRows.Claim
public import Idealize.ShloMosaic.Adequacy
public import Idealize.ShloMosaic.Init

@[expose] public section

noncomputable section

namespace Cert.Proof

open Idealize.ShloMosaic Idealize.SL.Sem Cert.Kernel

/-- The kernel runs to its end and leaves its arguments and semaphores. -/
theorem frame_kernel : Cert.quiescent_Kernel := fun m ρ _ => Cert.Kernel.Gen.frame m ρ
theorem frame_ideal : Cert.quiescent_KernelIdeal := fun m ρ _ => Cert.KernelIdeal.Gen.frame m ρ
theorem frame_reference : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The gate's cap is `15`, so its reciprocal is named by its exact value. -/
theorem preserves : Cert.preserves_Kernel_KernelIdeal :=
  IdealRules.named_const.statement Cert.KernelIdeal.κ "inv_cap" .f32 0x3D888889#32 ((1 / 15 : ℝ) : EReal) rfl

theorem claim : Cert.Claim := ⟨Cert.Kernel.Gen.facts, Cert.KernelIdeal.Gen.facts, Cert.ReferenceIdeal.Gen.facts,
  Cert.Experts.Gen.facts, Cert.ExpertsIdeal.Gen.facts, Cert.ExpertsReferenceIdeal.Gen.facts,
  Cert.Project.Gen.facts, Cert.ProjectIdeal.Gen.facts, Cert.ProjectReferenceIdeal.Gen.facts,
  Cert.ProjectQkv.Gen.facts, Cert.ProjectQkvIdeal.Gen.facts, Cert.ProjectQkvReferenceIdeal.Gen.facts,
  Cert.MixerOut.Gen.facts, Cert.MixerOutIdeal.Gen.facts, Cert.MixerOutReferenceIdeal.Gen.facts,
  Cert.LayerOut.Gen.facts, Cert.LayerOutIdeal.Gen.facts, Cert.LayerOutReferenceIdeal.Gen.facts,
  Cert.AttnRows.Gen.facts, Cert.AttnRowsIdeal.Gen.facts, Cert.AttnRowsReferenceIdeal.Gen.facts, Cert.Pre_tiles_name_two_experts.Gen.facts,
  frame_kernel, frame_ideal, frame_reference, frame_experts, frame_expertsIdeal, frame_expertsReference, frame_expertsReference_pre,
  frame_project, frame_projectIdeal, frame_projectReference,
  frame_projectQkv, frame_projectQkvIdeal, frame_projectQkvReference,
  frame_mixerOut, frame_mixerOutIdeal, frame_mixerOutReference,
  frame_layerOut, frame_layerOutIdeal, frame_layerOutReference,
  frame_attnRows, frame_attnRowsIdeal, frame_attnRowsReference,
  preserves, algebraic, trivial, algebraic_experts, trivial, algebraic_project, trivial, algebraic_projectQkv, trivial, algebraic_mixerOut, trivial, algebraic_layerOut, trivial, algebraic_attnRows⟩

end Cert.Proof

end
